-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "s" .bf16 0x3DB5#16 ((11863283 / 134217728 : ℝ) : EReal)
  ∧ IdealRules.named_const.Statement Cert.KernelIdeal.κ "mask" .bf16 0xCE6E#16 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 2048, 32, 128]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 2048, 32, 128]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x2048x1024 : Shape := ⟨3, ![1, 2048, 1024]⟩
abbrev S1024x4096 : Shape := ⟨2, ![1024, 4096]⟩
abbrev S1x2048x8x128 : Shape := ⟨4, ![1, 2048, 8, 128]⟩
abbrev S4096x1024 : Shape := ⟨2, ![4096, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x2048x8x128 : S_.BroadcastsInDim S1x2048x8x128 (![] : Fin 0 → Fin S1x2048x8x128.rank)
  reducesTo_S1x2048x8x128_S_d0_1_2_3 : S1x2048x8x128.ReducesTo [0, 1, 2, 3] S_

variable [Facts]

def fn {F : FTy → Type} [FloatOps F] (main_arg0 : FVec F S1x2048x1024 .f32) (main_arg1 : FVec F S1024x4096 .f32) (main_arg2 : FVec F S1x2048x8x128 .f32) (main_arg3 : FVec F S1x2048x8x128 .f32) (main_arg4 : FVec F S4096x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x2048x8x128 .f32 := Host.absf main_arg2
  let main_cst_2 : FVec F S_ .f32 := constant S_ .f32 0x7F800000#32
  let main_v10 : FVec F S1x2048x8x128 .f32 := broadcastInDim S1x2048x8x128 ![] bcast_S_S1x2048x8x128 main_cst_2
  let main_v11 : IVec S1x2048x8x128 1 := cmpf .olt main_v9 main_v10
  let main_c_3 : IVec S_ 1 := constantI S_ 1 1#1
  let main_v12 : IVec S_ 1 := (fun x v => Host.reduce IntOp.andi x v reducesTo_S1x2048x8x128_S_d0_1_2_3 h_S_) main_v11 main_c_3
  let main_v13 : IVec S_ 1 := andi main_v8 main_v12
  main_v13
-- ==== Pre_finite_scores_ReferenceIdeal.lean ====
abbrev S1x2048x1024 : Shape := ⟨3, ![1, 2048, 1024]⟩
abbrev S1024x4096 : Shape := ⟨2, ![1024, 4096]⟩
abbrev S1x2048x32x128 : Shape := ⟨4, ![1, 2048, 32, 128]⟩
abbrev S4096x1024 : Shape := ⟨2, ![4096, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x2048x32x128 : S_.BroadcastsInDim S1x2048x32x128 (![] : Fin 0 → Fin S1x2048x32x128.rank)
  reducesTo_S1x2048x32x128_S_d0_1_2_3 : S1x2048x32x128.ReducesTo [0, 1, 2, 3] S_

variable [Facts]

def fn {F : FTy → Type} [FloatOps F] (main_arg0 : FVec F S1x2048x1024 .f32) (main_arg1 : FVec F S1024x4096 .f32) (main_arg2 : FVec F S1x2048x32x128 .f32) (main_arg3 : FVec F S1x2048x32x128 .f32) (main_arg4 : FVec F S4096x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x2048x32x128 .f32 := Host.absf main_arg2
  let main_cst_2 : FVec F S_ .f32 := constant S_ .f32 0x7F800000#32
  let main_v10 : FVec F S1x2048x32x128 .f32 := broadcastInDim S1x2048x32x128 ![] bcast_S_S1x2048x32x128 main_cst_2
  let main_v11 : IVec S1x2048x32x128 1 := cmpf .olt main_v9 main_v10
  let main_c_3 : IVec S_ 1 := constantI S_ 1 1#1
  let main_v12 : IVec S_ 1 := (fun x v => Host.reduce IntOp.andi x v reducesTo_S1x2048x32x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x4096 : Shape := ⟨2, ![1024, 4096]⟩
abbrev S1x2048x8x128 : Shape := ⟨4, ![1, 2048, 8, 128]⟩
abbrev S4096x1024 : Shape := ⟨2, ![4096, 1024]⟩
abbrev S_ : Shape := ⟨0, ![]⟩
abbrev S1024x1024 : Shape := ⟨2, ![1024, 1024]⟩
abbrev S2048x1024 : Shape := ⟨2, ![2048, 1024]⟩
abbrev S2048x8x128 : Shape := ⟨3, ![2048, 8, 128]⟩
abbrev S8x2048x128 : Shape := ⟨3, ![8, 2048, 128]⟩
abbrev S8x128x1024 : Shape := ⟨3, ![8, 128, 1024]⟩
abbrev S3x512x512 : Shape := ⟨3, ![3, 512, 512]⟩
abbrev S12 : Shape := ⟨1, ![12]⟩
abbrev S256x512 : Shape := ⟨2, ![256, 512]⟩
abbrev S256x128 : Shape := ⟨2, ![256, 128]⟩
abbrev S256x1024 : Shape := ⟨2, ![256, 1024]⟩
abbrev S1x256x128 : Shape := ⟨3, ![1, 256, 128]⟩
abbrev S1x512x128 : Shape := ⟨3, ![1, 512, 128]⟩
abbrev S512x128 : Shape := ⟨2, ![512, 128]⟩
abbrev S1x128x128 : Shape := ⟨3, ![1, 128, 128]⟩
abbrev S128x128 : Shape := ⟨2, ![128, 128]⟩
abbrev S256 : Shape := ⟨1, ![256]⟩
abbrev S256x1 : Shape := ⟨2, ![256, 1]⟩
abbrev S1x128x1024 : Shape := ⟨3, ![1, 128, 1024]⟩
abbrev S128x1024 : Shape := ⟨2, ![128, 1024]⟩
abbrev S32x1024 : Shape := ⟨2, ![32, 1024]⟩
abbrev S1x32x128 : Shape := ⟨3, ![1, 32, 128]⟩
abbrev S32x128 : Shape := ⟨2, ![32, 128]⟩
abbrev S1x2048x128 : Shape := ⟨3, ![1, 2048, 128]⟩
abbrev S2048x128 : Shape := ⟨2, ![2048, 128]⟩
abbrev S32x2048 : Shape := ⟨2, ![32, 2048]⟩
abbrev S32 : Shape := ⟨1, ![32]⟩
abbrev S32x1 : Shape := ⟨2, ![32, 1]⟩
abbrev S1 : Shape := ⟨1, ![1]⟩
abbrev S1x512x512 : Shape := ⟨3, ![1, 512, 512]⟩
abbrev S512x512 : Shape := ⟨2, ![512, 512]⟩

abbrev nBuf : Space → Nat
  | .hbm => 46
  | .vmem => 8
  | .smem => 0
  | _ => 0

abbrev bufTy : (tb : Table) → Fin (tcTables nBuf tb) → BufTy
  | .hbm, ⟨0, _⟩ => ⟨S1x2048x1024, .f32⟩
  | .hbm, ⟨1, _⟩ => ⟨S1024x4096, .f32⟩
  | .hbm, ⟨2, _⟩ => ⟨S1x2048x8x128, .f32⟩
  | .hbm, ⟨3, _⟩ => ⟨S1x2048x8x128, .f32⟩
  | .hbm, ⟨4, _⟩ => ⟨S4096x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1024x1024, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1024x1024, .f32⟩
  | .hbm, ⟨29, _⟩ => ⟨S2048x1024, .f32⟩
  | .hbm, ⟨30, _⟩ => ⟨S2048x1024, .bf16⟩
  | .hbm, ⟨31, _⟩ => ⟨S1024x1024, .bf16⟩
  | .hbm, ⟨32, _⟩ => ⟨S2048x1024, .f32⟩
  | .hbm, ⟨33, _⟩ => ⟨S2048x1024, .bf16⟩
  | .hbm, ⟨34, _⟩ => ⟨S2048x8x128, .bf16⟩
  | .hbm, ⟨35, _⟩ => ⟨S8x2048x128, .bf16⟩
  | .hbm, ⟨36, _⟩ => ⟨S2048x8x128, .f32⟩
  | .hbm, ⟨37, _⟩ => ⟨S2048x8x128, .bf16⟩
  | .hbm, ⟨38, _⟩ => ⟨S8x2048x128, .bf16⟩
  | .hbm, ⟨39, _⟩ => ⟨S2048x8x128, .f32⟩
  | .hbm, ⟨40, _⟩ => ⟨S2048x8x128, .bf16⟩
  | .hbm, ⟨41, _⟩ => ⟨S8x2048x128, .bf16⟩
  | .hbm, ⟨42, _⟩ => ⟨S1024x1024, .bf16⟩
  | .hbm, ⟨43, _⟩ => ⟨S8x128x1024, .bf16⟩
  | .hbm, ⟨44, _⟩ => ⟨S2048x1024, .f32⟩
  | .hbm, ⟨45, _⟩ => ⟨S1x2048x1024, .f32⟩
  | .local _ .vmem, ⟨0, _⟩ => ⟨S8x2048x128, .bf16⟩
  | .local _ .vmem, ⟨1, _⟩ => ⟨S8x2048x128, .bf16⟩
  | .local _ .vmem, ⟨2, _⟩ => ⟨S8x2048x128, .bf16⟩
  | .local _ .vmem, ⟨3, _⟩ => ⟨S8x128x1024, .bf16⟩
  | .local _ .vmem, ⟨4, _⟩ => ⟨S2048x1024, .f32⟩
  | .local _ .vmem, ⟨5, _⟩ => ⟨S2048x1024, .bf16⟩
  | .local _ .vmem, ⟨6, _⟩ => ⟨S3x512x512, .bf16⟩
  | .local _ .vmem, ⟨7, _⟩ => ⟨S3x512x512, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
@[reducible] def k0_t1_loop : Scf.Loop 32 :=
  let c0_i32_19 : BitVec 32 := 0#32
  let c8_i32 : BitVec 32 := 8#32
  let v43 : BitVec 32 := Scalar.addi c0_i32_19 c8_i32
  let c1_i32_20 : BitVec 32 := 1#32
  ⟨c0_i32_19, v43, c1_i32_20⟩
def k0_off1 (d0 : Dev nD) (k0_t1 : Fin k0_t1_loop.trips) : Fin 3 → Nat :=
  let c0_i32_19 : BitVec 32 := 0#32
  let c1_i32_20 : BitVec 32 := 1#32
  let arg10 : BitVec 32 := Scf.iv c0_i32_19 c1_i32_20 k0_t1
  let v703 : Index := Scalar.indexCast arg10
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_10 : BitVec 32 := 2#32
  let v16 : BitVec 32 := Scalar.muli v2 c2_i32_10
  let c0_i32_11 : BitVec 32 := 0#32
  let v17 : BitVec 32 := Scalar.addi v16 c0_i32_11
  let c256_i32 : BitVec 32 := 256#32
  let v18 : BitVec 32 := Scalar.muli v17 c256_i32
  let v704 : Index := Scalar.indexCast v18
  let c0_538 : Index := 0#32
  ![v703.toNat, v704.toNat, 0]
def k0_off2 (d0 : Dev nD) (k0_t1 : Fin k0_t1_loop.trips) : Fin 3 → Nat :=
  let c0_i32_19 : BitVec 32 := 0#32
  let c1_i32_20 : BitVec 32 := 1#32
  let arg10 : BitVec 32 := Scf.iv c0_i32_19 c1_i32_20 k0_t1
  let v709 : Index := Scalar.indexCast arg10
  let c12_i32 : BitVec 32 := 12#32
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_10 : BitVec 32 := 2#32
  let v16 : BitVec 32 := Scalar.muli v2 c2_i32_10
  let c0_i32_11 : BitVec 32 := 0#32
  let v17 : BitVec 32 := Scalar.addi v16 c0_i32_11
  let c2_i32_12 : BitVec 32 := 2#32
  let v19 : BitVec 32 := Scalar.muli v17 c2_i32_12
  let c1_i32_13 : BitVec 32 := 1#32
  let v20 : BitVec 32 := Scalar.subi v19 c1_i32_13
  let v21 : BitVec 32 := Scalar.maxsi c0_i32_14 v20
  let v22 : BitVec 32 := Scalar.minsi c12_i32 v21
  let c128_i32 : BitVec 32 := 128#32
  let v23 : BitVec 32 := Scalar.muli v22 c128_i32
  let v710 : Index := Scalar.indexCast v23
  let c0_540 : Index := 0#32
  ![v709.toNat, v710.toNat, 0]
def k0_off3 (k0_t1 : Fin k0_t1_loop.trips) : Fin 3 → Nat :=
  let c0_i32_19 : BitVec 32 := 0#32
  let c1_i32_20 : BitVec 32 := 1#32
  let arg10 : BitVec 32 := Scf.iv c0_i32_19 c1_i32_20 k0_t1
  let v718 : Index := Scalar.indexCast arg10
  let c0_543 : Index := 0#32
  let c0_544 : Index := 0#32
  ![v718.toNat, 0, 0]
def k0_off4 (k0_t1 : Fin k0_t1_loop.trips) : Fin 3 → Nat :=
  let c0_i32_19 : BitVec 32 := 0#32
  let c1_i32_20 : BitVec 32 := 1#32
  let arg10 : BitVec 32 := Scf.iv c0_i32_19 c1_i32_20 k0_t1
  let v746 : Index := Scalar.indexCast arg10
  let c0_554 : Index := 0#32
  let c0_555 : Index := 0#32
  ![v746.toNat, 0, 0]
def k0_off5 (d0 : Dev nD) (c0_i32_11 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_10 : BitVec 32 := 2#32
  let v16 : BitVec 32 := Scalar.muli v2 c2_i32_10
  let v17 : BitVec 32 := Scalar.addi v16 c0_i32_11
  let c256_i32 : BitVec 32 := 256#32
  let v18 : BitVec 32 := Scalar.muli v17 c256_i32
  let v46 : Index := Scalar.indexCast v18
  let c0 : Index := 0#32
  ![v46.toNat, 0]
@[reducible] def k0_t2_loop : Scf.Loop 32 :=
  let c0_i32_36 : BitVec 32 := 0#32
  let c8_i32_37 : BitVec 32 := 8#32
  let v77 : BitVec 32 := Scalar.addi c0_i32_36 c8_i32_37
  let c1_i32_38 : BitVec 32 := 1#32
  ⟨c0_i32_36, v77, c1_i32_38⟩
def k0_off6 (d0 : Dev nD) (k0_t2 : Fin k0_t2_loop.trips) : Fin 3 → Nat :=
  let c0_i32_36 : BitVec 32 := 0#32
  let c1_i32_38 : BitVec 32 := 1#32
  let arg10 : BitVec 32 := Scf.iv c0_i32_36 c1_i32_38 k0_t2
  let v703 : Index := Scalar.indexCast arg10
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_22 : BitVec 32 := 2#32
  let v50 : BitVec 32 := Scalar.muli v2 c2_i32_22
  let c1_i32_23 : BitVec 32 := 1#32
  let v51 : BitVec 32 := Scalar.addi v50 c1_i32_23
  let c256_i32_24 : BitVec 32 := 256#32
  let v52 : BitVec 32 := Scalar.muli v51 c256_i32_24
  let v704 : Index := Scalar.indexCast v52
  let c0_538 : Index := 0#32
  ![v703.toNat, v704.toNat, 0]
def k0_off7 (d0 : Dev nD) (k0_t2 : Fin k0_t2_loop.trips) : Fin 3 → Nat :=
  let c0_i32_36 : BitVec 32 := 0#32
  let c1_i32_38 : BitVec 32 := 1#32
  let arg10 : BitVec 32 := Scf.iv c0_i32_36 c1_i32_38 k0_t2
  let v709 : Index := Scalar.indexCast arg10
  let c12_i32_28 : BitVec 32 := 12#32
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_22 : BitVec 32 := 2#32
  let v50 : BitVec 32 := Scalar.muli v2 c2_i32_22
  let c1_i32_23 : BitVec 32 := 1#32
  let v51 : BitVec 32 := Scalar.addi v50 c1_i32_23
  let c2_i32_25 : BitVec 32 := 2#32
  let v53 : BitVec 32 := Scalar.muli v51 c2_i32_25
  let c1_i32_26 : BitVec 32 := 1#32
  let v54 : BitVec 32 := Scalar.subi v53 c1_i32_26
  let v55 : BitVec 32 := Scalar.maxsi c0_i32_27 v54
  let v56 : BitVec 32 := Scalar.minsi c12_i32_28 v55
  let c128_i32_29 : BitVec 32 := 128#32
  let v57 : BitVec 32 := Scalar.muli v56 c128_i32_29
  let v710 : Index := Scalar.indexCast v57
  let c0_540 : Index := 0#32
  ![v709.toNat, v710.toNat, 0]
def k0_off8 (k0_t2 : Fin k0_t2_loop.trips) : Fin 3 → Nat :=
  let c0_i32_36 : BitVec 32 := 0#32
  let c1_i32_38 : BitVec 32 := 1#32
  let arg10 : BitVec 32 := Scf.iv c0_i32_36 c1_i32_38 k0_t2
  let v718 : Index := Scalar.indexCast arg10
  let c0_543 : Index := 0#32
  let c0_544 : Index := 0#32
  ![v718.toNat, 0, 0]
def k0_off9 (k0_t2 : Fin k0_t2_loop.trips) : Fin 3 → Nat :=
  let c0_i32_36 : BitVec 32 := 0#32
  let c1_i32_38 : BitVec 32 := 1#32
  let arg10 : BitVec 32 := Scf.iv c0_i32_36 c1_i32_38 k0_t2
  let v746 : Index := Scalar.indexCast arg10
  let c0_554 : Index := 0#32
  let c0_555 : Index := 0#32
  ![v746.toNat, 0, 0]
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_41 : BitVec 32 := 0#32
  let v84 : BitVec 1 := Scalar.cmpi .eq v2 c0_i32_41
  let v85 : BitVec 32 := Scalar.extui v84
  let c0_i32_42 : BitVec 32 := 0#32
  let v86 : BitVec 1 := Scalar.cmpi .ne v85 c0_i32_42
  v86

@[reducible] def k0_t3_loop : Scf.Loop 32 :=
  let c0_i32_539 : BitVec 32 := 0#32
  let c8_i32_540 : BitVec 32 := 8#32
  let v704 : BitVec 32 := Scalar.addi c0_i32_539 c8_i32_540
  let c1_i32_541 : BitVec 32 := 1#32
  ⟨c0_i32_539, v704, c1_i32_541⟩
def k0_off10 (k0_t3 : Fin k0_t3_loop.trips) : Fin 3 → Nat :=
  let c0_i32_539 : BitVec 32 := 0#32
  let c1_i32_541 : BitVec 32 := 1#32
  let arg10 : BitVec 32 := Scf.iv c0_i32_539 c1_i32_541 k0_t3
  let v710 : Index := Scalar.indexCast arg10
  let c0_545 : Index := 0#32
  let c0_546 : Index := 0#32
  ![v710.toNat, 0, 0]
def k0_off11 (k0_t3 : Fin k0_t3_loop.trips) : Fin 3 → Nat :=
  let c0_i32_539 : BitVec 32 := 0#32
  let c1_i32_541 : BitVec 32 := 1#32
  let arg10 : BitVec 32 := Scf.iv c0_i32_539 c1_i32_541 k0_t3
  let v715 : Index := Scalar.indexCast arg10
  let c0_548 : Index := 0#32
  let c0_549 : Index := 0#32
  ![v715.toNat, 0, 0]
def k0_off12 (k0_t3 : Fin k0_t3_loop.trips) : Fin 3 → Nat :=
  let c0_i32_539 : BitVec 32 := 0#32
  let c1_i32_541 : BitVec 32 := 1#32
  let arg10 : BitVec 32 := Scf.iv c0_i32_539 c1_i32_541 k0_t3
  let v730 : Index := Scalar.indexCast arg10
  let c0_555 : Index := 0#32
  let c0_556 : Index := 0#32
  ![v730.toNat, 0, 0]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_43 : BitVec 32 := 8#32
  let v87 : BitVec 32 := Scalar.addi v2 c8_i32_43
  let c4_i32_44 : BitVec 32 := 4#32
  let v88 : BitVec 32 := Scalar.remsi v87 c4_i32_44
  let c512_i32 : BitVec 32 := 512#32
  let v89 : BitVec 32 := Scalar.muli v88 c512_i32
  let c0_i32_52 : BitVec 32 := 0#32
  ![v89.toNat, 0]
def k0_dev3 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_48 : BitVec 32 := 1#32
  let v90 : BitVec 32 := Scalar.muli v7 c1_i32_48
  let v91 : BitVec 32 := Scalar.addi c0_i32_49 v90
  v91.toNat
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_53 : BitVec 32 := 8#32
  let v99 : BitVec 32 := Scalar.addi v2 c8_i32_53
  let c4_i32_54 : BitVec 32 := 4#32
  let v100 : BitVec 32 := Scalar.remsi v99 c4_i32_54
  let c512_i32_55 : BitVec 32 := 512#32
  let v101 : BitVec 32 := Scalar.muli v100 c512_i32_55
  let c512_i32_62 : BitVec 32 := 512#32
  ![v101.toNat, 512]
def k0_dev4 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_58 : BitVec 32 := 1#32
  let v102 : BitVec 32 := Scalar.muli v5 c1_i32_58
  let v103 : BitVec 32 := Scalar.addi c0_i32_59 v102
  v103.toNat
@[reducible] def k0_t4_loop : Scf.Loop 32 :=
  let c0_i32_79 : BitVec 32 := 0#32
  let c8_i32_80 : BitVec 32 := 8#32
  let v140 : BitVec 32 := Scalar.addi c0_i32_79 c8_i32_80
  let c1_i32_81 : BitVec 32 := 1#32
  ⟨c0_i32_79, v140, c1_i32_81⟩
def k0_off15 (d0 : Dev nD) (k0_t4 : Fin k0_t4_loop.trips) : Fin 3 → Nat :=
  let c0_i32_79 : BitVec 32 := 0#32
  let c1_i32_81 : BitVec 32 := 1#32
  let arg10 : BitVec 32 := Scf.iv c0_i32_79 c1_i32_81 k0_t4
  let v703 : Index := Scalar.indexCast arg10
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_63 : BitVec 32 := 3#32
  let v111 : BitVec 32 := Scalar.addi v2 c3_i32_63
  let c4_i32_64 : BitVec 32 := 4#32
  let v112 : BitVec 32 := Scalar.remsi v111 c4_i32_64
  let c2_i32_65 : BitVec 32 := 2#32
  let v113 : BitVec 32 := Scalar.muli v112 c2_i32_65
  let c0_i32_66 : BitVec 32 := 0#32
  let v114 : BitVec 32 := Scalar.addi v113 c0_i32_66
  let c256_i32_67 : BitVec 32 := 256#32
  let v115 : BitVec 32 := Scalar.muli v114 c256_i32_67
  let v704 : Index := Scalar.indexCast v115
  let c0_538 : Index := 0#32
  ![v703.toNat, v704.toNat, 0]
def k0_off16 (d0 : Dev nD) (k0_t4 : Fin k0_t4_loop.trips) : Fin 3 → Nat :=
  let c0_i32_79 : BitVec 32 := 0#32
  let c1_i32_81 : BitVec 32 := 1#32
  let arg10 : BitVec 32 := Scf.iv c0_i32_79 c1_i32_81 k0_t4
  let v709 : Index := Scalar.indexCast arg10
  let c12_i32_71 : BitVec 32 := 12#32
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_63 : BitVec 32 := 3#32
  let v111 : BitVec 32 := Scalar.addi v2 c3_i32_63
  let c4_i32_64 : BitVec 32 := 4#32
  let v112 : BitVec 32 := Scalar.remsi v111 c4_i32_64
  let c2_i32_65 : BitVec 32 := 2#32
  let v113 : BitVec 32 := Scalar.muli v112 c2_i32_65
  let c0_i32_66 : BitVec 32 := 0#32
  let v114 : BitVec 32 := Scalar.addi v113 c0_i32_66
  let c2_i32_68 : BitVec 32 := 2#32
  let v116 : BitVec 32 := Scalar.muli v114 c2_i32_68
  let c1_i32_69 : BitVec 32 := 1#32
  let v117 : BitVec 32 := Scalar.subi v116 c1_i32_69
  let v118 : BitVec 32 := Scalar.maxsi c0_i32_70 v117
  let v119 : BitVec 32 := Scalar.minsi c12_i32_71 v118
  let c128_i32_72 : BitVec 32 := 128#32
  let v120 : BitVec 32 := Scalar.muli v119 c128_i32_72
  let v710 : Index := Scalar.indexCast v120
  let c0_540 : Index := 0#32
  ![v709.toNat, v710.toNat, 0]
def k0_off17 (k0_t4 : Fin k0_t4_loop.trips) : Fin 3 → Nat :=
  let c0_i32_79 : BitVec 32 := 0#32
  let c1_i32_81 : BitVec 32 := 1#32
  let arg10 : BitVec 32 := Scf.iv c0_i32_79 c1_i32_81 k0_t4
  let v718 : Index := Scalar.indexCast arg10
  let c0_543 : Index := 0#32
  let c0_544 : Index := 0#32
  ![v718.toNat, 0, 0]
def k0_off18 (k0_t4 : Fin k0_t4_loop.trips) : Fin 3 → Nat :=
  let c0_i32_79 : BitVec 32 := 0#32
  let c1_i32_81 : BitVec 32 := 1#32
  let arg10 : BitVec 32 := Scf.iv c0_i32_79 c1_i32_81 k0_t4
  let v746 : Index := Scalar.indexCast arg10
  let c0_554 : Index := 0#32
  let c0_555 : Index := 0#32
  ![v746.toNat, 0, 0]
def k0_off19 (d0 : Dev nD) (c3_i32_63 : BitVec 32) (c0_i32_66 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v111 : BitVec 32 := Scalar.addi v2 c3_i32_63
  let c4_i32_64 : BitVec 32 := 4#32
  let v112 : BitVec 32 := Scalar.remsi v111 c4_i32_64
  let c2_i32_65 : BitVec 32 := 2#32
  let v113 : BitVec 32 := Scalar.muli v112 c2_i32_65
  let v114 : BitVec 32 := Scalar.addi v113 c0_i32_66
  let c256_i32_67 : BitVec 32 := 256#32
  let v115 : BitVec 32 := Scalar.muli v114 c256_i32_67
  let v143 : Index := Scalar.indexCast v115
  let c0_83 : Index := 0#32
  ![v143.toNat, 0]
@[reducible] def k0_t5_loop : Scf.Loop 32 :=
  let c0_i32_98 : BitVec 32 := 0#32
  let c8_i32_99 : BitVec 32 := 8#32
  let v174 : BitVec 32 := Scalar.addi c0_i32_98 c8_i32_99
  let c1_i32_100 : BitVec 32 := 1#32
  ⟨c0_i32_98, v174, c1_i32_100⟩
def k0_off20 (d0 : Dev nD) (k0_t5 : Fin k0_t5_loop.trips) : Fin 3 → Nat :=
  let c0_i32_98 : BitVec 32 := 0#32
  let c1_i32_100 : BitVec 32 := 1#32
  let arg10 : BitVec 32 := Scf.iv c0_i32_98 c1_i32_100 k0_t5
  let v703 : Index := Scalar.indexCast arg10
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_63 : BitVec 32 := 3#32
  let v111 : BitVec 32 := Scalar.addi v2 c3_i32_63
  let c4_i32_64 : BitVec 32 := 4#32
  let v112 : BitVec 32 := Scalar.remsi v111 c4_i32_64
  let c2_i32_84 : BitVec 32 := 2#32
  let v147 : BitVec 32 := Scalar.muli v112 c2_i32_84
  let c1_i32_85 : BitVec 32 := 1#32
  let v148 : BitVec 32 := Scalar.addi v147 c1_i32_85
  let c256_i32_86 : BitVec 32 := 256#32
  let v149 : BitVec 32 := Scalar.muli v148 c256_i32_86
  let v704 : Index := Scalar.indexCast v149
  let c0_538 : Index := 0#32
  ![v703.toNat, v704.toNat, 0]
def k0_off21 (d0 : Dev nD) (k0_t5 : Fin k0_t5_loop.trips) : Fin 3 → Nat :=
  let c0_i32_98 : BitVec 32 := 0#32
  let c1_i32_100 : BitVec 32 := 1#32
  let arg10 : BitVec 32 := Scf.iv c0_i32_98 c1_i32_100 k0_t5
  let v709 : Index := Scalar.indexCast arg10
  let c12_i32_90 : BitVec 32 := 12#32
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_63 : BitVec 32 := 3#32
  let v111 : BitVec 32 := Scalar.addi v2 c3_i32_63
  let c4_i32_64 : BitVec 32 := 4#32
  let v112 : BitVec 32 := Scalar.remsi v111 c4_i32_64
  let c2_i32_84 : BitVec 32 := 2#32
  let v147 : BitVec 32 := Scalar.muli v112 c2_i32_84
  let c1_i32_85 : BitVec 32 := 1#32
  let v148 : BitVec 32 := Scalar.addi v147 c1_i32_85
  let c2_i32_87 : BitVec 32 := 2#32
  let v150 : BitVec 32 := Scalar.muli v148 c2_i32_87
  let c1_i32_88 : BitVec 32 := 1#32
  let v151 : BitVec 32 := Scalar.subi v150 c1_i32_88
  let v152 : BitVec 32 := Scalar.maxsi c0_i32_89 v151
  let v153 : BitVec 32 := Scalar.minsi c12_i32_90 v152
  let c128_i32_91 : BitVec 32 := 128#32
  let v154 : BitVec 32 := Scalar.muli v153 c128_i32_91
  let v710 : Index := Scalar.indexCast v154
  let c0_540 : Index := 0#32
  ![v709.toNat, v710.toNat, 0]
def k0_off22 (k0_t5 : Fin k0_t5_loop.trips) : Fin 3 → Nat :=
  let c0_i32_98 : BitVec 32 := 0#32
  let c1_i32_100 : BitVec 32 := 1#32
  let arg10 : BitVec 32 := Scf.iv c0_i32_98 c1_i32_100 k0_t5
  let v718 : Index := Scalar.indexCast arg10
  let c0_543 : Index := 0#32
  let c0_544 : Index := 0#32
  ![v718.toNat, 0, 0]
def k0_off23 (k0_t5 : Fin k0_t5_loop.trips) : Fin 3 → Nat :=
  let c0_i32_98 : BitVec 32 := 0#32
  let c1_i32_100 : BitVec 32 := 1#32
  let arg10 : BitVec 32 := Scf.iv c0_i32_98 c1_i32_100 k0_t5
  let v746 : Index := Scalar.indexCast arg10
  let c0_554 : Index := 0#32
  let c0_555 : Index := 0#32
  ![v746.toNat, 0, 0]
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_63 : BitVec 32 := 3#32
  let v111 : BitVec 32 := Scalar.addi v2 c3_i32_63
  let c4_i32_64 : BitVec 32 := 4#32
  let v112 : BitVec 32 := Scalar.remsi v111 c4_i32_64
  let c0_i32_103 : BitVec 32 := 0#32
  let v181 : BitVec 1 := Scalar.cmpi .eq v112 c0_i32_103
  let v182 : BitVec 32 := Scalar.extui v181
  let c0_i32_104 : BitVec 32 := 0#32
  let v183 : BitVec 1 := Scalar.cmpi .ne v182 c0_i32_104
  v183

@[reducible] def k0_t6_loop : Scf.Loop 32 :=
  let c0_i32_539 : BitVec 32 := 0#32
  let c8_i32_540 : BitVec 32 := 8#32
  let v704 : BitVec 32 := Scalar.addi c0_i32_539 c8_i32_540
  let c1_i32_541 : BitVec 32 := 1#32
  ⟨c0_i32_539, v704, c1_i32_541⟩
def k0_off24 (k0_t6 : Fin k0_t6_loop.trips) : Fin 3 → Nat :=
  let c0_i32_539 : BitVec 32 := 0#32
  let c1_i32_541 : BitVec 32 := 1#32
  let arg10 : BitVec 32 := Scf.iv c0_i32_539 c1_i32_541 k0_t6
  let v710 : Index := Scalar.indexCast arg10
  let c0_545 : Index := 0#32
  let c0_546 : Index := 0#32
  ![v710.toNat, 0, 0]
def k0_off25 (k0_t6 : Fin k0_t6_loop.trips) : Fin 3 → Nat :=
  let c0_i32_539 : BitVec 32 := 0#32
  let c1_i32_541 : BitVec 32 := 1#32
  let arg10 : BitVec 32 := Scf.iv c0_i32_539 c1_i32_541 k0_t6
  let v715 : Index := Scalar.indexCast arg10
  let c0_548 : Index := 0#32
  let c0_549 : Index := 0#32
  ![v715.toNat, 0, 0]
def k0_off26 (k0_t6 : Fin k0_t6_loop.trips) : Fin 3 → Nat :=
  let c0_i32_539 : BitVec 32 := 0#32
  let c1_i32_541 : BitVec 32 := 1#32
  let arg10 : BitVec 32 := Scf.iv c0_i32_539 c1_i32_541 k0_t6
  let v730 : Index := Scalar.indexCast arg10
  let c0_555 : Index := 0#32
  let c0_556 : Index := 0#32
  ![v730.toNat, 0, 0]
def k0_off27 (d0 : Dev nD) (c3_i32_120 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v196 : BitVec 32 := Scalar.addi v2 c3_i32_120
  let c8_i32_121 : BitVec 32 := 8#32
  let v197 : BitVec 32 := Scalar.addi v196 c8_i32_121
  let c4_i32_122 : BitVec 32 := 4#32
  let v198 : BitVec 32 := Scalar.remsi v197 c4_i32_122
  let c512_i32_123 : BitVec 32 := 512#32
  let v199 : BitVec 32 := Scalar.muli v198 c512_i32_123
  let v200 : Index := Scalar.indexCast v199
  let c0_124 : Index := 0#32
  ![v200.toNat, 0]
def k0_off28 (d0 : Dev nD) (c3_i32_129 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v209 : BitVec 32 := Scalar.addi v2 c3_i32_129
  let c8_i32_130 : BitVec 32 := 8#32
  let v210 : BitVec 32 := Scalar.addi v209 c8_i32_130
  let c4_i32_131 : BitVec 32 := 4#32
  let v211 : BitVec 32 := Scalar.remsi v210 c4_i32_131
  let c512_i32_132 : BitVec 32 := 512#32
  let v212 : BitVec 32 := Scalar.muli v211 c512_i32_132
  let c0_i32_140 : BitVec 32 := 0#32
  ![v212.toNat, 0]
def k0_dev5 (d0 : Dev nD) : Nat :=
  let c0_i32_137 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_136 : BitVec 32 := 1#32
  let v213 : BitVec 32 := Scalar.muli v7 c1_i32_136
  let v214 : BitVec 32 := Scalar.addi c0_i32_137 v213
  v214.toNat
@[reducible] def k0_t7_loop : Scf.Loop 32 :=
  let c0_i32_157 : BitVec 32 := 0#32
  let c8_i32_158 : BitVec 32 := 8#32
  let v251 : BitVec 32 := Scalar.addi c0_i32_157 c8_i32_158
  let c1_i32_159 : BitVec 32 := 1#32
  ⟨c0_i32_157, v251, c1_i32_159⟩
def k0_off29 (d0 : Dev nD) (k0_t7 : Fin k0_t7_loop.trips) : Fin 3 → Nat :=
  let c0_i32_157 : BitVec 32 := 0#32
  let c1_i32_159 : BitVec 32 := 1#32
  let arg10 : BitVec 32 := Scf.iv c0_i32_157 c1_i32_159 k0_t7
  let v703 : Index := Scalar.indexCast arg10
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_141 : BitVec 32 := 1#32
  let v222 : BitVec 32 := Scalar.addi v2 c1_i32_141
  let c4_i32_142 : BitVec 32 := 4#32
  let v223 : BitVec 32 := Scalar.remsi v222 c4_i32_142
  let c2_i32_143 : BitVec 32 := 2#32
  let v224 : BitVec 32 := Scalar.muli v223 c2_i32_143
  let c0_i32_144 : BitVec 32 := 0#32
  let v225 : BitVec 32 := Scalar.addi v224 c0_i32_144
  let c256_i32_145 : BitVec 32 := 256#32
  let v226 : BitVec 32 := Scalar.muli v225 c256_i32_145
  let v704 : Index := Scalar.indexCast v226
  let c0_538 : Index := 0#32
  ![v703.toNat, v704.toNat, 0]
def k0_off30 (d0 : Dev nD) (k0_t7 : Fin k0_t7_loop.trips) : Fin 3 → Nat :=
  let c0_i32_157 : BitVec 32 := 0#32
  let c1_i32_159 : BitVec 32 := 1#32
  let arg10 : BitVec 32 := Scf.iv c0_i32_157 c1_i32_159 k0_t7
  let v709 : Index := Scalar.indexCast arg10
  let c12_i32_149 : BitVec 32 := 12#32
  let c0_i32_148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_141 : BitVec 32 := 1#32
  let v222 : BitVec 32 := Scalar.addi v2 c1_i32_141
  let c4_i32_142 : BitVec 32 := 4#32
  let v223 : BitVec 32 := Scalar.remsi v222 c4_i32_142
  let c2_i32_143 : BitVec 32 := 2#32
  let v224 : BitVec 32 := Scalar.muli v223 c2_i32_143
  let c0_i32_144 : BitVec 32 := 0#32
  let v225 : BitVec 32 := Scalar.addi v224 c0_i32_144
  let c2_i32_146 : BitVec 32 := 2#32
  let v227 : BitVec 32 := Scalar.muli v225 c2_i32_146
  let c1_i32_147 : BitVec 32 := 1#32
  let v228 : BitVec 32 := Scalar.subi v227 c1_i32_147
  let v229 : BitVec 32 := Scalar.maxsi c0_i32_148 v228
  let v230 : BitVec 32 := Scalar.minsi c12_i32_149 v229
  let c128_i32_150 : BitVec 32 := 128#32
  let v231 : BitVec 32 := Scalar.muli v230 c128_i32_150
  let v710 : Index := Scalar.indexCast v231
  let c0_540 : Index := 0#32
  ![v709.toNat, v710.toNat, 0]
def k0_off31 (k0_t7 : Fin k0_t7_loop.trips) : Fin 3 → Nat :=
  let c0_i32_157 : BitVec 32 := 0#32
  let c1_i32_159 : BitVec 32 := 1#32
  let arg10 : BitVec 32 := Scf.iv c0_i32_157 c1_i32_159 k0_t7
  let v718 : Index := Scalar.indexCast arg10
  let c0_543 : Index := 0#32
  let c0_544 : Index := 0#32
  ![v718.toNat, 0, 0]
def k0_off32 (k0_t7 : Fin k0_t7_loop.trips) : Fin 3 → Nat :=
  let c0_i32_157 : BitVec 32 := 0#32
  let c1_i32_159 : BitVec 32 := 1#32
  let arg10 : BitVec 32 := Scf.iv c0_i32_157 c1_i32_159 k0_t7
  let v746 : Index := Scalar.indexCast arg10
  let c0_554 : Index := 0#32
  let c0_555 : Index := 0#32
  ![v746.toNat, 0, 0]
@[reducible] def k0_t8_loop : Scf.Loop 32 :=
  let c0_i32_176 : BitVec 32 := 0#32
  let c8_i32_177 : BitVec 32 := 8#32
  let v285 : BitVec 32 := Scalar.addi c0_i32_176 c8_i32_177
  let c1_i32_178 : BitVec 32 := 1#32
  ⟨c0_i32_176, v285, c1_i32_178⟩
def k0_off33 (d0 : Dev nD) (k0_t8 : Fin k0_t8_loop.trips) : Fin 3 → Nat :=
  let c0_i32_176 : BitVec 32 := 0#32
  let c1_i32_178 : BitVec 32 := 1#32
  let arg10 : BitVec 32 := Scf.iv c0_i32_176 c1_i32_178 k0_t8
  let v703 : Index := Scalar.indexCast arg10
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_141 : BitVec 32 := 1#32
  let v222 : BitVec 32 := Scalar.addi v2 c1_i32_141
  let c4_i32_142 : BitVec 32 := 4#32
  let v223 : BitVec 32 := Scalar.remsi v222 c4_i32_142
  let c2_i32_162 : BitVec 32 := 2#32
  let v258 : BitVec 32 := Scalar.muli v223 c2_i32_162
  let c1_i32_163 : BitVec 32 := 1#32
  let v259 : BitVec 32 := Scalar.addi v258 c1_i32_163
  let c256_i32_164 : BitVec 32 := 256#32
  let v260 : BitVec 32 := Scalar.muli v259 c256_i32_164
  let v704 : Index := Scalar.indexCast v260
  let c0_538 : Index := 0#32
  ![v703.toNat, v704.toNat, 0]
def k0_off34 (d0 : Dev nD) (k0_t8 : Fin k0_t8_loop.trips) : Fin 3 → Nat :=
  let c0_i32_176 : BitVec 32 := 0#32
  let c1_i32_178 : BitVec 32 := 1#32
  let arg10 : BitVec 32 := Scf.iv c0_i32_176 c1_i32_178 k0_t8
  let v709 : Index := Scalar.indexCast arg10
  let c12_i32_168 : BitVec 32 := 12#32
  let c0_i32_167 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_141 : BitVec 32 := 1#32
  let v222 : BitVec 32 := Scalar.addi v2 c1_i32_141
  let c4_i32_142 : BitVec 32 := 4#32
  let v223 : BitVec 32 := Scalar.remsi v222 c4_i32_142
  let c2_i32_162 : BitVec 32 := 2#32
  let v258 : BitVec 32 := Scalar.muli v223 c2_i32_162
  let c1_i32_163 : BitVec 32 := 1#32
  let v259 : BitVec 32 := Scalar.addi v258 c1_i32_163
  let c2_i32_165 : BitVec 32 := 2#32
  let v261 : BitVec 32 := Scalar.muli v259 c2_i32_165
  let c1_i32_166 : BitVec 32 := 1#32
  let v262 : BitVec 32 := Scalar.subi v261 c1_i32_166
  let v263 : BitVec 32 := Scalar.maxsi c0_i32_167 v262
  let v264 : BitVec 32 := Scalar.minsi c12_i32_168 v263
  let c128_i32_169 : BitVec 32 := 128#32
  let v265 : BitVec 32 := Scalar.muli v264 c128_i32_169
  let v710 : Index := Scalar.indexCast v265
  let c0_540 : Index := 0#32
  ![v709.toNat, v710.toNat, 0]
def k0_off35 (k0_t8 : Fin k0_t8_loop.trips) : Fin 3 → Nat :=
  let c0_i32_176 : BitVec 32 := 0#32
  let c1_i32_178 : BitVec 32 := 1#32
  let arg10 : BitVec 32 := Scf.iv c0_i32_176 c1_i32_178 k0_t8
  let v718 : Index := Scalar.indexCast arg10
  let c0_543 : Index := 0#32
  let c0_544 : Index := 0#32
  ![v718.toNat, 0, 0]
def k0_off36 (k0_t8 : Fin k0_t8_loop.trips) : Fin 3 → Nat :=
  let c0_i32_176 : BitVec 32 := 0#32
  let c1_i32_178 : BitVec 32 := 1#32
  let arg10 : BitVec 32 := Scf.iv c0_i32_176 c1_i32_178 k0_t8
  let v746 : Index := Scalar.indexCast arg10
  let c0_554 : Index := 0#32
  let c0_555 : Index := 0#32
  ![v746.toNat, 0, 0]
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_141 : BitVec 32 := 1#32
  let v222 : BitVec 32 := Scalar.addi v2 c1_i32_141
  let c4_i32_142 : BitVec 32 := 4#32
  let v223 : BitVec 32 := Scalar.remsi v222 c4_i32_142
  let c0_i32_181 : BitVec 32 := 0#32
  let v292 : BitVec 1 := Scalar.cmpi .eq v223 c0_i32_181
  let v293 : BitVec 32 := Scalar.extui v292
  let c0_i32_182 : BitVec 32 := 0#32
  let v294 : BitVec 1 := Scalar.cmpi .ne v293 c0_i32_182
  v294

@[reducible] def k0_t9_loop : Scf.Loop 32 :=
  let c0_i32_539 : BitVec 32 := 0#32
  let c8_i32_540 : BitVec 32 := 8#32
  let v704 : BitVec 32 := Scalar.addi c0_i32_539 c8_i32_540
  let c1_i32_541 : BitVec 32 := 1#32
  ⟨c0_i32_539, v704, c1_i32_541⟩
def k0_off37 (k0_t9 : Fin k0_t9_loop.trips) : Fin 3 → Nat :=
  let c0_i32_539 : BitVec 32 := 0#32
  let c1_i32_541 : BitVec 32 := 1#32
  let arg10 : BitVec 32 := Scf.iv c0_i32_539 c1_i32_541 k0_t9
  let v710 : Index := Scalar.indexCast arg10
  let c0_545 : Index := 0#32
  let c0_546 : Index := 0#32
  ![v710.toNat, 0, 0]
def k0_off38 (k0_t9 : Fin k0_t9_loop.trips) : Fin 3 → Nat :=
  let c0_i32_539 : BitVec 32 := 0#32
  let c1_i32_541 : BitVec 32 := 1#32
  let arg10 : BitVec 32 := Scf.iv c0_i32_539 c1_i32_541 k0_t9
  let v715 : Index := Scalar.indexCast arg10
  let c0_548 : Index := 0#32
  let c0_549 : Index := 0#32
  ![v715.toNat, 0, 0]
def k0_off39 (k0_t9 : Fin k0_t9_loop.trips) : Fin 3 → Nat :=
  let c0_i32_539 : BitVec 32 := 0#32
  let c1_i32_541 : BitVec 32 := 1#32
  let arg10 : BitVec 32 := Scf.iv c0_i32_539 c1_i32_541 k0_t9
  let v730 : Index := Scalar.indexCast arg10
  let c0_555 : Index := 0#32
  let c0_556 : Index := 0#32
  ![v730.toNat, 0, 0]
def k0_off40 (d0 : Dev nD) (c1_i32_198 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v307 : BitVec 32 := Scalar.addi v2 c1_i32_198
  let c8_i32_199 : BitVec 32 := 8#32
  let v308 : BitVec 32 := Scalar.addi v307 c8_i32_199
  let c4_i32_200 : BitVec 32 := 4#32
  let v309 : BitVec 32 := Scalar.remsi v308 c4_i32_200
  let c512_i32_201 : BitVec 32 := 512#32
  let v310 : BitVec 32 := Scalar.muli v309 c512_i32_201
  let v311 : Index := Scalar.indexCast v310
  let c512 : Index := 512#32
  ![v311.toNat, 512]
def k0_off41 (d0 : Dev nD) (c1_i32_206 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v320 : BitVec 32 := Scalar.addi v2 c1_i32_206
  let c8_i32_207 : BitVec 32 := 8#32
  let v321 : BitVec 32 := Scalar.addi v320 c8_i32_207
  let c4_i32_208 : BitVec 32 := 4#32
  let v322 : BitVec 32 := Scalar.remsi v321 c4_i32_208
  let c512_i32_209 : BitVec 32 := 512#32
  let v323 : BitVec 32 := Scalar.muli v322 c512_i32_209
  let c512_i32_217 : BitVec 32 := 512#32
  ![v323.toNat, 512]
def k0_dev6 (d0 : Dev nD) : Nat :=
  let c0_i32_214 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_213 : BitVec 32 := 1#32
  let v324 : BitVec 32 := Scalar.muli v5 c1_i32_213
  let v325 : BitVec 32 := Scalar.addi c0_i32_214 v324
  v325.toNat
@[reducible] def k0_t10_loop : Scf.Loop 32 :=
  let c0_i32_234 : BitVec 32 := 0#32
  let c8_i32_235 : BitVec 32 := 8#32
  let v362 : BitVec 32 := Scalar.addi c0_i32_234 c8_i32_235
  let c1_i32_236 : BitVec 32 := 1#32
  ⟨c0_i32_234, v362, c1_i32_236⟩
def k0_off42 (d0 : Dev nD) (k0_t10 : Fin k0_t10_loop.trips) : Fin 3 → Nat :=
  let c0_i32_234 : BitVec 32 := 0#32
  let c1_i32_236 : BitVec 32 := 1#32
  let arg10 : BitVec 32 := Scf.iv c0_i32_234 c1_i32_236 k0_t10
  let v703 : Index := Scalar.indexCast arg10
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_218 : BitVec 32 := 2#32
  let v333 : BitVec 32 := Scalar.addi v2 c2_i32_218
  let c4_i32_219 : BitVec 32 := 4#32
  let v334 : BitVec 32 := Scalar.remsi v333 c4_i32_219
  let c2_i32_220 : BitVec 32 := 2#32
  let v335 : BitVec 32 := Scalar.muli v334 c2_i32_220
  let c0_i32_221 : BitVec 32 := 0#32
  let v336 : BitVec 32 := Scalar.addi v335 c0_i32_221
  let c256_i32_222 : BitVec 32 := 256#32
  let v337 : BitVec 32 := Scalar.muli v336 c256_i32_222
  let v704 : Index := Scalar.indexCast v337
  let c0_538 : Index := 0#32
  ![v703.toNat, v704.toNat, 0]
def k0_off43 (d0 : Dev nD) (k0_t10 : Fin k0_t10_loop.trips) : Fin 3 → Nat :=
  let c0_i32_234 : BitVec 32 := 0#32
  let c1_i32_236 : BitVec 32 := 1#32
  let arg10 : BitVec 32 := Scf.iv c0_i32_234 c1_i32_236 k0_t10
  let v709 : Index := Scalar.indexCast arg10
  let c12_i32_226 : BitVec 32 := 12#32
  let c0_i32_225 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_218 : BitVec 32 := 2#32
  let v333 : BitVec 32 := Scalar.addi v2 c2_i32_218
  let c4_i32_219 : BitVec 32 := 4#32
  let v334 : BitVec 32 := Scalar.remsi v333 c4_i32_219
  let c2_i32_220 : BitVec 32 := 2#32
  let v335 : BitVec 32 := Scalar.muli v334 c2_i32_220
  let c0_i32_221 : BitVec 32 := 0#32
  let v336 : BitVec 32 := Scalar.addi v335 c0_i32_221
  let c2_i32_223 : BitVec 32 := 2#32
  let v338 : BitVec 32 := Scalar.muli v336 c2_i32_223
  let c1_i32_224 : BitVec 32 := 1#32
  let v339 : BitVec 32 := Scalar.subi v338 c1_i32_224
  let v340 : BitVec 32 := Scalar.maxsi c0_i32_225 v339
  let v341 : BitVec 32 := Scalar.minsi c12_i32_226 v340
  let c128_i32_227 : BitVec 32 := 128#32
  let v342 : BitVec 32 := Scalar.muli v341 c128_i32_227
  let v710 : Index := Scalar.indexCast v342
  let c0_540 : Index := 0#32
  ![v709.toNat, v710.toNat, 0]
def k0_off44 (k0_t10 : Fin k0_t10_loop.trips) : Fin 3 → Nat :=
  let c0_i32_234 : BitVec 32 := 0#32
  let c1_i32_236 : BitVec 32 := 1#32
  let arg10 : BitVec 32 := Scf.iv c0_i32_234 c1_i32_236 k0_t10
  let v718 : Index := Scalar.indexCast arg10
  let c0_543 : Index := 0#32
  let c0_544 : Index := 0#32
  ![v718.toNat, 0, 0]
def k0_off45 (k0_t10 : Fin k0_t10_loop.trips) : Fin 3 → Nat :=
  let c0_i32_234 : BitVec 32 := 0#32
  let c1_i32_236 : BitVec 32 := 1#32
  let arg10 : BitVec 32 := Scf.iv c0_i32_234 c1_i32_236 k0_t10
  let v746 : Index := Scalar.indexCast arg10
  let c0_554 : Index := 0#32
  let c0_555 : Index := 0#32
  ![v746.toNat, 0, 0]
@[reducible] def k0_t11_loop : Scf.Loop 32 :=
  let c0_i32_253 : BitVec 32 := 0#32
  let c8_i32_254 : BitVec 32 := 8#32
  let v396 : BitVec 32 := Scalar.addi c0_i32_253 c8_i32_254
  let c1_i32_255 : BitVec 32 := 1#32
  ⟨c0_i32_253, v396, c1_i32_255⟩
def k0_off46 (d0 : Dev nD) (k0_t11 : Fin k0_t11_loop.trips) : Fin 3 → Nat :=
  let c0_i32_253 : BitVec 32 := 0#32
  let c1_i32_255 : BitVec 32 := 1#32
  let arg10 : BitVec 32 := Scf.iv c0_i32_253 c1_i32_255 k0_t11
  let v703 : Index := Scalar.indexCast arg10
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_218 : BitVec 32 := 2#32
  let v333 : BitVec 32 := Scalar.addi v2 c2_i32_218
  let c4_i32_219 : BitVec 32 := 4#32
  let v334 : BitVec 32 := Scalar.remsi v333 c4_i32_219
  let c2_i32_239 : BitVec 32 := 2#32
  let v369 : BitVec 32 := Scalar.muli v334 c2_i32_239
  let c1_i32_240 : BitVec 32 := 1#32
  let v370 : BitVec 32 := Scalar.addi v369 c1_i32_240
  let c256_i32_241 : BitVec 32 := 256#32
  let v371 : BitVec 32 := Scalar.muli v370 c256_i32_241
  let v704 : Index := Scalar.indexCast v371
  let c0_538 : Index := 0#32
  ![v703.toNat, v704.toNat, 0]
def k0_off47 (d0 : Dev nD) (k0_t11 : Fin k0_t11_loop.trips) : Fin 3 → Nat :=
  let c0_i32_253 : BitVec 32 := 0#32
  let c1_i32_255 : BitVec 32 := 1#32
  let arg10 : BitVec 32 := Scf.iv c0_i32_253 c1_i32_255 k0_t11
  let v709 : Index := Scalar.indexCast arg10
  let c12_i32_245 : BitVec 32 := 12#32
  let c0_i32_244 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_218 : BitVec 32 := 2#32
  let v333 : BitVec 32 := Scalar.addi v2 c2_i32_218
  let c4_i32_219 : BitVec 32 := 4#32
  let v334 : BitVec 32 := Scalar.remsi v333 c4_i32_219
  let c2_i32_239 : BitVec 32 := 2#32
  let v369 : BitVec 32 := Scalar.muli v334 c2_i32_239
  let c1_i32_240 : BitVec 32 := 1#32
  let v370 : BitVec 32 := Scalar.addi v369 c1_i32_240
  let c2_i32_242 : BitVec 32 := 2#32
  let v372 : BitVec 32 := Scalar.muli v370 c2_i32_242
  let c1_i32_243 : BitVec 32 := 1#32
  let v373 : BitVec 32 := Scalar.subi v372 c1_i32_243
  let v374 : BitVec 32 := Scalar.maxsi c0_i32_244 v373
  let v375 : BitVec 32 := Scalar.minsi c12_i32_245 v374
  let c128_i32_246 : BitVec 32 := 128#32
  let v376 : BitVec 32 := Scalar.muli v375 c128_i32_246
  let v710 : Index := Scalar.indexCast v376
  let c0_540 : Index := 0#32
  ![v709.toNat, v710.toNat, 0]
def k0_off48 (k0_t11 : Fin k0_t11_loop.trips) : Fin 3 → Nat :=
  let c0_i32_253 : BitVec 32 := 0#32
  let c1_i32_255 : BitVec 32 := 1#32
  let arg10 : BitVec 32 := Scf.iv c0_i32_253 c1_i32_255 k0_t11
  let v718 : Index := Scalar.indexCast arg10
  let c0_543 : Index := 0#32
  let c0_544 : Index := 0#32
  ![v718.toNat, 0, 0]
def k0_off49 (k0_t11 : Fin k0_t11_loop.trips) : Fin 3 → Nat :=
  let c0_i32_253 : BitVec 32 := 0#32
  let c1_i32_255 : BitVec 32 := 1#32
  let arg10 : BitVec 32 := Scf.iv c0_i32_253 c1_i32_255 k0_t11
  let v746 : Index := Scalar.indexCast arg10
  let c0_554 : Index := 0#32
  let c0_555 : Index := 0#32
  ![v746.toNat, 0, 0]
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_218 : BitVec 32 := 2#32
  let v333 : BitVec 32 := Scalar.addi v2 c2_i32_218
  let c4_i32_219 : BitVec 32 := 4#32
  let v334 : BitVec 32 := Scalar.remsi v333 c4_i32_219
  let c0_i32_258 : BitVec 32 := 0#32
  let v403 : BitVec 1 := Scalar.cmpi .eq v334 c0_i32_258
  let v404 : BitVec 32 := Scalar.extui v403
  let c0_i32_259 : BitVec 32 := 0#32
  let v405 : BitVec 1 := Scalar.cmpi .ne v404 c0_i32_259
  v405

@[reducible] def k0_t12_loop : Scf.Loop 32 :=
  let c0_i32_539 : BitVec 32 := 0#32
  let c8_i32_540 : BitVec 32 := 8#32
  let v704 : BitVec 32 := Scalar.addi c0_i32_539 c8_i32_540
  let c1_i32_541 : BitVec 32 := 1#32
  ⟨c0_i32_539, v704, c1_i32_541⟩
def k0_off50 (k0_t12 : Fin k0_t12_loop.trips) : Fin 3 → Nat :=
  let c0_i32_539 : BitVec 32 := 0#32
  let c1_i32_541 : BitVec 32 := 1#32
  let arg10 : BitVec 32 := Scf.iv c0_i32_539 c1_i32_541 k0_t12
  let v710 : Index := Scalar.indexCast arg10
  let c0_545 : Index := 0#32
  let c0_546 : Index := 0#32
  ![v710.toNat, 0, 0]
def k0_off51 (k0_t12 : Fin k0_t12_loop.trips) : Fin 3 → Nat :=
  let c0_i32_539 : BitVec 32 := 0#32
  let c1_i32_541 : BitVec 32 := 1#32
  let arg10 : BitVec 32 := Scf.iv c0_i32_539 c1_i32_541 k0_t12
  let v715 : Index := Scalar.indexCast arg10
  let c0_548 : Index := 0#32
  let c0_549 : Index := 0#32
  ![v715.toNat, 0, 0]
def k0_off52 (k0_t12 : Fin k0_t12_loop.trips) : Fin 3 → Nat :=
  let c0_i32_539 : BitVec 32 := 0#32
  let c1_i32_541 : BitVec 32 := 1#32
  let arg10 : BitVec 32 := Scf.iv c0_i32_539 c1_i32_541 k0_t12
  let v730 : Index := Scalar.indexCast arg10
  let c0_555 : Index := 0#32
  let c0_556 : Index := 0#32
  ![v730.toNat, 0, 0]
def k0_dev7 (d0 : Dev nD) : Nat :=
  let c0_i32_291 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_290 : BitVec 32 := 1#32
  let v435 : BitVec 32 := Scalar.muli v7 c1_i32_290
  let v436 : BitVec 32 := Scalar.addi c0_i32_291 v435
  v436.toNat
def k0_dev8 (d0 : Dev nD) : Nat :=
  let c0_i32_326 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_325 : BitVec 32 := 1#32
  let v473 : BitVec 32 := Scalar.muli v5 c1_i32_325
  let v474 : BitVec 32 := Scalar.addi c0_i32_326 v473
  v474.toNat
def k0_off53 (d0 : Dev nD) (c0_i32_383 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_382 : BitVec 32 := 1#32
  let v537 : BitVec 32 := Scalar.addi v2 c1_i32_382
  let v538 : BitVec 32 := Scalar.subi v537 c0_i32_383
  let c8_i32_384 : BitVec 32 := 8#32
  let v539 : BitVec 32 := Scalar.addi v538 c8_i32_384
  let c4_i32_385 : BitVec 32 := 4#32
  let v540 : BitVec 32 := Scalar.remsi v539 c4_i32_385
  let c512_i32_386 : BitVec 32 := 512#32
  let v541 : BitVec 32 := Scalar.muli v540 c512_i32_386
  let c0_i32_400 : BitVec 32 := 0#32
  ![v541.toNat, 0]
def k0_dev9 (d0 : Dev nD) : Nat :=
  let c0_i32_399 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_398 : BitVec 32 := 1#32
  let v552 : BitVec 32 := Scalar.muli v7 c1_i32_398
  let v553 : BitVec 32 := Scalar.addi c0_i32_399 v552
  v553.toNat
def k0_off54 (d0 : Dev nD) (c0_i32_393 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_392 : BitVec 32 := 1#32
  let v547 : BitVec 32 := Scalar.subi v2 c1_i32_392
  let v548 : BitVec 32 := Scalar.addi v547 c0_i32_393
  let c8_i32_394 : BitVec 32 := 8#32
  let v549 : BitVec 32 := Scalar.addi v548 c8_i32_394
  let c4_i32_395 : BitVec 32 := 4#32
  let v550 : BitVec 32 := Scalar.remsi v549 c4_i32_395
  let c512_i32_396 : BitVec 32 := 512#32
  let v551 : BitVec 32 := Scalar.muli v550 c512_i32_396
  let c512_i32_405 : BitVec 32 := 512#32
  ![v551.toNat, 512]
def k0_dev10 (d0 : Dev nD) : Nat :=
  let c0_i32_404 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_403 : BitVec 32 := 1#32
  let v560 : BitVec 32 := Scalar.muli v5 c1_i32_403
  let v561 : BitVec 32 := Scalar.addi c0_i32_404 v560
  v561.toNat
def k0_dev11 (d0 : Dev nD) : Nat :=
  let c0_i32_451 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_450 : BitVec 32 := 1#32
  let v608 : BitVec 32 := Scalar.muli v7 c1_i32_450
  let v609 : BitVec 32 := Scalar.addi c0_i32_451 v608
  v609.toNat
def k0_dev12 (d0 : Dev nD) : Nat :=
  let c0_i32_456 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_455 : BitVec 32 := 1#32
  let v616 : BitVec 32 := Scalar.muli v5 c1_i32_455
  let v617 : BitVec 32 := Scalar.addi c0_i32_456 v616
  v617.toNat
def k0_dev13 (d0 : Dev nD) : Nat :=
  let c0_i32_504 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_503 : BitVec 32 := 1#32
  let v664 : BitVec 32 := Scalar.muli v7 c1_i32_503
  let v665 : BitVec 32 := Scalar.addi c0_i32_504 v664
  v665.toNat
def k0_dev14 (d0 : Dev nD) : Nat :=
  let c0_i32_509 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_508 : BitVec 32 := 1#32
  let v672 : BitVec 32 := Scalar.muli v5 c1_i32_508
  let v673 : BitVec 32 := Scalar.addi c0_i32_509 v672
  v673.toNat
abbrev stage0_0 : Fin 1 → Memref sig .tc .vmem S8x2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "s" => some ((11863283 / 134217728 : ℝ) : EReal)
  | _ => none
-- ==== ReferenceIdeal.lean ====
abbrev S1x2048x1024 : Shape := ⟨3, ![1, 2048, 1024]⟩
abbrev S1024x4096 : Shape := ⟨2, ![1024, 4096]⟩
abbrev S1x2048x32x128 : Shape := ⟨4, ![1, 2048, 32, 128]⟩
abbrev S4096x1024 : Shape := ⟨2, ![4096, 1024]⟩
abbrev S1x2048x4096 : Shape := ⟨3, ![1, 2048, 4096]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x32x2048x2048 : Shape := ⟨4, ![1, 32, 2048, 2048]⟩
abbrev S1x1x2048x2048 : Shape := ⟨4, ![1, 1, 2048, 2048]⟩
abbrev S1x32x2048 : Shape := ⟨3, ![1, 32, 2048]⟩
abbrev S1x32x2048x1 : Shape := ⟨4, ![1, 32, 2048, 1]⟩
abbrev S1x1x2048x1 : Shape := ⟨4, ![1, 1, 2048, 1]⟩
abbrev S1x32x128x2048 : Shape := ⟨4, ![1, 32, 128, 2048]⟩

abbrev nBuf : Space → Nat
  | .hbm => 67
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x4096, .f32⟩
  | .hbm, ⟨2, _⟩ => ⟨S1x2048x32x128, .f32⟩
  | .hbm, ⟨3, _⟩ => ⟨S1x2048x32x128, .f32⟩
  | .hbm, ⟨4, _⟩ => ⟨S4096x1024, .f32⟩
  | .hbm, ⟨5, _⟩ => ⟨S1x2048x4096, .f32⟩
  | .hbm, ⟨6, _⟩ => ⟨S1x2048x32x128, .f32⟩
  | .hbm, ⟨7, _⟩ => ⟨S2048, .i32⟩
  | .hbm, ⟨8, _⟩ => ⟨S2048x1, .i32⟩
  | .hbm, ⟨9, _⟩ => ⟨S2048, .i32⟩
  | .hbm, ⟨10, _⟩ => ⟨S1x2048, .i32⟩
  | .hbm, ⟨11, _⟩ => ⟨S2048x2048, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i1⟩
  | .hbm, ⟨18, _⟩ => ⟨S_, .i32⟩
  | .hbm, ⟨19, _⟩ => ⟨S1x2048, .i32⟩
  | .hbm, ⟨20, _⟩ => ⟨S1x2048, .i1⟩
  | .hbm, ⟨21, _⟩ => ⟨S_, .i32⟩
  | .hbm, ⟨22, _⟩ => ⟨S2048x1, .i32⟩
  | .hbm, ⟨23, _⟩ => ⟨S2048x1, .i1⟩
  | .hbm, ⟨24, _⟩ => ⟨S2048x2048, .i1⟩
  | .hbm, ⟨25, _⟩ => ⟨S2048x2048, .i1⟩
  | .hbm, ⟨26, _⟩ => ⟨S2048x2048, .i1⟩
  | .hbm, ⟨27, _⟩ => ⟨S2048x2048, .i1⟩
  | .hbm, ⟨28, _⟩ => ⟨S1x32x2048x2048, .f32⟩
  | .hbm, ⟨29, _⟩ => ⟨S_, .f32⟩
  | .hbm, ⟨30, _⟩ => ⟨S1x32x2048x2048, .f32⟩
  | .hbm, ⟨31, _⟩ => ⟨S1x32x2048x2048, .f32⟩
  | .hbm, ⟨32, _⟩ => ⟨S1x1x2048x2048, .i1⟩
  | .hbm, ⟨33, _⟩ => ⟨S_, .f32⟩
  | .hbm, ⟨34, _⟩ => ⟨S_, .f32⟩
  | .hbm, ⟨35, _⟩ => ⟨S1x32x2048x2048, .i1⟩
  | .hbm, ⟨36, _⟩ => ⟨S1x32x2048x2048, .f32⟩
  | .hbm, ⟨37, _⟩ => ⟨S1x32x2048x2048, .f32⟩
  | .hbm, ⟨38, _⟩ => ⟨S_, .f32⟩
  | .hbm, ⟨39, _⟩ => ⟨S1x32x2048, .f32⟩
  | .hbm, ⟨40, _⟩ => ⟨S1x32x2048x1, .f32⟩
  | .hbm, ⟨41, _⟩ => ⟨S1x32x2048x2048, .f32⟩
  | .hbm, ⟨42, _⟩ => ⟨S1x32x2048x2048, .f32⟩
  | .hbm, ⟨43, _⟩ => ⟨S1x32x2048x2048, .f32⟩
  | .hbm, ⟨44, _⟩ => ⟨S_, .i1⟩
  | .hbm, ⟨45, _⟩ => ⟨S2048, .i1⟩
  | .hbm, ⟨46, _⟩ => ⟨S1x1x2048x1, .i1⟩
  | .hbm, ⟨47, _⟩ => ⟨S_, .f32⟩
  | .hbm, ⟨48, _⟩ => ⟨S1x32x2048, .f32⟩
  | .hbm, ⟨49, _⟩ => ⟨S1x32x2048x1, .f32⟩
  | .hbm, ⟨50, _⟩ => ⟨S_, .f32⟩
  | .hbm, ⟨51, _⟩ => ⟨S_, .f32⟩
  | .hbm, ⟨52, _⟩ => ⟨S1x32x2048x1, .i1⟩
  | .hbm, ⟨53, _⟩ => ⟨S1x32x2048x1, .f32⟩
  | .hbm, ⟨54, _⟩ => ⟨S1x32x2048x1, .f32⟩
  | .hbm, ⟨55, _⟩ => ⟨S1x32x2048x2048, .f32⟩
  | .hbm, ⟨56, _⟩ => ⟨S1x32x2048x2048, .f32⟩
  | .hbm, ⟨57, _⟩ => ⟨S1x1x2048x1, .i1⟩
  | .hbm, ⟨58, _⟩ => ⟨S_, .f32⟩
  | .hbm, ⟨59, _⟩ => ⟨S_, .f32⟩
  | .hbm, ⟨60, _⟩ => ⟨S1x32x2048x2048, .i1⟩
  | .hbm, ⟨61, _⟩ => ⟨S1x32x2048x2048, .f32⟩
  | .hbm, ⟨62, _⟩ => ⟨S1x32x2048x2048, .f32⟩
  | .hbm, ⟨63, _⟩ => ⟨S1x32x128x2048, .f32⟩
  | .hbm, ⟨64, _⟩ => ⟨S1x2048x32x128, .f32⟩
  | .hbm, ⟨65, _⟩ => ⟨S1x2048x4096, .f32⟩
  | .hbm, ⟨66, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.KernelRun.Places.lean ====
/-
The places of memory the transfers move: the eight pieces of the result buffer (a chunk of 512 rows, half of
its columns each) and the six landing slots; what loads and stores through the buffers do to them; and how a
chunk's two blocks and its first rows, once stored, make up its two pieces.
-/
module

public import proofs.«01_k».proof.Proof.KernelRun.Blocks
public import Idealize.ShloMosaic.Lib.Pipeline.Value

@[expose] public section

noncomputable section

namespace Cert.KernelRun

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Pieces and slots -/

theorem inb2 {d off size : Fin 2 → ℕ} (h0 : off 0 + size 0 ≤ d 0) (h1 : off 1 + size 1 ≤ d 1) :
    ∀ a, off a + size a ≤ (⟨2, d⟩ : Shape).size a := fun a => by
  fin_cases a
  · exact h0
  · exact h1

/-- Half `h` of chunk `j` of the result buffer. -/
abbrev pRect (j : Fin 4) (h : Fin 2) : Rect S2048x1024 :=
  Rect.unit (s := S2048x1024) ![512 * j.val, 512 * h.val] S512x512.size
    (inb2 (show 512 * j.val + 512 ≤ 2048 by omega) (show 512 * h.val + 512 ≤ 1024 by omega))
abbrev pM (j : Fin 4) (h : Fin 2) : Memref sig .tc .vmem S512x512 .bf16 := obM.slice (pRect j h) (fun _ => rfl)

/-- The landing buffer of direction `h`, and its slot `s`. -/
def rsM : Fin 2 → Memref sig .tc .vmem S3x512x512 .bf16
  | 0 => rrM
  | 1 => rlM
abbrev sRect (s : Fin 3) : Rect S3x512x512 :=
  Rect.unit (s := S3x512x512) ![s.val, 0, 0] S1x512x512.size
    (inb3 (show s.val + 1 ≤ 3 by omega) (show 0 + 512 ≤ 512 by omega) (show 0 + 512 ≤ 512 by omega))
abbrev slM (h : Fin 2) (s : Fin 3) : Memref sig .tc .vmem S512x512 .bf16 :=
  ((rsM h).slice (sRect s) (fun _ => rfl)).squeeze S512x512 squeezes_S1x512x512_S512x512

/-- Device `c` has its half `h` of chunk `j`, holding `X`; or holding anything. -/
def piece (c : Dev nD) (j : Fin 4) (h : Fin 2) (X : FVec F S512x512 .bf16) : sProp 𝕄 := owns (c : Thread nD τ) (pM j h) fullShare X
def anyPiece (c : Dev nD) (j : Fin 4) (h : Fin 2) : sProp 𝕄 := iprop(∃ X, piece (F := F) c j h X)
/-- Slot `s` of direction `h` of device `c` holds `X`; or holds anything. -/
def slot (c : Dev nD) (h : Fin 2) (s : Fin 3) (X : FVec F S512x512 .bf16) : sProp 𝕄 := owns (c : Thread nD τ) (slM h s) fullShare X
def anySlot (c : Dev nD) (h : Fin 2) (s : Fin 3) : sProp 𝕄 := iprop(∃ X, slot (F := F) c h s X)

instance piece_storable (c : Dev nD) (j : Fin 4) (h : Fin 2) (X) : BI.Storable (upEmb : UEmb _ 𝕄) (piece (F := F) c j h X) := by unfold piece; infer_instance
instance anyPiece_storable (c : Dev nD) (j : Fin 4) (h : Fin 2) : BI.Storable (upEmb : UEmb _ 𝕄) (anyPiece (F := F) c j h) := by unfold anyPiece; infer_instance
instance slot_storable (c : Dev nD) (h : Fin 2) (s : Fin 3) (X) : BI.Storable (upEmb : UEmb _ 𝕄) (slot (F := F) c h s X) := by unfold slot; infer_instance
instance anySlot_storable (c : Dev nD) (h : Fin 2) (s : Fin 3) : BI.Storable (upEmb : UEmb _ 𝕄) (anySlot (F := F) c h s) := by unfold anySlot; infer_instance

/-! ## Loads and stores of pieces and slots -/

/-- Loading a piece reads what it holds. -/
theorem piece_load (c : Dev nD) (j : Fin 4) (h : Fin 2) (X : FVec F S512x512 .bf16) {off : Fin 2 → ℕ} {inb}
    (e : off = ![512 * j.val, 512 * h.val]) {hl} {α : Type} {Q : α → sProp 𝕄}
    {k : (S512x512.Idx → Elt F .bf16) → Prog (TpuEff nD τ sig (Elt F) Λ₀ .tc) α} :
    piece c j h X ⊢ iprop((piece c j h X -∗ Runs c (k X) Q)
      -∗ Runs (F := F) c (.op (.load obM (Rect.unit (s := S2048x1024) off S512x512.size inb).toLoadRect hl) k) Q) := by
  subst e
  unfold piece owns Runs
  iintro ⟨%f, %hf, Hp⟩ HQ
  iapply (wp_load 𝒱₀ (c : Thread nD τ) none Set.univ (m := obM) (r := (pRect j h).toLoadRect) (S := (pM j h).view.set) (by
    rw [View.set_slice_whole]; intro i hi
    obtain ⟨x, hx, rfl⟩ := Finset.mem_map.mp hi; exact hx)) $$ Hp
  iintro Hp
  subst hf
  iapply HQ
  iexists f
  isplitr; · ipureintro; rfl
  iexact Hp

/-- Storing into a piece: it holds what was stored. -/
theorem piece_store (c : Dev nD) (j : Fin 4) (h : Fin 2) (X w : FVec F S512x512 .bf16) {off : Fin 2 → ℕ} {inb}
    (e : off = ![512 * j.val, 512 * h.val]) {hx hm} {α : Type} {Q : α → sProp 𝕄}
    {k : PUnit → Prog (TpuEff nD τ sig (Elt F) Λ₀ .tc) α} :
    piece c j h X ⊢ iprop((piece c j h w -∗ Runs c (k ⟨⟩) Q)
      -∗ Runs (F := F) c (.op (.store obM (Rect.unit (s := S2048x1024) off S512x512.size inb) w Finset.univ hx hm) k) Q) := by
  subst e
  unfold piece owns Runs
  iintro ⟨%f, %hf, Hp⟩ HQ
  iapply (wp_store 𝒱₀ (c : Thread nD τ) none Set.univ (m := obM) (r := pRect j h) (Mk := Finset.univ) (S := (pM j h).view.set)
    (subset_of_eq rfl)) $$ Hp
  iintro Hp
  iapply HQ
  iexists _
  isplitr; · ipureintro; exact View.read_write_univ (v := (pM j h).view) f w
  iexact Hp

/-- Loading a slot: with its leading axis dropped, what it holds. -/
theorem slot_load (c : Dev nD) (h : Fin 2) (s : Fin 3) (X : FVec F S512x512 .bf16) (M : Memref sig .tc .vmem S3x512x512 .bf16)
    (hM : M = rsM h) {off : Fin 3 → ℕ} {inb} (e : off = ![s.val, 0, 0]) {hl} {α : Type} {Q : α → sProp 𝕄}
    {k : (S1x512x512.Idx → Elt F .bf16) → Prog (TpuEff nD τ sig (Elt F) Λ₀ .tc) α} :
    slot c h s X ⊢ iprop((∀ Y, ⌜shapeCast S512x512 Y shapeCasts_S1x512x512_S512x512 = X⌝ -∗ slot c h s X -∗ Runs c (k Y) Q)
      -∗ Runs (F := F) c (.op (.load M (Rect.unit (s := S3x512x512) off S1x512x512.size inb).toLoadRect hl) k) Q) := by
  subst e hM
  unfold slot owns Runs
  iintro ⟨%f, %hf, Hp⟩ HQ
  iapply (wp_load 𝒱₀ (c : Thread nD τ) none Set.univ (m := rsM h) (r := (sRect s).toLoadRect) (S := (slM h s).view.set) (by
    rw [View.set_reshape, View.set_slice]
    exact subset_of_eq rfl)) $$ Hp
  iintro Hp
  iapply HQ
  · ipureintro; exact hf
  iexists f
  isplitr; · ipureintro; exact hf
  iexact Hp

end Cert.KernelRun
-- ==== Proof.KernelIdealRun.Model.lean ====
/-
What one device of the attention kernel computes, as functions of the four arrays it holds: the two column
masks of a block of 256 query rows, the running sum over the eight heads, the block that is stored, the first
32 rows (which attend to every key), the 512-row chunk made of two blocks, and the partial sums that travel
round the ring. Nothing here speaks of memory; the modules beside this one say that the program computes these.
-/
module

public import proofs.«01_k».proof.Proof.Gen.KernelIdeal
public import proofs.«01_k».proof.Proof.Gen.KernelIdeal.Skeleton
public import Idealize.ShloMosaic.Lib.Memref

@[expose] public section

noncomputable section

namespace Cert.KernelIdealRun

open Cert.KernelIdeal Cert.KernelIdeal.Gen
open Idealize.ShloMosaic

variable {F : FTy → Type} [FloatOps F] [Named F]

/-! ## The ring -/

/-- The neighbour on the right. -/
def nxt (c : Dev nD) : Dev nD := ⟨(c.val + 1) % 4, Nat.mod_lt _ (by decide)⟩
/-- The neighbour on the left. -/
def prv (c : Dev nD) : Dev nD := ⟨(c.val + 3) % 4, Nat.mod_lt _ (by decide)⟩
/-- The neighbour to whom direction `h` sends: the right one for `0`, the left one for `1`. -/
def fwd (h : Fin 2) (c : Dev nD) : Dev nD := if h = 0 then nxt c else prv c
/-- The neighbour from whom direction `h` receives. -/
def bwd (h : Fin 2) (c : Dev nD) : Dev nD := if h = 0 then prv c else nxt c

/-- The index of a row and a column. -/
def at2 {m n : ℕ} (a : Fin m) (b : Fin n) : Shape.Idx ⟨2, ![m, n]⟩
  | ⟨0, _⟩ => a
  | ⟨1, _⟩ => b

/-! ## A block of 256 rows -/

/-- The elements of an array at a rectangle. -/
def cut {S : Shape} {α : Type} (X : S.Idx → α) (r : Rect S) : r.shape.Idx → α := fun i => X (r.idx i)

/-- The number of the block `b` of chunk `j`, as the word the program computes with. -/
def qword (j : Fin 4) (b : Fin 2) : BitVec 32 := BitVec.ofNat 32 (2 * j.val + b.val)

/-- The first key row of the window of the block numbered by the word `w`: two blocks of 128 before its own
    first row, kept between row 0 and row 1536. -/
def winStart (w : BitVec 32) : BitVec 32 :=
  Scalar.muli (Scalar.minsi 12#32 (Scalar.maxsi 0#32 (Scalar.subi (Scalar.muli w 2#32) 1#32))) 128#32

/-- The window's mask: a key within 128 rows of the query, or one of the first 32 keys. -/
def winMask (w : BitVec 32) : IVec S256x512 1 :=
  ori (cmpi .sle (absi (addi (subi (iota .tc S256x512 32 [0] iota_S256x512_d0_w32) (iota .tc S256x512 32 [1] iota_S256x512_d1_w32))
        (broadcast S256x512 (Scalar.subi (Scalar.muli w 256#32) (winStart w)))))
      (broadcast S256x512 128#32))
    (cmpi .slt (addi (broadcast S256x512 (winStart w)) (iota .tc S256x512 32 [1] iota_S256x512_d1_w32)) (broadcast S256x512 32#32))

/-- The mask of the first 128 keys taken separately: the first 32, for every block but the first one. -/
def headMask (w : BitVec 32) : IVec S256x128 1 :=
  andi (cmpi .slt (iota .tc S256x128 32 [1] iota_S256x128_d1_w32) (broadcast S256x128 32#32))
    (broadcast S256x128 (Scalar.cmpi .sgt w 0#32))

/-- The first key row of block `b` of chunk `j`, as a number. -/
def lo (j : Fin 4) (b : Fin 2) : ℕ := 128 * min 12 (2 * (2 * j.val + b.val) - 1)

theorem lo_le (j : Fin 4) (b : Fin 2) : lo j b + 512 ≤ 2048 := by unfold lo; omega

theorem inb3 {d off size : Fin 3 → ℕ} (h0 : off 0 + size 0 ≤ d 0) (h1 : off 1 + size 1 ≤ d 1) (h2 : off 2 + size 2 ≤ d 2) :
    ∀ a, off a + size a ≤ (⟨3, d⟩ : Shape).size a := fun a => by
  fin_cases a
  · exact h0
  · exact h1
  · exact h2

/-- 256 query rows of head `t`. -/
abbrev qRect (j : Fin 4) (b : Fin 2) (t : Fin 8) : Rect S8x2048x128 :=
  Rect.unit (s := S8x2048x128) ![t.val, 512 * j.val + 256 * b.val, 0] S1x256x128.size
    (inb3 (show t.val + 1 ≤ 8 by omega) (show 512 * j.val + 256 * b.val + 256 ≤ 2048 by omega) (show 0 + 128 ≤ 128 by omega))
/-- The 512 key rows of the window, of head `t`. -/
abbrev wRect (j : Fin 4) (b : Fin 2) (t : Fin 8) : Rect S8x2048x128 :=
  Rect.unit (s := S8x2048x128) ![t.val, lo j b, 0] S1x512x128.size
    (inb3 (show t.val + 1 ≤ 8 by omega) (lo_le j b) (show 0 + 128 ≤ 128 by omega))
/-- The first 128 key rows of head `t`. -/
abbrev gRect (t : Fin 8) : Rect S8x2048x128 :=
  Rect.unit (s := S8x2048x128) ![t.val, 0, 0] S1x128x128.size
    (inb3 (show t.val + 1 ≤ 8 by omega) (show 0 + 128 ≤ 2048 by omega) (show 0 + 128 ≤ 128 by omega))
/-- Head `t` of the output weights. -/
abbrev oRect (t : Fin 8) : Rect S8x128x1024 :=
  Rect.unit (s := S8x128x1024) ![t.val, 0, 0] S1x128x1024.size
    (inb3 (show t.val + 1 ≤ 8 by omega) (show 0 + 128 ≤ 128 by omega) (show 0 + 1024 ≤ 1024 by omega))
/-- The first 32 query rows of head `t`. -/
abbrev fRect (t : Fin 8) : Rect S8x2048x128 :=
  Rect.unit (s := S8x2048x128) ![t.val, 0, 0] S1x32x128.size
    (inb3 (show t.val + 1 ≤ 8 by omega) (show 0 + 32 ≤ 2048 by omega) (show 0 + 128 ≤ 128 by omega))
/-- Every row of head `t`. -/
abbrev aRect (t : Fin 8) : Rect S8x2048x128 :=
  Rect.unit (s := S8x2048x128) ![t.val, 0, 0] S1x2048x128.size
    (inb3 (show t.val + 1 ≤ 8 by omega) (show 0 + 2048 ≤ 2048 by omega) (show 0 + 128 ≤ 128 by omega))

/-- The four arrays a device reads: queries, keys, values (its eight heads of each) and output weights. -/
structure Ins (F : FTy → Type) where
  q : S8x2048x128.Idx → F .bf16
  k : S8x2048x128.Idx → F .bf16
  v : S8x2048x128.Idx → F .bf16
  wo : S8x128x1024.Idx → F .bf16

/-- The context of head `t` for block `b` of chunk `j`: the weighted mean of the values. -/
def ctx (I : Ins F) (j : Fin 4) (b : Fin 2) (t : Fin 8) : FVec F S256x128 .bf16 :=
  k0_pay1 (winMask (qword j b)) (headMask (qword j b)) (cut I.q (qRect j b t)) (cut I.k (wRect j b t))
    (cut I.k (gRect t)) (cut I.v (wRect j b t)) (cut I.v (gRect t))

/-- One head's contribution added to the sum so far. -/
def headAdd (I : Ins F) (j : Fin 4) (b : Fin 2) (t : Fin 8) (acc : FVec F S256x1024 .f32) : FVec F S256x1024 .f32 :=
  k0_pay14 acc (ctx I j b t) (cut I.wo (oRect t))

/-- The sum over the first `n` heads. -/
def heads (I : Ins F) (j : Fin 4) (b : Fin 2) : ℕ → FVec F S256x1024 .f32
  | 0 => k0_pay13
  | n + 1 => if h : n < 8 then headAdd I j b ⟨n, h⟩ (heads I j b n) else heads I j b n

/-- The block the device stores. -/
def blk (I : Ins F) (j : Fin 4) (b : Fin 2) : FVec F S256x1024 .bf16 := k0_pay15 (heads I j b 8)

/-! ## The first 32 rows -/

/-- One head's contribution to the first 32 rows. -/
def topAdd (I : Ins F) (t : Fin 8) (acc : FVec F S32x1024 .f32) : FVec F S32x1024 .f32 :=
  k0_pay24 acc (cut I.q (fRect t)) (cut I.k (aRect t)) (cut I.v (aRect t)) (cut I.wo (oRect t))

/-- The sum over the first `n` heads. -/
def tops (I : Ins F) : ℕ → FVec F S32x1024 .f32
  | 0 => k0_pay23
  | n + 1 => if h : n < 8 then topAdd I ⟨n, h⟩ (tops I n) else tops I n

/-- The first 32 rows as the device stores them. -/
def top (I : Ins F) : FVec F S32x1024 .bf16 := k0_pay25 (tops I 8)

/-! ## Chunks, and the sums that travel -/

/-- Row `r` of chunk `j` of what the device computes alone: the first 32 rows of chunk 0 are those that attend
    to every key, the others come from the chunk's two blocks. -/
def chunk (I : Ins F) (j : Fin 4) (r : Fin 512) (n : Fin 1024) : F .bf16 :=
  if h : j = 0 ∧ r.val < 32 then top I (at2 ⟨r.val, h.2⟩ n)
  else if h : r.val < 256 then blk I j 0 (at2 ⟨r.val, h⟩ n)
  else blk I j 1 (at2 ⟨r.val - 256, by omega⟩ n)

/-- Half `h` of chunk `j`: columns `512 h …`. -/
def part (I : Ins F) (j : Fin 4) (h : Fin 2) : FVec F S512x512 .bf16 :=
  fun i => chunk I j (i 0) ⟨512 * h.val + (i 1).val, by have := (i 1).isLt; have : (i 1).val < 512 := this; omega⟩

/-- What device `c` sends in direction `h` at step `s` of the first phase: its own part of its own chunk first,
    then what it received added to its own part of the same chunk. -/
def acc (I : Dev nD → Ins F) (h : Fin 2) : ℕ → Dev nD → FVec F S512x512 .bf16
  | 0, c => part (I c) c h
  | s + 1, c => addf (part (I c) ((bwd h)^[s + 1] c) h) (acc I h s (bwd h c))

/-- The finished half `h` of chunk `j`. -/
def tot (I : Dev nD → Ins F) (h : Fin 2) (j : Fin 4) : FVec F S512x512 .bf16 := acc I h 3 (bwd h j)

/-- The whole result. -/
def whole (I : Dev nD → Ins F) : FVec F S2048x1024 .bf16 := fun i =>
  tot I ⟨(i 1).val / 512, by have : (i 1).val < 1024 := (i 1).isLt; omega⟩ ⟨(i 0).val / 512, by have : (i 0).val < 2048 := (i 0).isLt; omega⟩
    (at2 ⟨(i 0).val % 512, Nat.mod_lt _ (by decide)⟩ ⟨(i 1).val % 512, Nat.mod_lt _ (by decide)⟩)

end Cert.KernelIdealRun
-- ==== Proof.KernelIdealRun.Blocks.lean ====
/-
The two loops over the eight heads, once for all twelve places the program runs them at: whatever offsets a
place names its rows by, where they are the rows of block `b` of chunk `j` the loop ends at `heads I j b 8`,
and the loop over the first 32 rows ends at `tops I 8`.
-/
module

public import proofs.«01_k».proof.Proof.KernelIdealRun.Model
public import Idealize.ShloMosaic.Lib.Pipeline.Launch
public import Idealize.ShloMosaic.Lib.Pipeline.Kit
public import Idealize.ShloMosaic.Lib.Tactic

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UB : Type := URounds (GSem nD τ sig) (Fin 2)
abbrev UU : Type := UR sig nD τ × UB

local notation "𝕄" => MT nD τ sig Unit (Elt F) ℕ UU ℕ

abbrev 𝒱₀ : Variants := Variants.none

/-- The program `p` of device `c` runs to `Q`. -/
abbrev Runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

abbrev qM : Memref sig .tc .vmem S8x2048x128 .bf16 := Memref.whole cc0_stg0_0
abbrev kM : Memref sig .tc .vmem S8x2048x128 .bf16 := Memref.whole cc0_stg1_0
abbrev vM : Memref sig .tc .vmem S8x2048x128 .bf16 := Memref.whole cc0_stg2_0
abbrev woM : Memref sig .tc .vmem S8x128x1024 .bf16 := Memref.whole cc0_stg3_0
abbrev outM : Memref sig .tc .vmem S2048x1024 .f32 := Memref.whole cc0_stg4_0
abbrev obM : Memref sig .tc .vmem S2048x1024 .bf16 := Memref.whole cc0_scratch0
abbrev rrM : Memref sig .tc .vmem S3x512x512 .bf16 := Memref.whole cc0_scratch1
abbrev rlM : Memref sig .tc .vmem S3x512x512 .bf16 := Memref.whole cc0_scratch2

/-- Device `c` holds its four input arrays. -/
def inputs (c : Dev nD) (I : Ins F) : sProp 𝕄 :=
  iprop((((c : Thread nD τ).loc cc0_stg0_0) ↦{fullShare} I.q) ∗ (((c : Thread nD τ).loc cc0_stg1_0) ↦{fullShare} I.k)
    ∗ (((c : Thread nD τ).loc cc0_stg2_0) ↦{fullShare} I.v) ∗ (((c : Thread nD τ).loc cc0_stg3_0) ↦{fullShare} I.wo))

theorem read_q (r : Rect S8x2048x128) (X : S8x2048x128.Idx → F .bf16) : qM.view.readAt (Elt F) r.toLoadRect X = cut X r := rfl
theorem read_k (r : Rect S8x2048x128) (X : S8x2048x128.Idx → F .bf16) : kM.view.readAt (Elt F) r.toLoadRect X = cut X r := rfl
theorem read_v (r : Rect S8x2048x128) (X : S8x2048x128.Idx → F .bf16) : vM.view.readAt (Elt F) r.toLoadRect X = cut X r := rfl
theorem read_w (r : Rect S8x128x1024) (X : S8x128x1024.Idx → F .bf16) : woM.view.readAt (Elt F) r.toLoadRect X = cut X r := rfl

/-- One trip of a block's loop, at whatever offsets. -/
def trip (o0 o1 o3 : Fin 3 → ℕ) (o4 : Fin 3 → ℕ) (i0 : ∀ a, o0 a + S1x256x128.size a ≤ S8x2048x128.size a)
    (i1 : ∀ a, o1 a + S1x512x128.size a ≤ S8x2048x128.size a) (i3 : ∀ a, o3 a + S1x128x128.size a ≤ S8x2048x128.size a)
    (i4 : ∀ a, o4 a + S1x128x1024.size a ≤ S8x128x1024.size a) (mw : IVec S256x512 1) (mg : IVec S256x128 1)
    (acc : FVec F S256x1024 .f32) : Prog (TpuEff nD τ sig (Elt F) Λ₀ .tc) (FVec F S256x1024 .f32) := do
  let x1 : Vec F S1x256x128 .bf16 ← Prog.lift (.load qM (Rect.unit (s := S8x2048x128) o0 S1x256x128.size i0).toLoadRect (View.loadsAt_vmem h_S1x256x128))
  let x2 : Vec F S1x512x128 .bf16 ← Prog.lift (.load kM (Rect.unit (s := S8x2048x128) o1 S1x512x128.size i1).toLoadRect (View.loadsAt_vmem h_S1x512x128))
  let x3 : Vec F S1x128x128 .bf16 ← Prog.lift (.load kM (Rect.unit (s := S8x2048x128) o3 S1x128x128.size i3).toLoadRect (View.loadsAt_vmem h_S1x128x128))
  let x4 : Vec F S1x512x128 .bf16 ← Prog.lift (.load vM (Rect.unit (s := S8x2048x128) o1 S1x512x128.size i1).toLoadRect (View.loadsAt_vmem h_S1x512x128))
  let x5 : Vec F S1x128x128 .bf16 ← Prog.lift (.load vM (Rect.unit (s := S8x2048x128) o3 S1x128x128.size i3).toLoadRect (View.loadsAt_vmem h_S1x128x128))
  let x6 : Vec F S1x128x1024 .bf16 ← Prog.lift (.load woM (Rect.unit (s := S8x128x1024) o4 S1x128x1024.size i4).toLoadRect (View.loadsAt_vmem h_S1x128x1024))
  pure (k0_pay14 acc (k0_pay1 mw mg x1 x2 x3 x4 x5) x6)

/-- At the rows of block `b` of chunk `j`, a trip adds head `t`. -/
theorem trip_runs (c : Dev nD) (I : Ins F) (j : Fin 4) (b : Fin 2) (t : Fin 8) {o0 o1 o3 o4 : Fin 3 → ℕ} {i0 i1 i3 i4}
    {mw : IVec S256x512 1} {mg : IVec S256x128 1} (acc : FVec F S256x1024 .f32)
    (e0 : o0 = ![t.val, 512 * j.val + 256 * b.val, 0]) (e1 : o1 = ![t.val, lo j b, 0]) (e3 : o3 = ![t.val, 0, 0])
    (e4 : o4 = ![t.val, 0, 0]) (ew : mw = winMask (qword j b)) (eg : mg = headMask (qword j b)) (Q : FVec F S256x1024 .f32 → sProp 𝕄) :
    inputs c I ⊢ iprop((inputs c I -∗ Q (headAdd I j b t acc)) -∗ Runs c (trip o0 o1 o3 o4 i0 i1 i3 i4 mw mg acc) Q) := by
  subst e0 e1 e3 e4 ew eg
  unfold inputs trip Runs headAdd ctx
  simp only [Prog.lift, Prog.bind_op, Prog.bind_ret, Prog.pure_eq_ret]
  iintro ⟨Hq, Hk, Hv, Hw⟩ HQ
  iapply (wp_load 𝒱₀ (c : Thread nD τ) none Set.univ (m := qM) (Finset.subset_univ _)) $$ Hq; iintro Hq
  iapply (wp_load 𝒱₀ (c : Thread nD τ) none Set.univ (m := kM) (Finset.subset_univ _)) $$ Hk; iintro Hk
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := vM) (Finset.subset_univ _)) $$ Hv; iintro Hv
  iapply (wp_load 𝒱₀ (c : Thread nD τ) none Set.univ (m := woM) (Finset.subset_univ _)) $$ Hw; iintro Hw
  rw [wp_ret]; imodintro
  rw [read_q, read_k, read_k, read_v, read_v, read_w]
  iapply HQ
  isplitl [Hq]; · iexact Hq
  isplitl [Hk]; · iexact Hk
  isplitl [Hv]; · iexact Hv
  iexact Hw

/-- A loop each of whose trips adds its head ends at the sum over the eight heads. -/
theorem heads_run (c : Dev nD) (I : Ins F) (j : Fin 4) (b : Fin 2) {lb ub st : BitVec 32} (hok : Scf.OK lb ub st)
    (hT : Scf.trips lb ub st = 8) {init : FVec F S256x1024 .f32} (hinit : init = k0_pay13)
    (body : Fin (Scf.trips lb ub st) → FVec F S256x1024 .f32 → Prog (TpuEff nD τ sig (Elt F) Λ₀ .tc) (FVec F S256x1024 .f32))
    (hbody : ∀ (t : Fin (Scf.trips lb ub st)) acc, ∃ (o0 o1 o3 o4 : Fin 3 → ℕ) (i0 : _) (i1 : _) (i3 : _) (i4 : _) (mw : _) (mg : _),
      o0 = ![t.val, 512 * j.val + 256 * b.val, 0] ∧ o1 = ![t.val, lo j b, 0] ∧ o3 = ![t.val, 0, 0] ∧ o4 = ![t.val, 0, 0]
        ∧ mw = winMask (qword j b) ∧ mg = headMask (qword j b) ∧ body t acc = trip o0 o1 o3 o4 i0 i1 i3 i4 mw mg acc)
    {α : Type} {kk : FVec F S256x1024 .f32 → Prog (TpuEff nD τ sig (Elt F) Λ₀ .tc) α} {Q : α → sProp 𝕄} :
    inputs c I ⊢ iprop((inputs c I -∗ Runs c (kk (heads I j b 8)) Q) -∗ Runs c (Scf.for lb ub st hok init body >>= kk) Q) := by
  subst hinit
  have key := Scf.wp_for_bind (frame (nD := nD) (τ := τ) (sig := sig) (Ix := Unit) (Val := Elt F) (Name := ℕ) (U := UU) (Lvl := ℕ)) (wpE (defs₀ (F := F)) 𝒱₀ (c : Thread nD τ) none) Set.univ lb ub st hok k0_pay13 body
    (fun n acc => iprop(⌜acc = heads I j b n⌝ ∗ inputs c I)) (fun t acc => by
      obtain ⟨o0, o1, o3, o4, i0, i1, i3, i4, mw, mg, e0, e1, e3, e4, ew, eg, hb⟩ := hbody t acc
      have ht : t.val < 8 := hT ▸ t.isLt
      rw [hb]
      iintro ⟨%ha, HI⟩
      subst ha
      iapply (trip_runs c I j b ⟨t.val, ht⟩ _ e0 e1 e3 e4 ew eg _) $$ HI
      iintro HI
      isplitr
      · ipureintro; rw [heads, dif_pos ht]
      · iexact HI) (kk := kk) (Q := Q)
  iintro HI HK
  iapply key $$ [HI]
  · isplitr; · ipureintro; rfl
    iexact HI
  iintro %acc ⟨%ha, HI⟩
  subst ha
  rw [hT]
  iapply HK $$ HI

/-- One trip of the loop over the first 32 rows, at whatever offsets. -/
def topTrip (o0 o1 o4 : Fin 3 → ℕ) (i0 : ∀ a, o0 a + S1x32x128.size a ≤ S8x2048x128.size a)
    (i1 : ∀ a, o1 a + S1x2048x128.size a ≤ S8x2048x128.size a) (i4 : ∀ a, o4 a + S1x128x1024.size a ≤ S8x128x1024.size a)
    (acc : FVec F S32x1024 .f32) : Prog (TpuEff nD τ sig (Elt F) Λ₀ .tc) (FVec F S32x1024 .f32) := do
  let x1 : Vec F S1x32x128 .bf16 ← Prog.lift (.load qM (Rect.unit (s := S8x2048x128) o0 S1x32x128.size i0).toLoadRect (View.loadsAt_vmem h_S1x32x128))
  let x2 : Vec F S1x2048x128 .bf16 ← Prog.lift (.load kM (Rect.unit (s := S8x2048x128) o1 S1x2048x128.size i1).toLoadRect (View.loadsAt_vmem h_S1x2048x128))
  let x3 : Vec F S1x2048x128 .bf16 ← Prog.lift (.load vM (Rect.unit (s := S8x2048x128) o1 S1x2048x128.size i1).toLoadRect (View.loadsAt_vmem h_S1x2048x128))
  let x4 : Vec F S1x128x1024 .bf16 ← Prog.lift (.load woM (Rect.unit (s := S8x128x1024) o4 S1x128x1024.size i4).toLoadRect (View.loadsAt_vmem h_S1x128x1024))
  pure (k0_pay24 acc x1 x2 x3 x4)

theorem topTrip_runs (c : Dev nD) (I : Ins F) (t : Fin 8) {o0 o1 o4 : Fin 3 → ℕ} {i0 i1 i4} (acc : FVec F S32x1024 .f32)
    (e0 : o0 = ![t.val, 0, 0]) (e1 : o1 = ![t.val, 0, 0]) (e4 : o4 = ![t.val, 0, 0]) (Q : FVec F S32x1024 .f32 → sProp 𝕄) :
    inputs c I ⊢ iprop((inputs c I -∗ Q (topAdd I t acc)) -∗ Runs c (topTrip o0 o1 o4 i0 i1 i4 acc) Q) := by
  subst e0 e1 e4
  unfold inputs topTrip Runs topAdd
  simp only [Prog.lift, Prog.bind_op, Prog.bind_ret, Prog.pure_eq_ret]
  iintro ⟨Hq, Hk, Hv, Hw⟩ HQ
  iapply (wp_load 𝒱₀ (c : Thread nD τ) none Set.univ (m := qM) (Finset.subset_univ _)) $$ Hq; iintro Hq
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := woM) (Finset.subset_univ _)) $$ Hw; iintro Hw
  rw [wp_ret]; imodintro
  rw [read_q, read_k, read_v, read_w]
  iapply HQ
  isplitl [Hq]; · iexact Hq
  isplitl [Hk]; · iexact Hk
  isplitl [Hv]; · iexact Hv
  iexact Hw

theorem tops_run (c : Dev nD) (I : Ins F) {lb ub st : BitVec 32} (hok : Scf.OK lb ub st)
    (hT : Scf.trips lb ub st = 8) {init : FVec F S32x1024 .f32} (hinit : init = k0_pay23)
    (body : Fin (Scf.trips lb ub st) → FVec F S32x1024 .f32 → Prog (TpuEff nD τ sig (Elt F) Λ₀ .tc) (FVec F S32x1024 .f32))
    (hbody : ∀ (t : Fin (Scf.trips lb ub st)) acc, ∃ (o0 o1 o4 : Fin 3 → ℕ) (i0 : _) (i1 : _) (i4 : _),
      o0 = ![t.val, 0, 0] ∧ o1 = ![t.val, 0, 0] ∧ o4 = ![t.val, 0, 0] ∧ body t acc = topTrip o0 o1 o4 i0 i1 i4 acc)
    {α : Type} {kk : FVec F S32x1024 .f32 → Prog (TpuEff nD τ sig (Elt F) Λ₀ .tc) α} {Q : α → sProp 𝕄} :
    inputs c I ⊢ iprop((inputs c I -∗ Runs c (kk (tops I 8)) Q) -∗ Runs c (Scf.for lb ub st hok init body >>= kk) Q) := by
  subst hinit
  have key := Scf.wp_for_bind (frame (nD := nD) (τ := τ) (sig := sig) (Ix := Unit) (Val := Elt F) (Name := ℕ) (U := UU) (Lvl := ℕ)) (wpE (defs₀ (F := F)) 𝒱₀ (c : Thread nD τ) none) Set.univ lb ub st hok k0_pay23 body
    (fun n acc => iprop(⌜acc = tops I n⌝ ∗ inputs c I)) (fun t acc => by
      obtain ⟨o0, o1, o4, i0, i1, i4, e0, e1, e4, hb⟩ := hbody t acc
      have ht : t.val < 8 := hT ▸ t.isLt
      rw [hb]
      iintro ⟨%ha, HI⟩
      subst ha
      iapply (topTrip_runs c I ⟨t.val, ht⟩ _ e0 e1 e4 _) $$ HI
      iintro HI
      isplitr
      · ipureintro; rw [tops, dif_pos ht]
      · iexact HI) (kk := kk) (Q := Q)
  iintro HI HK
  iapply key $$ [HI]
  · isplitr; · ipureintro; rfl
    iexact HI
  iintro %acc ⟨%ha, HI⟩
  subst ha
  rw [hT]
  iapply HK $$ HI

end Cert.KernelIdealRun
-- ==== Proof.KernelIdealRun.Places.lean ====
/-
The places of memory the transfers move: the eight pieces of the result buffer (a chunk of 512 rows, half of
its columns each) and the six landing slots; what loads and stores through the buffers do to them; and how a
chunk's two blocks and its first rows, once stored, make up its two pieces.
-/
module

public import proofs.«01_k».proof.Proof.KernelIdealRun.Blocks
public import Idealize.ShloMosaic.Lib.Pipeline.Value

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Pieces and slots -/

theorem inb2 {d off size : Fin 2 → ℕ} (h0 : off 0 + size 0 ≤ d 0) (h1 : off 1 + size 1 ≤ d 1) :
    ∀ a, off a + size a ≤ (⟨2, d⟩ : Shape).size a := fun a => by
  fin_cases a
  · exact h0
  · exact h1

/-- Half `h` of chunk `j` of the result buffer. -/
abbrev pRect (j : Fin 4) (h : Fin 2) : Rect S2048x1024 :=
  Rect.unit (s := S2048x1024) ![512 * j.val, 512 * h.val] S512x512.size
    (inb2 (show 512 * j.val + 512 ≤ 2048 by omega) (show 512 * h.val + 512 ≤ 1024 by omega))
abbrev pM (j : Fin 4) (h : Fin 2) : Memref sig .tc .vmem S512x512 .bf16 := obM.slice (pRect j h) (fun _ => rfl)

/-- The landing buffer of direction `h`, and its slot `s`. -/
def rsM : Fin 2 → Memref sig .tc .vmem S3x512x512 .bf16
  | 0 => rrM
  | 1 => rlM
abbrev sRect (s : Fin 3) : Rect S3x512x512 :=
  Rect.unit (s := S3x512x512) ![s.val, 0, 0] S1x512x512.size
    (inb3 (show s.val + 1 ≤ 3 by omega) (show 0 + 512 ≤ 512 by omega) (show 0 + 512 ≤ 512 by omega))
abbrev slM (h : Fin 2) (s : Fin 3) : Memref sig .tc .vmem S512x512 .bf16 :=
  ((rsM h).slice (sRect s) (fun _ => rfl)).squeeze S512x512 squeezes_S1x512x512_S512x512

/-- Device `c` has its half `h` of chunk `j`, holding `X`; or holding anything. -/
def piece (c : Dev nD) (j : Fin 4) (h : Fin 2) (X : FVec F S512x512 .bf16) : sProp 𝕄 := owns (c : Thread nD τ) (pM j h) fullShare X
def anyPiece (c : Dev nD) (j : Fin 4) (h : Fin 2) : sProp 𝕄 := iprop(∃ X, piece (F := F) c j h X)
/-- Slot `s` of direction `h` of device `c` holds `X`; or holds anything. -/
def slot (c : Dev nD) (h : Fin 2) (s : Fin 3) (X : FVec F S512x512 .bf16) : sProp 𝕄 := owns (c : Thread nD τ) (slM h s) fullShare X
def anySlot (c : Dev nD) (h : Fin 2) (s : Fin 3) : sProp 𝕄 := iprop(∃ X, slot (F := F) c h s X)

instance piece_storable (c : Dev nD) (j : Fin 4) (h : Fin 2) (X) : BI.Storable (upEmb : UEmb _ 𝕄) (piece (F := F) c j h X) := by unfold piece; infer_instance
instance anyPiece_storable (c : Dev nD) (j : Fin 4) (h : Fin 2) : BI.Storable (upEmb : UEmb _ 𝕄) (anyPiece (F := F) c j h) := by unfold anyPiece; infer_instance
instance slot_storable (c : Dev nD) (h : Fin 2) (s : Fin 3) (X) : BI.Storable (upEmb : UEmb _ 𝕄) (slot (F := F) c h s X) := by unfold slot; infer_instance
instance anySlot_storable (c : Dev nD) (h : Fin 2) (s : Fin 3) : BI.Storable (upEmb : UEmb _ 𝕄) (anySlot (F := F) c h s) := by unfold anySlot; infer_instance

/-! ## Loads and stores of pieces and slots -/

/-- Loading a piece reads what it holds. -/
theorem piece_load (c : Dev nD) (j : Fin 4) (h : Fin 2) (X : FVec F S512x512 .bf16) {off : Fin 2 → ℕ} {inb}
    (e : off = ![512 * j.val, 512 * h.val]) {hl} {α : Type} {Q : α → sProp 𝕄}
    {k : FVec F S512x512 .bf16 → Prog (TpuEff nD τ sig (Elt F) Λ₀ .tc) α} :
    piece c j h X ⊢ iprop((piece c j h X -∗ Runs c (k X) Q)
      -∗ Runs c (.op (.load obM (Rect.unit (s := S2048x1024) off S512x512.size inb).toLoadRect hl) k) Q) := by
  subst e
  unfold piece owns Runs
  iintro ⟨%f, %hf, Hp⟩ HQ
  iapply (wp_load 𝒱₀ (c : Thread nD τ) none Set.univ (m := obM) (r := (pRect j h).toLoadRect) (S := (pM j h).view.set) (by
    rw [View.set_slice_whole]; intro i hi
    obtain ⟨x, hx, rfl⟩ := Finset.mem_map.mp hi; exact hx)) $$ Hp
  iintro Hp
  subst hf
  iapply HQ
  iexists f
  isplitr; · ipureintro; rfl
  iexact Hp

/-- Storing into a piece: it holds what was stored. -/
theorem piece_store (c : Dev nD) (j : Fin 4) (h : Fin 2) (X w : FVec F S512x512 .bf16) {off : Fin 2 → ℕ} {inb}
    (e : off = ![512 * j.val, 512 * h.val]) {hx hm} {α : Type} {Q : α → sProp 𝕄}
    {k : PUnit → Prog (TpuEff nD τ sig (Elt F) Λ₀ .tc) α} :
    piece c j h X ⊢ iprop((piece c j h w -∗ Runs c (k ⟨⟩) Q)
      -∗ Runs c (.op (.store obM (Rect.unit (s := S2048x1024) off S512x512.size inb) w Finset.univ hx hm) k) Q) := by
  subst e
  unfold piece owns Runs
  iintro ⟨%f, %hf, Hp⟩ HQ
  iapply (wp_store 𝒱₀ (c : Thread nD τ) none Set.univ (m := obM) (r := pRect j h) (Mk := Finset.univ) (S := (pM j h).view.set)
    (subset_of_eq rfl)) $$ Hp
  iintro Hp
  iapply HQ
  iexists _
  isplitr; · ipureintro; exact View.read_write_univ (v := (pM j h).view) f w
  iexact Hp

/-- Loading a slot: with its leading axis dropped, what it holds. -/
theorem slot_load (c : Dev nD) (h : Fin 2) (s : Fin 3) (X : FVec F S512x512 .bf16) (M : Memref sig .tc .vmem S3x512x512 .bf16)
    (hM : M = rsM h) {off : Fin 3 → ℕ} {inb} (e : off = ![s.val, 0, 0]) {hl} {α : Type} {Q : α → sProp 𝕄}
    {k : FVec F S1x512x512 .bf16 → Prog (TpuEff nD τ sig (Elt F) Λ₀ .tc) α} :
    slot c h s X ⊢ iprop((∀ Y, ⌜shapeCast S512x512 Y shapeCasts_S1x512x512_S512x512 = X⌝ -∗ slot c h s X -∗ Runs c (k Y) Q)
      -∗ Runs c (.op (.load M (Rect.unit (s := S3x512x512) off S1x512x512.size inb).toLoadRect hl) k) Q) := by
  subst e hM
  unfold slot owns Runs
  iintro ⟨%f, %hf, Hp⟩ HQ
  iapply (wp_load 𝒱₀ (c : Thread nD τ) none Set.univ (m := rsM h) (r := (sRect s).toLoadRect) (S := (slM h s).view.set) (by
    rw [View.set_reshape, View.set_slice]
    exact subset_of_eq rfl)) $$ Hp
  iintro Hp
  iapply HQ
  · ipureintro; exact hf
  iexists f
  isplitr; · ipureintro; exact hf
  iexact Hp

end Cert.KernelIdealRun
-- ==== Proof.KernelIdealRun.Chunks.lean ====
/-
How a chunk of the result buffer is made: its two blocks of 256 rows stored one after the other, the first 32
rows of chunk 0 stored over them, and the 512 rows cut into their two halves.
-/
module

public import proofs.«01_k».proof.Proof.KernelIdealRun.Places

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The 512 rows of chunk `j`. -/
abbrev cRect (j : Fin 4) : Rect S2048x1024 :=
  Rect.unit (s := S2048x1024) ![512 * j.val, 0] ![512, 1024] (inb2 (show 512 * j.val + 512 ≤ 2048 by omega) (show 0 + 1024 ≤ 1024 by omega))

/-- Row `r`, column `n` of chunk `j` in the buffer. -/
def rowAt (j : Fin 4) (r : Fin 512) (n : Fin 1024) : S2048x1024.Idx := at2 (m := 2048) ⟨512 * j.val + r.val, by omega⟩ n

/-- Device `c` has chunk `j`, each element as `P` says. -/
def stage (c : Dev nD) (j : Fin 4) (P : Fin 512 → Fin 1024 → F .bf16 → Prop) : sProp 𝕄 :=
  iprop(∃ f : S2048x1024.Idx → F .bf16, ⌜∀ r n, P r n (f (rowAt j r n))⌝ ∗ (((c : Thread nD τ).loc cc0_scratch0) ↦[(cRect j).set]{fullShare} f))

theorem stage_mono (c : Dev nD) (j : Fin 4) {P P' : Fin 512 → Fin 1024 → F .bf16 → Prop} (h : ∀ r n x, P r n x → P' r n x) :
    stage c j P ⊢ stage c j P' := by
  unfold stage
  iintro ⟨%f, %hf, H⟩
  iexists f
  isplitr; · ipureintro; exact fun r n => h r n _ (hf r n)
  iexact H

theorem rows_sub (j : Fin 4) (a m : ℕ) (ham : a + m ≤ 512) {off : Fin 2 → ℕ} {inb} (e : off = ![512 * j.val + a, 0]) :
    (Rect.unit (s := S2048x1024) off ![m, 1024] inb).set ⊆ (cRect j).set := by
  subst e
  intro i hi
  rw [Rect.mem_set_unit] at hi ⊢
  intro x
  have := hi x
  fin_cases x
  · simp only [Fin.mk_zero, Fin.zero_eta, Matrix.cons_val_zero] at this ⊢; omega
  · simpa using this

/-- A load of rows of the chunk. -/
theorem stage_load (c : Dev nD) (j : Fin 4) (P : Fin 512 → Fin 1024 → F .bf16 → Prop) (a m : ℕ) (ham : a + m ≤ 512) {off : Fin 2 → ℕ} {inb}
    (e : off = ![512 * j.val + a, 0]) {hl} {α : Type} {Q : α → sProp 𝕄}
    {k : ((Rect.unit (s := S2048x1024) off ![m, 1024] inb).shape.Idx → F .bf16) → Prog (TpuEff nD τ sig (Elt F) Λ₀ .tc) α} :
    stage c j P ⊢ iprop((∀ X, stage c j P -∗ Runs c (k X) Q)
      -∗ Runs c (.op (.load obM (Rect.unit (s := S2048x1024) off ![m, 1024] inb).toLoadRect hl) k) Q) := by
  unfold stage Runs
  iintro ⟨%f, %hf, Hp⟩ HQ
  iapply (wp_load 𝒱₀ (c : Thread nD τ) none Set.univ (m := obM) (r := (Rect.unit (s := S2048x1024) off ![m, 1024] inb).toLoadRect) (S := (cRect j).set) (by
    intro i hi
    obtain ⟨x, hx, rfl⟩ := Finset.mem_map.mp hi; exact rows_sub j a m ham e hx)) $$ Hp
  iintro Hp
  iapply HQ
  iexists f
  isplitr; · ipureintro; exact hf
  iexact Hp

/-- A store of rows of the chunk: they hold what was stored, the others what they held. -/
theorem stage_store (c : Dev nD) (j : Fin 4) (P : Fin 512 → Fin 1024 → F .bf16 → Prop) (a m : ℕ) (ham : a + m ≤ 512) {off : Fin 2 → ℕ} {inb}
    (e : off = ![512 * j.val + a, 0]) {w : (⟨2, ![m, 1024]⟩ : Shape).Idx → F .bf16} {hx hm} {α : Type} {Q : α → sProp 𝕄}
    {k : PUnit → Prog (TpuEff nD τ sig (Elt F) Λ₀ .tc) α} :
    stage c j P ⊢ iprop((stage c j (fun r n x => if h : a ≤ r.val ∧ r.val < a + m then x = w (at2 ⟨r.val - a, by omega⟩ n) else P r n x) -∗ Runs c (k ⟨⟩) Q)
      -∗ Runs c (.op (.store obM (Rect.unit (s := S2048x1024) off ![m, 1024] inb) w Finset.univ hx hm) k) Q) := by
  subst e
  unfold stage Runs
  iintro ⟨%f, %hf, Hp⟩ HQ
  iapply (wp_store 𝒱₀ (c : Thread nD τ) none Set.univ (m := obM) (r := Rect.unit (s := S2048x1024) ![512 * j.val + a, 0] ![m, 1024] inb) (Mk := Finset.univ) (S := (cRect j).set)
    (by rw [View.setOn_univ, View.set_slice_whole]; exact rows_sub j a m ham rfl)) $$ Hp
  iintro Hp
  iapply HQ
  iexists _
  isplitr; swap; · iexact Hp
  ipureintro
  intro r n
  split
  case isTrue h =>
    have hi : rowAt j r n = (obM.access (Rect.unit (s := S2048x1024) ![512 * j.val + a, 0] ![m, 1024] inb)).emb (at2 ⟨r.val - a, by omega⟩ n) := by
      funext x
      apply Fin.ext
      fin_cases x
      · show 512 * j.val + r.val = 512 * j.val + a + 1 * (r.val - a); omega
      · show n.val = 0 + 1 * n.val; omega
    rw [hi]
    exact View.write_emb_of_mem (Val := Elt F) (v := obM.access (Rect.unit (s := S2048x1024) ![512 * j.val + a, 0] ![m, 1024] inb)) f w (Finset.mem_univ _)
  case isFalse h =>
    rw [View.write_of_not_mem]
    · exact hf r n
    · rw [View.setOn_univ, View.set_slice_whole, Rect.mem_set_unit]
      intro hh
      have := hh 0
      simp only [Matrix.cons_val_zero] at this
      have e2 : (rowAt j r n 0).val = 512 * j.val + r.val := rfl
      rw [e2] at this
      omega

theorem cRect_eq (j : Fin 4) : (cRect j).set = (pRect j 0).set ∪ (pRect j 1).set := by
  ext i
  rw [Finset.mem_union, Rect.mem_set_unit, Rect.mem_set_unit, Rect.mem_set_unit, Fin.forall_fin_two, Fin.forall_fin_two, Fin.forall_fin_two]
  simp
  have : (i 1).val < 1024 := (i 1).isLt
  omega

/-- The chunk cut into its halves. -/
theorem stage_pieces (c : Dev nD) (I : Ins F) (j : Fin 4) :
    stage c j (fun r n x => x = chunk I j r n) ⊢ iprop(piece c j 0 (part I j 0) ∗ piece c j 1 (part I j 1)) := by
  unfold stage piece owns
  iintro ⟨%f, %hf, Hp⟩
  have hset : (cRect j).set = (pM j 0).view.set ∪ (pM j 1).view.set := by
    rw [View.set_slice_whole, View.set_slice_whole]
    exact cRect_eq j
  have hdis : Disjoint (pM j 0).view.set (pM j 1).view.set := by
    rw [View.set_slice_whole, View.set_slice_whole]
    exact Rect.unit_disjoint 1 (.inl (by simp))
  rw [hset]
  ihave H := (pointsTo_union hdis).1 $$ Hp
  icases H with ⟨H0, H1⟩
  have hread : ∀ (h : Fin 2) (x : S512x512.Idx), (pM j h).view.read (Elt F) f x = f (rowAt j (x 0) ⟨512 * h.val + (x 1).val, by have : (x 1).val < 512 := (x 1).isLt; omega⟩) := by
    intro h x
    show f _ = f _
    congr 1
    funext y
    apply Fin.ext
    fin_cases y
    · show 512 * j.val + 1 * (x 0).val = 512 * j.val + (x 0).val; omega
    · show 512 * h.val + 1 * (x 1).val = 512 * h.val + (x 1).val; omega
  isplitl [H0]
  · iexists f
    isplitr; · ipureintro; funext x; rw [hread]; exact hf _ _
    iexact H0
  · iexists f
    isplitr; · ipureintro; funext x; rw [hread]; exact hf _ _
    iexact H1

/-! ## A chunk's content -/

/-- With both blocks stored, a chunk other than the first holds its content. -/
theorem stage_blocks (c : Dev nD) (I : Ins F) (j : Fin 4) (hj : j ≠ 0) {P : Fin 512 → Fin 1024 → F .bf16 → Prop} :
    stage c j (fun r n x => if h : 256 ≤ r.val ∧ r.val < 256 + 256 then x = blk I j 1 (at2 ⟨r.val - 256, by omega⟩ n)
        else if h : 0 ≤ r.val ∧ r.val < 0 + 256 then x = blk I j 0 (at2 ⟨r.val - 0, by omega⟩ n) else P r n x)
      ⊢ stage c j (fun r n x => x = chunk I j r n) := by
  refine stage_mono c j fun r n x h => ?_
  unfold chunk
  rw [dif_neg (fun hh => hj hh.1)]
  by_cases hr : r.val < 256
  · rw [dif_neg (by omega), dif_pos (by omega)] at h
    rw [dif_pos hr]; exact h
  · rw [dif_pos (by omega)] at h
    rw [dif_neg hr]; exact h

/-- With the first 32 rows stored over the blocks, the first chunk holds its content. -/
theorem stage_tops (c : Dev nD) (I : Ins F) {P : Fin 512 → Fin 1024 → F .bf16 → Prop} :
    stage c 0 (fun r n x => if h : 0 ≤ r.val ∧ r.val < 0 + 32 then x = k0_pay25 (tops I 8) (at2 ⟨r.val - 0, by omega⟩ n)
        else if h : 256 ≤ r.val ∧ r.val < 256 + 256 then x = blk I 0 1 (at2 ⟨r.val - 256, by omega⟩ n)
        else if h : 0 ≤ r.val ∧ r.val < 0 + 256 then x = blk I 0 0 (at2 ⟨r.val - 0, by omega⟩ n) else P r n x)
      ⊢ stage c 0 (fun r n x => x = chunk I 0 r n) := by
  refine stage_mono c 0 fun r n x h => ?_
  unfold chunk top
  by_cases h32 : r.val < 32
  · rw [dif_pos (by omega)] at h
    rw [dif_pos ⟨rfl, h32⟩]; exact h
  rw [dif_neg (fun hh => h32 hh.2)]
  rw [dif_neg (by omega)] at h
  by_cases hr : r.val < 256
  · rw [dif_neg (by omega), dif_pos (by omega)] at h
    rw [dif_pos hr]; exact h
  · rw [dif_pos (by omega)] at h
    rw [dif_neg hr]; exact h

/-- The step that stores the first 32 rows, taken where `p` holds, for the first chunk alone, with whatever comes after it. -/
theorem top_run (c : Dev nD) (I : Ins F) (j : Fin 4) {p : Prop} [Decidable p] (hp : p ↔ j = 0) {P : Fin 512 → Fin 1024 → F .bf16 → Prop}
    {lb ub st : BitVec 32} (hok : p → Scf.OK lb ub st) (hT : Scf.trips lb ub st = 8) {init : FVec F S32x1024 .f32} (hinit : init = k0_pay23)
    (body : p → Fin (Scf.trips lb ub st) → FVec F S32x1024 .f32 → Prog (TpuEff nD τ sig (Elt F) Λ₀ .tc) (FVec F S32x1024 .f32))
    (hbody : ∀ (h : p) (t : Fin (Scf.trips lb ub st)) acc, ∃ (o0 o1 o4 : Fin 3 → ℕ) (i0 : _) (i1 : _) (i4 : _),
      o0 = ![t.val, 0, 0] ∧ o1 = ![t.val, 0, 0] ∧ o4 = ![t.val, 0, 0] ∧ body h t acc = topTrip o0 o1 o4 i0 i1 i4 acc)
    {w : FVec F S32x1024 .f32 → FVec F S32x1024 .bf16} (hw : w = k0_pay25) {hl : p → _} {hx : p → FVec F S32x1024 .f32 → _} {hm : p → FVec F S32x1024 .f32 → _}
    {α β : Type} {Q : α → sProp 𝕄} {r : Prog (TpuEff nD τ sig (Elt F) Λ₀ .tc) β} {rest : β → Prog (TpuEff nD τ sig (Elt F) Λ₀ .tc) α} :
    iprop(inputs c I ∗ stage c j (fun r n x => if h : 256 ≤ r.val ∧ r.val < 256 + 256 then x = blk I j 1 (at2 ⟨r.val - 256, by omega⟩ n)
        else if h : 0 ≤ r.val ∧ r.val < 0 + 256 then x = blk I j 0 (at2 ⟨r.val - 0, by omega⟩ n) else P r n x))
      ⊢ iprop((inputs c I -∗ piece c j 0 (part I j 0) -∗ piece c j 1 (part I j 1) -∗ Runs c (r >>= rest) Q)
        -∗ Runs c ((if h : p then (Scf.for lb ub st (hok h) init (body h) >>= fun v =>
            (.op (.load obM (Rect.unit (s := S2048x1024) ![0, 0] S32x1024.size inb_S2048x1024_S32x1024_0_0).toLoadRect (hl h)) fun _ =>
              .op (.store obM (Rect.unit (s := S2048x1024) ![0, 0] S32x1024.size inb_S2048x1024_S32x1024_0_0) (w v) Finset.univ (hx h v) (hm h v)) fun _ => r))
          else r) >>= rest) Q) := by
  iintro ⟨HI, HS⟩ HQ
  subst hw
  by_cases h : p
  · have hj := hp.1 h
    subst hj
    rw [dif_pos h, Prog.bind_assoc]
    iapply (tops_run c I (hok h) hT hinit (body h) (hbody h)) $$ HI
    iintro HI
    simp only [Prog.bind_op]
    iapply (stage_load c 0 _ 0 32 (by decide) (off := ![0, 0]) rfl) $$ HS
    iintro %X HS
    iapply (stage_store c 0 _ 0 32 (by decide) (off := ![0, 0]) rfl) $$ HS
    iintro HS
    ihave HS := (stage_tops c I) $$ HS
    ihave HS := (stage_pieces c I 0) $$ HS
    icases HS with ⟨H0, H1⟩
    iapply HQ $$ HI H0 H1
  · rw [dif_neg h]
    ihave HS := (stage_blocks c I j (fun hj => h (hp.2 hj))) $$ HS
    ihave HS := (stage_pieces c I j) $$ HS
    icases HS with ⟨H0, H1⟩
    iapply HQ $$ HI H0 H1

end Cert.KernelIdealRun
-- ==== Proof.KernelIdealRun.Sched.lean ====
/-
The schedule of the transfers. Direction 0 passes to the next device, direction 1 to the one before; a direction
makes six transfers per device: steps 0, 1, 2 pass the running sums of a chunk on, steps 3, 4, 5 pass the
finished chunks on. Each transfer has a cell counting its sending, on the device that sends, and one counting its
arrival, on the device it reaches; and each device has one barrier cell its two neighbours signal at the start.
What travels with an arrival, besides the data: the ownership of those pieces of other devices' buffers that
the receiver, or a device further on, will write a finished chunk to.
-/
module

public import proofs.«01_k».proof.Proof.KernelIdealRun.Chunks

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- A transfer: its direction and its step. -/
abbrev Xfer : Type := Fin 2 × Fin 6

/-- The place of a transfer's semaphore in the two arrays of twelve. -/
def num (x : Xfer) : Fin 12 :=
  ⟨if x.2.val < 3 then 3 * x.1.val + x.2.val else 6 + 3 * x.1.val + (x.2.val - 3), by
    have := x.1.isLt; have := x.2.isLt; split <;> omega⟩

abbrev barS : Sem sig := sig.barrier 0 rfl
def sendS (x : Xfer) : DmaSem sig := ⟨5 + (num x).val, by have := (num x).isLt; show 5 + (num x).val < 29; omega⟩
def recvS (x : Xfer) : DmaSem sig := ⟨17 + (num x).val, by have := (num x).isLt; show 17 + (num x).val < 29; omega⟩

/-- What a semaphore counts: the sending (`false`) or the arrival (`true`) of a transfer, or neither. -/
def what (q : DmaSem sig) : Option (Bool × Xfer) :=
  (Finset.univ : Finset (Bool × Xfer)).toList.find? fun bx => (if bx.1 then recvS bx.2 else sendS bx.2) = q

theorem sendS_inj : Function.Injective sendS := by decide +kernel
theorem recvS_inj : Function.Injective recvS := by decide +kernel
theorem send_ne_recv : ∀ x y, sendS x ≠ recvS y := by decide +kernel

theorem what_of (q : DmaSem sig) (bx : Bool × Xfer) (h : (if bx.1 then recvS bx.2 else sendS bx.2) = q) : what q = some bx := by
  unfold what
  rcases hf : (Finset.univ : Finset (Bool × Xfer)).toList.find? (fun bx => (if bx.1 then recvS bx.2 else sendS bx.2) = q) with _ | by'
  · have := List.find?_eq_none.mp hf bx (Finset.mem_toList.mpr (Finset.mem_univ _))
    simp [h] at this
  · have := List.find?_some hf
    simp only [decide_eq_true_eq] at this
    rw [← h] at this
    obtain ⟨b, x⟩ := bx; obtain ⟨b', x'⟩ := by'
    cases b <;> cases b' <;> simp only [Bool.false_eq_true, if_true, if_false, reduceIte] at this
    · rw [hf, sendS_inj this]
    · exact absurd this.symm (send_ne_recv _ _)
    · exact absurd this (send_ne_recv _ _)
    · rw [hf, recvS_inj this]

theorem what_send (x : Xfer) : what (sendS x) = some (false, x) := what_of _ (false, x) rfl
theorem what_recv (x : Xfer) : what (recvS x) = some (true, x) := what_of _ (true, x) rfl

abbrev bCell (c : Dev nD) : GSem nD τ sig := ((c : Thread nD τ), .reg barS)
abbrev sCell (c : Dev nD) (x : Xfer) : GSem nD τ sig := ((c : Thread nD τ), .dma (sendS x))
abbrev vCell (c : Dev nD) (x : Xfer) : GSem nD τ sig := ((c : Thread nD τ), .dma (recvS x))

/-- The credit of a transfer: every one moves 512 × 512 elements. -/
abbrev N : ℕ := (pM 0 0).view.dmaCredit
theorem N_pos : 0 < N := View.dmaCredit_pos _ (by decide)

/-! ## What is handed over -/

/-- The pieces handed on before the transfer of step `s` from device `p`. -/
def fwds (h : Fin 2) : ℕ → Dev nD → sProp 𝕄
  | 0, _ => iprop(emp)
  | s + 1, p => iprop(anyPiece (bwd h p) ((bwd h)^[s + 1] p) h ∗ fwds h s (bwd h p))

/-- The arrival of a running sum from `p` in slot `s` of `d`; the sum's own piece at `p`, and those handed on. -/
def sumPay (I : Dev nD → Ins F) (d p : Dev nD) (h : Fin 2) (s : Fin 3) : sProp 𝕄 :=
  iprop((slot d h s (acc I h s.val p) ∗ fwds h s.val p) ∗ anyPiece p ((bwd h)^[s.val] p) h)

/-- The pieces still handed on with the arrival of a finished chunk at `d`. -/
def rest (h : Fin 2) : Fin 3 → Dev nD → sProp 𝕄
  | 0, d => iprop(anyPiece (bwd h (bwd h d)) d h ∗ anyPiece (fwd h d) d h)
  | 1, d => anyPiece (fwd h d) (bwd h d) h
  | 2, _ => iprop(emp)

/-- The arrival of a finished chunk at `d`. -/
def donePay (I : Dev nD → Ins F) (d : Dev nD) (h : Fin 2) (s : Fin 3) : sProp 𝕄 :=
  iprop(piece d ((bwd h)^[s.val] d) h (tot I h ((bwd h)^[s.val] d)) ∗ rest h s d)

/-- The sending of a finished chunk gives it back to the sender. -/
def backPay (I : Dev nD → Ins F) (c : Dev nD) (h : Fin 2) (s : Fin 3) : sProp 𝕄 :=
  piece c ((bwd h)^[s.val] (fwd h c)) h (tot I h ((bwd h)^[s.val] (fwd h c)))

def recvPay (I : Dev nD → Ins F) (d : Dev nD) (x : Xfer) : sProp 𝕄 :=
  if h : x.2.val < 3 then sumPay I d (bwd x.1 d) x.1 ⟨x.2.val, h⟩ else donePay I d x.1 ⟨x.2.val - 3, by omega⟩
def sendPay (I : Dev nD → Ins F) (c : Dev nD) (x : Xfer) : sProp 𝕄 :=
  if x.2.val < 3 then iprop(emp) else backPay I c x.1 ⟨x.2.val - 3, by omega⟩

/-- Device `d`'s six arrival cells of direction `h` are at their first round. -/
def ready (d : Dev nD) (h : Fin 2) : sProp 𝕄 := bigSep Finset.univ fun s : Fin 6 => reached ER (vCell d (h, s)) 0
instance ready_persistent (d : Dev nD) (h : Fin 2) : BI.Persistent (ready (F := F) d h) := by unfold ready; infer_instance
theorem ready_at (d : Dev nD) (h : Fin 2) (s : Fin 6) : ready (F := F) d h ⊢ reached ER (vCell d (h, s)) 0 := by
  unfold ready; exact bigSep_elim (Finset.mem_univ s)

/-- What a neighbour's signal brings device `d`: the neighbour's three slots for direction `h`. -/
def barPay (d : Dev nD) (h : Fin 2) : sProp 𝕄 :=
  iprop((anySlot (fwd h d) h 0 ∗ anySlot (fwd h d) h 1 ∗ anySlot (fwd h d) h 2) ∗ ready (fwd h d) h)

instance fwds_storable (h : Fin 2) (s : ℕ) (p : Dev nD) : BI.Storable (upEmb : UEmb _ 𝕄) (fwds (F := F) h s p) := by
  induction s generalizing p with
  | zero => unfold fwds; infer_instance
  | succ s ih => have := ih (bwd h p); unfold fwds; infer_instance
instance rest_storable (h : Fin 2) (s : Fin 3) (d : Dev nD) : BI.Storable (upEmb : UEmb _ 𝕄) (rest (F := F) h s d) := by
  match s with
  | 0 => unfold rest; infer_instance
  | 1 => unfold rest; infer_instance
  | 2 => unfold rest; infer_instance
instance recvPay_storable (I : Dev nD → Ins F) (d : Dev nD) (x : Xfer) : BI.Storable (upEmb : UEmb _ 𝕄) (recvPay I d x) := by
  unfold recvPay sumPay donePay; split <;> infer_instance
instance sendPay_storable (I : Dev nD → Ins F) (d : Dev nD) (x : Xfer) : BI.Storable (upEmb : UEmb _ 𝕄) (sendPay I d x) := by
  unfold sendPay backPay; split <;> infer_instance
instance barPay_storable (d : Dev nD) (h : Fin 2) : BI.Storable (upEmb : UEmb _ 𝕄) (barPay (F := F) d h) := by
  unfold barPay ready; infer_instance

/-! ## The schedule -/

def sched (I : Dev nD → Ins F) : Rounds.Schedule (GSem nD τ sig) (Fin 2) 𝕄 where
  duties g r := if r = 0 ∧ g.1.2 = .tc then
      match g.2 with
      | .reg s => if s = barS then Finset.univ else ∅
      | .dma q => if (what q).isSome then {0} else ∅
    else ∅
  unitless _ := False
  amount g _ _ := match g.2 with
    | .reg _ => 1
    | .dma _ => N
  payload g _ h := match g.2 with
    | .reg _ => barPay g.1.1 h
    | .dma q => match what q with
      | some (false, x) => sendPay I g.1.1 x
      | some (true, x) => recvPay I g.1.1 x
      | none => iprop(emp)
  amount_pos g _ _ _ := by
    rcases g.2 with _ | _
    · exact Nat.one_pos
    · exact N_pos

instance sched_storable (I : Dev nD → Ins F) (g : GSem nD τ sig) (r : ℕ) (h : Fin 2) :
    BI.Storable (upEmb : UEmb _ 𝕄) ((sched I).payload g r h) := by
  obtain ⟨t, s | q⟩ := g
  · show BI.Storable upEmb (barPay t.1 h); infer_instance
  · show BI.Storable upEmb (match what q with
      | some (false, x) => sendPay I t.1 x
      | some (true, x) => recvPay I t.1 x
      | none => iprop(emp))
    split <;> infer_instance

section Facts

variable (I : Dev nD → Ins F) (c : Dev nD) (x : Xfer)

theorem duties_bar : (sched I).duties (bCell c) 0 = Finset.univ := by dsimp only [sched]; rw [if_pos ⟨rfl, rfl⟩, if_pos rfl]
theorem duties_send : (sched I).duties (sCell c x) 0 = {0} := by
  dsimp only [sched]; rw [if_pos ⟨rfl, rfl⟩, what_send]; rfl
theorem duties_recv : (sched I).duties (vCell c x) 0 = {0} := by
  dsimp only [sched]; rw [if_pos ⟨rfl, rfl⟩, what_recv]; rfl
theorem duties_later (g : GSem nD τ sig) : ∀ r, 1 ≤ r → (sched I).duties g r = ∅ :=
  fun r hr => by dsimp only [sched]; rw [if_neg (fun h => by omega)]

theorem payload_bar (h : Fin 2) : (sched I).payload (bCell c) 0 h = barPay c h := rfl
theorem payload_send : (sched I).payload (sCell c x) 0 0 = sendPay I c x := by dsimp only [sched]; rw [what_send]
theorem payload_recv : (sched I).payload (vCell c x) 0 0 = recvPay I c x := by dsimp only [sched]; rw [what_recv]

theorem expect_bar : (sched I).expect (bCell c) 0 = 2 := by
  unfold Schedule.expect Schedule.amountOf; rw [duties_bar, Fin.sum_univ_two]; rfl
theorem expect_send : (sched I).expect (sCell c x) 0 = N := by
  unfold Schedule.expect Schedule.amountOf; rw [duties_send, Finset.sum_singleton]; rfl
theorem expect_recv : (sched I).expect (vCell c x) 0 = N := by
  unfold Schedule.expect Schedule.amountOf; rw [duties_recv, Finset.sum_singleton]; rfl

theorem rest_bar : bigSep ((sched I).duties (bCell c) 0 \ ∅) (fun h => (sched I).payload (bCell c) 0 h)
    = iprop(barPay (F := F) c 0 ∗ barPay c 1) := by
  rw [Finset.sdiff_empty, duties_bar, bigSep_fin_two]; rfl
theorem rest_send : bigSep ((sched I).duties (sCell c x) 0 \ ∅) (fun h => (sched I).payload (sCell c x) 0 h) = sendPay I c x := by
  rw [Finset.sdiff_empty, duties_send, bigSep_singleton, payload_send]
theorem rest_recv : bigSep ((sched I).duties (vCell c x) 0 \ ∅) (fun h => (sched I).payload (vCell c x) 0 h) = recvPay I c x := by
  rw [Finset.sdiff_empty, duties_recv, bigSep_singleton, payload_recv]

end Facts

/-! ## What each device owes, and the order of the waits -/

/-- What device `c` owes the transfers of the list. -/
def debt (c : Dev nD) : List Xfer → CellTallies nD τ sig Unit
  | [] => 0
  | x :: l => debt c l + tallyAt (vCell (fwd x.1 c) x) () N

/-- The order a device makes its transfers in. -/
def order : List Xfer := [(0, 0), (1, 0), (0, 1), (1, 1), (0, 2), (1, 2), (0, 3), (1, 3), (0, 4), (1, 4), (0, 5), (1, 5)]

/-- What device `c` owes at the start. -/
def O₀ (c : Dev nD) : CellTallies nD τ sig Unit := (debt c order + tallyAt (bCell (nxt c)) () 1) + tallyAt (bCell (prv c)) () 1

def L (g : GSem nD τ sig) : Finset Unit := if g.1.2 = .tc then {()} else ∅
/-- Sends wait below everything, then the barrier, then the arrivals by their step. -/
def lv (g : GSem nD τ sig) (_ : Unit) : ℕ := match g.2 with
  | .reg _ => 1
  | .dma q => match what q with
    | some (true, x) => 2 + x.2.val
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (x : Xfer) : lv (vCell c x) () = 2 + x.2.val := by dsimp only [lv]; rw [what_recv]
theorem lv_send (c : Dev nD) (x : Xfer) : lv (sCell c x) () = 0 := by dsimp only [lv]; rw [what_send]

theorem debt_pos (c : Dev nD) : ∀ (l : List Xfer) (g : GSem nD τ sig) (u : Unit), 0 < debt c l g u → ∃ x ∈ l, g = vCell (fwd x.1 c) x
  | [], g, u, h => absurd h (Nat.lt_irrefl 0)
  | x :: l, g, u, h => by
    unfold debt at h
    rw [Pi.add_apply, Finsupp.add_apply, tallyAt_apply] at h
    rcases Nat.add_pos_iff_pos_or_pos.mp h with h | h
    · obtain ⟨y, hy, e⟩ := debt_pos c l g u h
      exact ⟨y, List.mem_cons_of_mem _ hy, e⟩
    · split at h
      · next hg => exact ⟨x, List.mem_cons_self, hg.1⟩
      · exact absurd h (Nat.lt_irrefl 0)

theorem O₀_pos {c : Dev nD} {g : GSem nD τ sig} {u : Unit} (h : 0 < O₀ c g u) : (∃ d x, g = vCell d x) ∨ ∃ d, g = bCell d := by
  unfold O₀ at h
  rw [Pi.add_apply, Finsupp.add_apply, Pi.add_apply, Finsupp.add_apply, tallyAt_apply, tallyAt_apply] at h
  rcases Nat.add_pos_iff_pos_or_pos.mp h with h | h
  · rcases Nat.add_pos_iff_pos_or_pos.mp h with h | h
    · obtain ⟨x, -, e⟩ := debt_pos c _ g u h
      exact .inl ⟨_, x, e⟩
    · split at h
      · next hg => exact .inr ⟨_, hg.1⟩
      · exact absurd h (Nat.lt_irrefl 0)
  · split at h
    · next hg => exact .inr ⟨_, hg.1⟩
    · exact absurd h (Nat.lt_irrefl 0)

/-- A wait below every step still owed may be made. -/
theorem mayWait (c : Dev nD) (sm : SemLoc sig) (l : List Xfer) (n : ℕ) (hn : lv ((c : Thread nD τ), sm) () = n)
    (hl : ∀ x ∈ l, n < 2 + x.2.val) :
    (levAts L lv : sProp 𝕄) ⊢ MayWait (c : Thread nD τ) sm () (debt c l) :=
  MayOwe.of_cut (L := L) (lev := lv) n (fun p hp => by rw [Finset.mem_singleton.mp hp, L_tc]; exact Finset.mem_singleton_self _)
    (fun g u hg => by obtain ⟨x, -, rfl⟩ := debt_pos c l g u hg; rw [L_tc]; exact Finset.mem_singleton_self _)
    (fun p hp => by rw [Finset.mem_singleton.mp hp]; exact hn.le)
    (fun g u hg => by obtain ⟨x, hx, rfl⟩ := debt_pos c l g u hg; rw [lv_recv]; exact hl x hx)

/-! ## The records every device may consult -/

abbrev bEmb : Dev nD ↪ GSem nD τ sig := ⟨fun c => bCell c, fun _ _ h => congrArg (fun g : GSem nD τ sig => g.1.1) h⟩

/-- The semaphore of a transfer's end. -/
def endS (i : Bool × Xfer) : SemLoc sig := .dma (if i.1 then recvS i.2 else sendS i.2)
theorem endS_inj : Function.Injective endS := fun i j h => by
  have h' := (SemLoc.dma.injEq ..).mp h
  exact Option.some.inj ((what_of _ i rfl).symm.trans ((congrArg what h').trans (what_of _ j rfl)))

def dEmb : Dev nD × (Bool × Xfer) ↪ GSem nD τ sig :=
  ⟨fun ci => ((ci.1 : Thread nD τ), endS ci.2), fun _ _ h =>
    Prod.ext (congrArg (fun g : GSem nD τ sig => g.1.1) h) (endS_inj (congrArg Prod.snd h))⟩

abbrev bCells : Finset (GSem nD τ sig) := Finset.univ.map bEmb
abbrev dCells : Finset (GSem nD τ sig) := Finset.univ.map dEmb

theorem bar_mem (c : Dev nD) : bCell c ∈ (bCells ∪ dCells : Finset (GSem nD τ sig)) :=
  Finset.mem_union_left _ (Finset.mem_map_of_mem bEmb (Finset.mem_univ c))
theorem send_mem (c : Dev nD) (x : Xfer) : sCell c x ∈ (bCells ∪ dCells : Finset (GSem nD τ sig)) :=
  Finset.mem_union_right _ (Finset.mem_map_of_mem dEmb (Finset.mem_univ (c, (false, x))))
theorem recv_mem (c : Dev nD) (x : Xfer) : vCell c x ∈ (bCells ∪ dCells : Finset (GSem nD τ sig)) :=
  Finset.mem_union_right _ (Finset.mem_map_of_mem dEmb (Finset.mem_univ (c, (true, x))))

/-- Every cell's invariant, at the names `K`; every barrier cell is at its first round. -/
def records (I : Dev nD → Ins F) (K : GSem nD τ sig → ℕ) : sProp 𝕄 :=
  iprop((bigSep (bCells ∪ dCells) fun g => cellInv ER (sched I) (K g) g) ∗ bigSep bCells fun g => reached ER g 0)

instance records_persistent (I : Dev nD → Ins F) (K) : BI.Persistent (records I K) := by unfold records; infer_instance

theorem inv_at (I : Dev nD → Ins F) (K : GSem nD τ sig → ℕ) {g : GSem nD τ sig} (hg : g ∈ (bCells ∪ dCells : Finset (GSem nD τ sig))) :
    records I K ⊢ cellInv ER (sched I) (K g) g := by
  unfold records
  iintro ⟨#H, -⟩
  iapply (show (bigSep (bCells ∪ dCells) fun g => (cellInv ER (sched I) (K g) g : sProp 𝕄)) ⊢ cellInv ER (sched I) (K g) g from bigSep_elim hg)
  iexact H

theorem bar_at (I : Dev nD → Ins F) (K : GSem nD τ sig → ℕ) (c : Dev nD) : records I K ⊢ reached ER (bCell c) 0 := by
  unfold records
  iintro ⟨-, #H⟩
  iapply (show (bigSep bCells fun g => (reached ER g 0 : sProp 𝕄)) ⊢ reached ER (bCell c) 0 from
    bigSep_elim (Finset.mem_map_of_mem bEmb (Finset.mem_univ c)))
  iexact H

end Cert.KernelIdealRun
-- ==== Proof.KernelIdealRun.Moves.lean ====
/-
The communication steps, each once for any device: the two signals, the barrier wait, a transfer of a running
sum, a transfer of a finished chunk, and the waits for a transfer's sending and arrival.
-/
module

public import proofs.«01_k».proof.Proof.KernelIdealRun.Sched

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

theorem bwd_fwd (h : Fin 2) (c : Dev nD) : bwd h (fwd h c) = c := by revert h c; decide
theorem fwd_bwd (h : Fin 2) (c : Dev nD) : fwd h (bwd h c) = c := by revert h c; decide

/-! ## What a device holds for a transfer -/

/-- Device `c` owes the transfers of the list. -/
def owing (c : Dev nD) (l : List Xfer) : sProp 𝕄 := iprop(∃ W, owes (c : Thread nD τ) (debt c l) W)

/-- What device `c` holds for transfer `x` before it: the two duties it pays with, its positions at its own two
    cells, and the credit it waits for the arrival with. -/
def kit (c : Dev nD) (x : Xfer) : sProp 𝕄 :=
  iprop(dutyTok ER (sCell c x) 0 0 ∗ dutyTok ER (vCell (fwd x.1 c) x) 0 0 ∗ atPos ER (sCell c x) 0 ∅ 0
    ∗ atPos ER (vCell c x) 0 ∅ 0 ∗ cred (tallyAt (vCell c x) () N) ∗ reached ER (sCell c x) 0)

/-- After the transfer is started. -/
def flight (c : Dev nD) (x : Xfer) : sProp 𝕄 :=
  iprop(cred (tallyAt (sCell c x) () N) ∗ atPos ER (sCell c x) 0 ∅ 0 ∗ atPos ER (vCell c x) 0 ∅ 0 ∗ cred (tallyAt (vCell c x) () N))

/-- After its sending is waited for. -/
def landing (c : Dev nD) (x : Xfer) : sProp 𝕄 := iprop(atPos ER (vCell c x) 0 ∅ 0 ∗ cred (tallyAt (vCell c x) () N))

/-! ## Signals and the barrier -/

/-- A signal to the device whose direction-`h` transfers reach this one's slots: it hands over this device's slots for `h`. -/
theorem signal_runs (I : Dev nD → Ins F) (K : GSem nD τ sig → ℕ) (c : Dev nD) (h : Fin 2) (O : CellTallies nD τ sig Unit)
    {W : Waits sig Unit} {dst : Thread nD τ} {sm : Sem sig} {n : ℕ} (e : dst = ((bwd h c : Dev nD) : Thread nD τ)) (hs : sm = barS) (hn : n = 1)
    {α : Type} {Q : α → sProp 𝕄} {k : PUnit → Prog (TpuEff nD τ sig (Elt F) Λ₀ .tc) α} :
    iprop(records I K ∗ owes (c : Thread nD τ) (O + tallyAt (bCell (bwd h c)) () 1) W ∗ dutyTok ER (bCell (bwd h c)) 0 h
        ∗ (anySlot c h 0 ∗ anySlot c h 1 ∗ anySlot c h 2) ∗ ready c h)
      ⊢ iprop((owes (c : Thread nD τ) O W -∗ Runs c (k ⟨⟩) Q) -∗ Runs c (.op (.semSignal dst sm n) k) Q) := by
  subst e hs hn
  iintro ⟨#HR, HO, Ht, Hs, #Hr⟩ HQ
  iapply (Rounds.wp_signal 𝒱₀ ER (sched I) (c : Thread nD τ) none (dst := ((bwd h c : Dev nD) : Thread nD τ)) (sem := barS) (r := 0) (d := h)
      (κ := K (bCell (bwd h c))) (by rw [duties_bar]; exact Finset.mem_univ _) rfl () O rfl) $$ [HO Ht Hs]
  · isplitr; · iapply (inv_at I K (bar_mem (bwd h c))); iexact HR
    isplitl [HO]; · iexact HO
    isplitl [Ht]; · iexact Ht
    isplitl [Hs]
    · rw [payload_bar]; unfold barPay; rw [fwd_bwd]
      isplitl [Hs]; · iexact Hs
      iexact Hr
    · iapply (bar_at I K (bwd h c)); iexact HR
  iexact HQ

/-- The barrier wait: both neighbours' slots come with it. -/
theorem barrier_runs (I : Dev nD → Ins F) (K : GSem nD τ sig → ℕ) (c : Dev nD) {sm : Sem sig} {n : ℕ} (hs : sm = barS) (hn : n = 2)
    {W : Waits sig Unit} {α : Type} {Q : α → sProp 𝕄} {k : PUnit → Prog (TpuEff nD τ sig (Elt F) Λ₀ .tc) α} :
    iprop(records I K ∗ levAts L lv ∗ owes (c : Thread nD τ) (debt c order) W ∗ atPos ER (bCell c) 0 ∅ 0 ∗ cred (tallyAt (bCell c) () 2))
      ⊢ iprop(((owing c order ∗ semVal (bCell c) 0 ∗ barPay c 0 ∗ barPay c 1) -∗ Runs c (k ⟨⟩) Q)
          -∗ Runs c (.op (.semWait sm n) k) Q) := by
  subst hs hn
  iintro ⟨#HR, #Hlev, HO, Hat, Hc⟩ HQ
  iapply (Rounds.wp_wait_rest_token 𝒱₀ ER (sched I) (c : Thread nD τ) none (κ := K (bCell c))
      (wpE_semWait_eq 𝒱₀ (c : Thread nD τ) none Set.univ) (Set.mem_univ _) () (O := debt c order) (W := W) (R := 0) (m := 0) (T := ∅)
      ((Nat.zero_add 2).trans (expect_bar I c).symm)) $$ [Hc HO Hat]
  · isplitr; · iapply (inv_at I K (bar_mem c)); iexact HR
    isplitl [Hc]; · iexact Hc
    isplitl [HO]; · iexact HO
    isplitr; · iapply (mayWait c (.reg barS) order 1 rfl (by decide)); iexact Hlev
    iexact Hat
  iintro ⟨HO, Hat, -, Hpay⟩
  ihave Hp := (Entails.of_eq (rest_bar I c)) $$ Hpay
  icases Hp with ⟨H0, H1⟩
  imod (Rounds.cell_close ER (sched I) (κ := K (bCell c)) (g := bCell c) (Set.mem_univ _) id (duties_later I _)) $$ [Hat] with Hz
  · isplitr; · iapply (inv_at I K (bar_mem c)); iexact HR
    iexact Hat
  iapply HQ
  isplitl [HO]; · unfold owing; iexists _; iexact HO
  isplitl [Hz]; · iexact Hz
  isplitl [H0]; · iexact H0
  iexact H1

/-! ## Waits -/

/-- Waiting for the sending. -/
theorem sent_runs (I : Dev nD → Ins F) (K : GSem nD τ sig → ℕ) (c : Dev nD) (x : Xfer) (l : List Xfer) {sm : DmaSem sig} (hs : sm = sendS x)
    {sp sp' : Space} {s : Shape} {e : EltTy} {src : Memref sig .tc sp s e} {dst : Memref sig .tc sp' s e} {h1 h2}
    (hN : dst.view.dmaCredit = N) {α : Type} {Q : α → sProp 𝕄} {k : PUnit → Prog (TpuEff nD τ sig (Elt F) Λ₀ .tc) α} :
    iprop(records I K ∗ levAts L lv ∗ owing c l ∗ flight c x)
      ⊢ iprop(((owing c l ∗ semVal (sCell c x) 0 ∗ sendPay I c x ∗ landing c x) -∗ Runs c (k ⟨⟩) Q)
          -∗ Runs c (.op (.waitDma2 sm src dst h1 h2) k) Q) := by
  subst hs
  unfold owing flight landing
  iintro ⟨#HR, #Hlev, ⟨%W, HO⟩, Hc, Hat, Hav, Hcv⟩ HQ
  iapply (Rounds.wp_wait_rest_token 𝒱₀ ER (sched I) (c : Thread nD τ) none (κ := K (sCell c x)) (k' := N)
      (by rw [← hN]; exact wpE_waitDma2_eq 𝒱₀ (c : Thread nD τ) none Set.univ) (Set.mem_univ _) () (O := debt c l) (W := W) (R := 0) (m := 0) (T := ∅)
      ((Nat.zero_add _).trans (expect_send I c x).symm)) $$ [Hc HO Hat]
  · isplitr; · iapply (inv_at I K (send_mem c x)); iexact HR
    isplitl [Hc]; · iexact Hc
    isplitl [HO]; · iexact HO
    isplitr; · iapply (mayWait c (.dma (sendS x)) l 0 (lv_send c x) (fun _ _ => by omega)); iexact Hlev
    iexact Hat
  iintro ⟨HO, Hat, -, Hpay⟩
  ihave Hp := (Entails.of_eq (rest_send I c x)) $$ Hpay
  imod (Rounds.cell_close ER (sched I) (κ := K (sCell c x)) (g := sCell c x) (Set.mem_univ _) id (duties_later I _)) $$ [Hat] with Hz
  · isplitr; · iapply (inv_at I K (send_mem c x)); iexact HR
    iexact Hat
  iapply HQ
  isplitl [HO]; · iexists _; iexact HO
  isplitl [Hz]; · iexact Hz
  isplitl [Hp]; · iexact Hp
  isplitl [Hav] <;> iassumption

/-- Waiting for the arrival, everything still owed being of a later step. -/
theorem came_runs (I : Dev nD → Ins F) (K : GSem nD τ sig → ℕ) (c : Dev nD) (x : Xfer) (l : List Xfer) (hl : ∀ y ∈ l, 2 + x.2.val < 2 + y.2.val)
    {sm : DmaSem sig} (hs : sm = recvS x)
    {sp sp' : Space} {s : Shape} {e : EltTy} {src : Memref sig .tc sp s e} {dst : Memref sig .tc sp' s e} {h1 h2}
    (hN : dst.view.dmaCredit = N) {α : Type} {Q : α → sProp 𝕄} {k : PUnit → Prog (TpuEff nD τ sig (Elt F) Λ₀ .tc) α} :
    iprop(records I K ∗ levAts L lv ∗ owing c l ∗ landing c x)
      ⊢ iprop(((owing c l ∗ semVal (vCell c x) 0 ∗ recvPay I c x) -∗ Runs c (k ⟨⟩) Q)
          -∗ Runs c (.op (.waitDma2 sm src dst h1 h2) k) Q) := by
  subst hs
  unfold owing landing
  iintro ⟨#HR, #Hlev, ⟨%W, HO⟩, Hat, Hc⟩ HQ
  iapply (Rounds.wp_wait_rest_token 𝒱₀ ER (sched I) (c : Thread nD τ) none (κ := K (vCell c x)) (k' := N)
      (by rw [← hN]; exact wpE_waitDma2_eq 𝒱₀ (c : Thread nD τ) none Set.univ) (Set.mem_univ _) () (O := debt c l) (W := W) (R := 0) (m := 0) (T := ∅)
      ((Nat.zero_add _).trans (expect_recv I c x).symm)) $$ [Hc HO Hat]
  · isplitr; · iapply (inv_at I K (recv_mem c x)); iexact HR
    isplitl [Hc]; · iexact Hc
    isplitl [HO]; · iexact HO
    isplitr; · iapply (mayWait c (.dma (recvS x)) l _ (lv_recv c x) hl); iexact Hlev
    iexact Hat
  iintro ⟨HO, Hat, -, Hpay⟩
  ihave Hp := (Entails.of_eq (rest_recv I c x)) $$ Hpay
  imod (Rounds.cell_close ER (sched I) (κ := K (vCell c x)) (g := vCell c x) (Set.mem_univ _) id (duties_later I _)) $$ [Hat] with Hz
  · isplitr; · iapply (inv_at I K (recv_mem c x)); iexact HR
    iexact Hat
  iapply HQ
  isplitl [HO]; · iexists _; iexact HO
  isplitl [Hz]; · iexact Hz
  iexact Hp

/-! ## Transfers -/

theorem slot_amount (h : Fin 2) (s : Fin 3) (q : DmaSem sig) : (slM h s).view.amount (.dma q) = N := by
  fin_cases h <;> rfl
theorem piece_amount (j : Fin 4) (h : Fin 2) (q : DmaSem sig) : (pM j h).view.amount (.dma q) = N := rfl

/-- Passing a running sum on: its own piece travels with it. -/
theorem pass_runs (I : Dev nD → Ins F) (K : GSem nD τ sig → ℕ) (c : Dev nD) (h : Fin 2) (s : Fin 3) (l : List Xfer)
    {x : Xfer} (hx : x = (h, ⟨s.val, by omega⟩))
    {d : Dev nD} (hd : d = fwd h c) {src : Memref sig .tc .vmem S512x512 .bf16} (hsr : src = pM ((bwd h)^[s.val] c) h)
    {dst : Memref sig .tc .vmem S512x512 .bf16} (hds : dst = slM h s) {sS sV : DmaSem sig} (hS : sS = sendS x) (hV : sV = recvS x)
    {hsc : (show Memref sig (Dev.tc (τ := τ) d).2.kind .vmem S512x512 .bf16 from dst).view.ref.isScScratch = false} {h1 h2 h3}
    {α : Type} {Q : α → sProp 𝕄} {k : PUnit → Prog (TpuEff nD τ sig (Elt F) Λ₀ .tc) α} :
    iprop(records I K ∗ owing c (x :: l) ∗ kit c x ∗ reached ER (vCell (fwd h c) x) 0
        ∗ piece c ((bwd h)^[s.val] c) h (acc I h s.val c) ∗ anySlot (fwd h c) h s ∗ fwds h s.val c)
      ⊢ iprop(((owing c l ∗ flight c x) -∗ Runs c (k ⟨⟩) Q)
          -∗ Runs c (.op (.enqueueDma src (.remote (Dev.tc d) dst (.dma sS) hsc) (.dma sV) h1 h2 h3) k) Q) := by
  subst hd hsr hds hS hV
  have hs3 : x.2.val < 3 := by rw [hx]; exact s.isLt
  unfold owing kit flight piece anySlot slot owns
  iintro ⟨#HR, ⟨%W, HO⟩, ⟨HtS, HtV, HaS, HaV, HcV, #HrS⟩, #HrV, ⟨%fs, %hfs, Hs⟩, ⟨%X, %fd, %hfd, Hd⟩, HF⟩ HQ
  iapply (Rounds.wp_send_landing_pointsTo_with 𝒱₀ ER (sched I) (c : Thread nD τ) none (c' := ((fwd h c : Dev nD) : Thread nD τ))
      (src := pM ((bwd h)^[s.val] c) h) (dst := slM h s)
      (sS := .dma (sendS x)) (sem := .dma (recvS x)) (q := fullShare) (fs := fs) (F := fwds h s.val c)
      (κ₁ := K (sCell c x)) (κ₂ := K (vCell (fwd h c) x)) (r₁ := 0) (r₂ := 0) (d₁ := 0) (d₂ := 0) (fd := fd)
      (by rw [duties_send]; exact Finset.mem_singleton_self _) (by rw [duties_recv]; exact Finset.mem_singleton_self _)
      () () N (slot_amount h s _) rfl rfl (debt c l) (by subst hx; rfl) (W := W)
      (by rw [payload_send]; unfold sendPay; rw [if_pos hs3])
      (by
        rw [payload_recv]; unfold recvPay; rw [dif_pos hs3]; subst hx
        unfold sumPay slot anyPiece piece owns
        rw [bwd_fwd]
        iintro ⟨⟨Hd, HF⟩, Hs⟩
        isplitl [Hd HF]
        · isplitl [Hd]
          · iexists _; isplitr
            · ipureintro; exact (View.read_write_univ (v := (slM h s).view) fd _).trans hfs
            iexact Hd
          iexact HF
        iexists (acc I h s.val c); iexists fs; isplitr; · ipureintro; exact hfs
        iexact Hs)) $$ [HO HtS HtV Hs Hd HF]
  · isplitr; · iapply (inv_at I K (send_mem c x)); iexact HR
    isplitr; · iapply (inv_at I K (recv_mem (fwd h c) x)); iexact HR
    isplitl [Hs]; · iexact Hs
    isplitl [Hd HF]; · isplitl [Hd] <;> iassumption
    isplitl [HO]; · subst hx; iexact HO
    isplitl [HtS]; · iexact HtS
    isplitr; · iexact HrS
    isplitl [HtV]; · subst hx; iexact HtV
    iexact HrV
  iintro ⟨HcS, HO⟩
  iapply HQ
  isplitl [HO]; · iexists W; iexact HO
  isplitl [HcS]; · iexact HcS
  isplitl [HaS]; · iexact HaS
  isplitl [HaV] <;> iassumption

/-- Passing a finished chunk on. -/
theorem copy_runs (I : Dev nD → Ins F) (K : GSem nD τ sig → ℕ) (c : Dev nD) (h : Fin 2) (s : Fin 3) (l : List Xfer)
    {x : Xfer} (hx : x = (h, ⟨s.val + 3, by omega⟩)) {j : Dev nD} (hj : j = (bwd h)^[s.val] (fwd h c))
    {d : Dev nD} (hd : d = fwd h c) {src : Memref sig .tc .vmem S512x512 .bf16} (hsr : src = pM j h)
    {dst : Memref sig .tc .vmem S512x512 .bf16} (hds : dst = pM j h) {sS sV : DmaSem sig} (hS : sS = sendS x) (hV : sV = recvS x)
    {hsc : (show Memref sig (Dev.tc (τ := τ) d).2.kind .vmem S512x512 .bf16 from dst).view.ref.isScScratch = false} {h1 h2 h3}
    {α : Type} {Q : α → sProp 𝕄} {k : PUnit → Prog (TpuEff nD τ sig (Elt F) Λ₀ .tc) α} :
    iprop(records I K ∗ owing c (x :: l) ∗ kit c x ∗ reached ER (vCell (fwd h c) x) 0
        ∗ piece c j h (tot I h j) ∗ anyPiece (fwd h c) j h ∗ rest h s (fwd h c))
      ⊢ iprop(((owing c l ∗ flight c x) -∗ Runs c (k ⟨⟩) Q)
          -∗ Runs c (.op (.enqueueDma src (.remote (Dev.tc d) dst (.dma sS) hsc) (.dma sV) h1 h2 h3) k) Q) := by
  subst hd hsr hds hS hV
  have hs3 : ¬ x.2.val < 3 := by rw [hx]; simp
  unfold owing kit flight piece anyPiece piece owns
  iintro ⟨#HR, ⟨%W, HO⟩, ⟨HtS, HtV, HaS, HaV, HcV, #HrS⟩, #HrV, ⟨%fs, %hfs, Hs⟩, ⟨%X, %fd, %hfd, Hd⟩, HF⟩ HQ
  iapply (Rounds.wp_send_pointsTo_with 𝒱₀ ER (sched I) (c : Thread nD τ) none (c' := ((fwd h c : Dev nD) : Thread nD τ))
      (src := pM j h) (dst := pM j h)
      (sS := .dma (sendS x)) (sem := .dma (recvS x)) (q := fullShare) (fs := fs) (F := rest h s (fwd h c))
      (κ₁ := K (sCell c x)) (κ₂ := K (vCell (fwd h c) x)) (r₁ := 0) (r₂ := 0) (d₁ := 0) (d₂ := 0) (fd := fd)
      (by rw [duties_send]; exact Finset.mem_singleton_self _) (by rw [duties_recv]; exact Finset.mem_singleton_self _)
      () () N (piece_amount j h _) rfl rfl (debt c l) (by subst hx; rfl) (W := W)
      (by
        rw [payload_send]; unfold sendPay; rw [if_neg hs3]; subst hx hj
        unfold backPay piece owns
        iintro Hs
        iexists fs; isplitr; · ipureintro; exact hfs
        iexact Hs)
      (by
        rw [payload_recv]; unfold recvPay; rw [dif_neg hs3]; subst hx hj
        unfold donePay piece owns
        iintro ⟨Hd, HF⟩
        isplitl [Hd]
        · iexists _; isplitr
          · ipureintro; exact (View.read_write_univ (v := (pM _ h).view) fd _).trans hfs
          iexact Hd
        iexact HF)) $$ [HO HtS HtV Hs Hd HF]
  · isplitr; · iapply (inv_at I K (send_mem c x)); iexact HR
    isplitr; · iapply (inv_at I K (recv_mem (fwd h c) x)); iexact HR
    isplitl [Hs]; · iexact Hs
    isplitl [Hd HF]; · isplitl [Hd] <;> iassumption
    isplitl [HO]; · subst hx; iexact HO
    isplitl [HtS]; · iexact HtS
    isplitr; · iexact HrS
    isplitl [HtV]; · subst hx; iexact HtV
    iexact HrV
  iintro ⟨HcS, HO⟩
  iapply HQ
  isplitl [HO]; · iexists W; iexact HO
  isplitl [HcS]; · iexact HcS
  isplitl [HaS]; · iexact HaS
  isplitl [HaV] <;> iassumption

end Cert.KernelIdealRun
-- ==== Proof.KernelIdealRun.Steps.lean ====
/-
The steps the program is made of, each once for any device and any place: a block of 256 rows computed and
stored, a received sum added to a piece, a sum or a finished chunk sent, and the waits.
-/
module

public import proofs.«01_k».proof.Proof.KernelIdealRun.Moves

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## A block of rows -/

/-- The chunk's elements once block `b` is stored at row `a`. -/
abbrev stored (I : Ins F) (j : Fin 4) (b : Fin 2) (a : ℕ) (P : Fin 512 → Fin 1024 → F .bf16 → Prop) : Fin 512 → Fin 1024 → F .bf16 → Prop :=
  fun r n x => if h : a ≤ r.val ∧ r.val < a + 256 then x = blk I j b (at2 ⟨r.val - a, by omega⟩ n) else P r n x

/-- A loop over the heads and the store of what it sums up. -/
theorem block_run (c : Dev nD) (I : Ins F) (j : Fin 4) (b : Fin 2) (a : ℕ) (ha : a + 256 ≤ 512) (P : Fin 512 → Fin 1024 → F .bf16 → Prop)
    {lb ub st : BitVec 32} (hok : Scf.OK lb ub st) (hT : Scf.trips lb ub st = 8) {init : FVec F S256x1024 .f32} (hinit : init = k0_pay13)
    (body : Fin (Scf.trips lb ub st) → FVec F S256x1024 .f32 → Prog (TpuEff nD τ sig (Elt F) Λ₀ .tc) (FVec F S256x1024 .f32))
    {o0 o1 o3 o4 : Fin (Scf.trips lb ub st) → Fin 3 → ℕ} {i0 : ∀ t a, o0 t a + S1x256x128.size a ≤ S8x2048x128.size a}
    {i1 : ∀ t a, o1 t a + S1x512x128.size a ≤ S8x2048x128.size a} {i3 : ∀ t a, o3 t a + S1x128x128.size a ≤ S8x2048x128.size a}
    {i4 : ∀ t a, o4 t a + S1x128x1024.size a ≤ S8x128x1024.size a} {mw : IVec S256x512 1} {mg : IVec S256x128 1}
    (hbody : ∀ t x, body t x = trip (o0 t) (o1 t) (o3 t) (o4 t) (i0 t) (i1 t) (i3 t) (i4 t) mw mg x)
    (ho : ∀ t, o0 t = ![t.val, 512 * j.val + 256 * b.val, 0] ∧ o1 t = ![t.val, lo j b, 0] ∧ o3 t = ![t.val, 0, 0] ∧ o4 t = ![t.val, 0, 0])
    (hw : mw = winMask (qword j b)) (hg : mg = headMask (qword j b))
    {off : Fin 2 → ℕ} {inb} (e : off = ![512 * j.val + a, 0])
    {w : FVec F S256x1024 .f32 → FVec F S256x1024 .bf16} (hpay : w = k0_pay15) {hl} {hx : FVec F S256x1024 .f32 → _} {hm : FVec F S256x1024 .f32 → _}
    {α : Type} {Q : α → sProp 𝕄} {rest : PUnit → Prog (TpuEff nD τ sig (Elt F) Λ₀ .tc) α} :
    iprop(inputs c I ∗ stage c j P) ⊢ iprop((inputs c I -∗ stage c j (stored I j b a P) -∗ Runs c (rest ⟨⟩) Q)
      -∗ Runs c (Scf.for lb ub st hok init body >>= fun v =>
          .op (.load obM (Rect.unit (s := S2048x1024) off S256x1024.size inb).toLoadRect hl) fun _ =>
            .op (.store obM (Rect.unit (s := S2048x1024) off S256x1024.size inb) (w v) Finset.univ (hx v) (hm v)) rest) Q) := by
  subst hpay
  iintro ⟨HI, HS⟩ HQ
  iapply (heads_run c I j b hok hT hinit body (fun t x => ⟨_, _, _, _, _, _, _, _, _, _, (ho t).1, (ho t).2.1, (ho t).2.2.1, (ho t).2.2.2, hw, hg, hbody t x⟩)) $$ HI
  iintro HI
  rw [show (k0_pay15 (heads I j b 8) : FVec F S256x1024 .bf16) = blk I j b from rfl]
  iapply (stage_load c j P a 256 ha e) $$ HS
  iintro %X HS
  iapply (stage_store c j P a 256 ha e) $$ HS
  iintro HS
  iapply HQ $$ HI HS

/-! ## A received sum added to a piece -/

theorem pay40_eq (x y : FVec F S512x512 .bf16) : k0_pay40 x y = addf x y := by
  unfold k0_pay40
  simp only [shapeCast_self]

theorem pay57_eq (x X : FVec F S512x512 .bf16) (Y : FVec F S1x512x512 .bf16) (h : shapeCast S512x512 Y shapeCasts_S1x512x512_S512x512 = X) :
    k0_pay57 x Y = addf x X := by
  unfold k0_pay57
  simp only [shapeCast_self, h]

theorem add_runs (c : Dev nD) (I : Dev nD → Ins F) (h : Fin 2) (s : Fin 3) {j : Dev nD} (hj : j = (bwd h)^[s.val + 1] c)
    {off : Fin 2 → ℕ} {inb} (e : off = ![512 * j.val, 512 * h.val]) {M : Memref sig .tc .vmem S3x512x512 .bf16} (hM : M = rsM h)
    {off3 : Fin 3 → ℕ} {inb3} (e3 : off3 = ![s.val, 0, 0]) {hl hl3 hl'}
    {w : FVec F S512x512 .bf16 → FVec F S1x512x512 .bf16 → FVec F S512x512 .bf16} (hw : w = k0_pay57)
    {hx : FVec F S512x512 .bf16 → FVec F S1x512x512 .bf16 → _} {hm : FVec F S512x512 .bf16 → FVec F S1x512x512 .bf16 → _}
    {α : Type} {Q : α → sProp 𝕄} {k : PUnit → Prog (TpuEff nD τ sig (Elt F) Λ₀ .tc) α} :
    iprop(piece c j h (part (I c) j h) ∗ slot c h s (acc I h s.val (bwd h c)))
      ⊢ iprop((piece c j h (acc I h (s.val + 1) c) -∗ slot c h s (acc I h s.val (bwd h c)) -∗ Runs c (k ⟨⟩) Q)
        -∗ Runs c (.op (.load obM (Rect.unit (s := S2048x1024) off S512x512.size inb).toLoadRect hl) fun (x : FVec F S512x512 .bf16) =>
            .op (.load M (Rect.unit (s := S3x512x512) off3 S1x512x512.size inb3).toLoadRect hl3) fun (y : FVec F S1x512x512 .bf16) =>
            .op (.load obM (Rect.unit (s := S2048x1024) off S512x512.size inb).toLoadRect hl') fun _ =>
            .op (.store obM (Rect.unit (s := S2048x1024) off S512x512.size inb) (w x y) Finset.univ (hx x y) (hm x y)) k) Q) := by
  subst hw
  iintro ⟨HP, HS⟩ HQ
  iapply (piece_load c j h _ e) $$ HP
  iintro HP
  iapply (slot_load c h s _ M hM e3) $$ HS
  iintro %Y %hY HS
  iapply (piece_load c j h _ e) $$ HP
  iintro HP
  rw [pay57_eq _ _ Y hY, show addf (part (I c) j h) (acc I h s.val (bwd h c)) = acc I h (s.val + 1) c by rw [hj]; rfl]
  iapply (piece_store c j h _ _ e) $$ HP
  iintro HP
  iapply HQ $$ HP HS

/-! ## Sending and waiting, with what every device knows -/

theorem pM_of {j : Fin 4} {h : Fin 2} {off : Fin 2 → ℕ} {inb} (e : off = ![512 * j.val, 512 * h.val]) (hh) :
    obM.slice (Rect.unit (s := S2048x1024) off S512x512.size inb) hh = pM j h := by subst e; rfl

/-- What a device knows throughout: every cell's invariant, the order of the waits, and that both neighbours are
    ready. -/
def world (I : Dev nD → Ins F) (K : GSem nD τ sig → ℕ) (c : Dev nD) : sProp 𝕄 :=
  iprop(records I K ∗ levAts L lv ∗ ready (fwd 0 c) 0 ∗ ready (fwd 1 c) 1)

instance world_persistent (I : Dev nD → Ins F) (K : GSem nD τ sig → ℕ) (c : Dev nD) : BI.Persistent (world I K c) := by
  unfold world; infer_instance

theorem world_records (I : Dev nD → Ins F) (K : GSem nD τ sig → ℕ) (c : Dev nD) : world I K c ⊢ records I K := by
  unfold world; iintro ⟨H, _, _, _⟩; iexact H
theorem world_levels (I : Dev nD → Ins F) (K : GSem nD τ sig → ℕ) (c : Dev nD) : world I K c ⊢ levAts L lv := by
  unfold world; iintro ⟨_, H, _, _⟩; iexact H
theorem world_ready (I : Dev nD → Ins F) (K : GSem nD τ sig → ℕ) (c : Dev nD) (x : Xfer) :
    world I K c ⊢ reached ER (vCell (fwd x.1 c) x) 0 := by
  obtain ⟨h, s⟩ := x
  unfold world
  iintro ⟨_, _, H0, H1⟩
  have h01 : h = 0 ∨ h = 1 := by omega
  rcases h01 with rfl | rfl
  · iapply (ready_at (fwd 0 c) 0 s) $$ H0
  · iapply (ready_at (fwd 1 c) 1 s) $$ H1

/-- Sending the running sum of step `s`. -/
theorem pass (I : Dev nD → Ins F) (K : GSem nD τ sig → ℕ) (c : Dev nD) (h : Fin 2) (s : Fin 3) (n : ℕ)
    {x : Xfer} (hx : x = (h, ⟨s.val, by omega⟩)) (ho : order.drop n = x :: order.drop (n + 1))
    {j : Dev nD} (hj : j = (bwd h)^[s.val] c) {d : Dev nD} (hd : d = fwd h c)
    {off : Fin 2 → ℕ} {inb hh} (e : off = ![512 * j.val, 512 * h.val])
    {dst : Memref sig .tc .vmem S512x512 .bf16} (hds : dst = slM h s) {sS sV : DmaSem sig} (hS : sS = sendS x) (hV : sV = recvS x)
    {hsc : (show Memref sig (Dev.tc (τ := τ) d).2.kind .vmem S512x512 .bf16 from dst).view.ref.isScScratch = false} {h1 h2 h3}
    {α : Type} {Q : α → sProp 𝕄} {k : PUnit → Prog (TpuEff nD τ sig (Elt F) Λ₀ .tc) α} :
    iprop(world I K c ∗ owing c (order.drop n) ∗ kit c x ∗ piece c j h (acc I h s.val c) ∗ anySlot (fwd h c) h s ∗ fwds h s.val c)
      ⊢ iprop((owing c (order.drop (n + 1)) -∗ flight c x -∗ Runs c (k ⟨⟩) Q)
          -∗ Runs c (.op (.enqueueDma (obM.slice (Rect.unit (s := S2048x1024) off S512x512.size inb) hh)
              (.remote (Dev.tc d) dst (.dma sS) hsc) (.dma sV) h1 h2 h3) k) Q) := by
  rw [ho]
  have hx1 : x.1 = h := by rw [hx]
  iintro ⟨#HW, HO, HK, HP, HS, HF⟩ HQ
  iapply (pass_runs I K c h s (order.drop (n + 1)) hx hd ((pM_of e hh).trans (by rw [hj])) hds hS hV) $$ [HO HK HP HS HF]
  · isplitr; · iapply (world_records I K c); iexact HW
    isplitl [HO]; · iexact HO
    isplitl [HK]; · iexact HK
    isplitr
    · rw [← hx1]; iapply (world_ready I K c x); iexact HW
    isplitl [HP]; · rw [← hj]; iexact HP
    isplitl [HS]; · iexact HS
    iexact HF
  iintro ⟨HO, HF⟩
  iapply HQ $$ HO HF

/-- Sending a finished chunk at step `s` of the second phase. -/
theorem copy (I : Dev nD → Ins F) (K : GSem nD τ sig → ℕ) (c : Dev nD) (h : Fin 2) (s : Fin 3) (n : ℕ)
    {x : Xfer} (hx : x = (h, ⟨s.val + 3, by omega⟩)) (ho : order.drop n = x :: order.drop (n + 1))
    {j : Dev nD} (hj : j = (bwd h)^[s.val] (fwd h c)) {d : Dev nD} (hd : d = fwd h c)
    {off : Fin 2 → ℕ} {inb hh inb' hh'} (e : off = ![512 * j.val, 512 * h.val])
    {sS sV : DmaSem sig} (hS : sS = sendS x) (hV : sV = recvS x) {hsc h1 h2 h3}
    {α : Type} {Q : α → sProp 𝕄} {k : PUnit → Prog (TpuEff nD τ sig (Elt F) Λ₀ .tc) α} :
    iprop(world I K c ∗ owing c (order.drop n) ∗ kit c x ∗ piece c j h (tot I h j) ∗ anyPiece (fwd h c) j h ∗ rest h s (fwd h c))
      ⊢ iprop((owing c (order.drop (n + 1)) -∗ flight c x -∗ Runs c (k ⟨⟩) Q)
          -∗ Runs c (.op (.enqueueDma (obM.slice (Rect.unit (s := S2048x1024) off S512x512.size inb) hh)
              (.remote (Dev.tc d) (obM.slice (Rect.unit (s := S2048x1024) off S512x512.size inb') hh') (.dma sS) hsc) (.dma sV) h1 h2 h3) k) Q) := by
  rw [ho]
  have hx1 : x.1 = h := by rw [hx]
  iintro ⟨#HW, HO, HK, HP, HS, HF⟩ HQ
  iapply (copy_runs I K c h s (order.drop (n + 1)) hx hj hd (pM_of e hh) (pM_of e hh') hS hV) $$ [HO HK HP HS HF]
  · isplitr; · iapply (world_records I K c); iexact HW
    isplitl [HO]; · iexact HO
    isplitl [HK]; · iexact HK
    isplitr
    · rw [← hx1]; iapply (world_ready I K c x); iexact HW
    isplitl [HP]; · iexact HP
    isplitl [HS]; · iexact HS
    iexact HF
  iintro ⟨HO, HF⟩
  iapply HQ $$ HO HF

theorem credit (m : Memref sig .tc .vmem S512x512 .bf16) : m.view.dmaCredit = N := rfl

/-- Waiting for a sum's sending. -/
theorem sent (I : Dev nD → Ins F) (K : GSem nD τ sig → ℕ) (c : Dev nD) (x : Xfer) (hx : x.2.val < 3) (n : ℕ) {sm : DmaSem sig} (hs : sm = sendS x)
    {src dst : Memref sig .tc .vmem S512x512 .bf16} {h1 h2}
    {α : Type} {Q : α → sProp 𝕄} {k : PUnit → Prog (TpuEff nD τ sig (Elt F) Λ₀ .tc) α} :
    iprop(world I K c ∗ owing c (order.drop n) ∗ flight c x)
      ⊢ iprop((owing c (order.drop n) -∗ semVal (sCell c x) 0 -∗ landing c x -∗ Runs c (k ⟨⟩) Q)
          -∗ Runs c (.op (.waitDma2 sm src dst h1 h2) k) Q) := by
  iintro ⟨#HW, HO, HF⟩ HQ
  iapply (sent_runs I K c x (order.drop n) hs (credit dst)) $$ [HO HF]
  · isplitr; · iapply (world_records I K c); iexact HW
    isplitr; · iapply (world_levels I K c); iexact HW
    isplitl [HO]; · iexact HO
    iexact HF
  iintro ⟨HO, HZ, _, HL⟩
  iapply HQ $$ HO HZ HL

/-- What arrives with the sum of step `s`: the sum, in its slot, and the pieces that travel with it. -/
abbrev got (I : Dev nD → Ins F) (c : Dev nD) (h : Fin 2) (s : Fin 3) : sProp 𝕄 := slot c h s (acc I h s.val (bwd h c))
abbrev tow (c : Dev nD) (h : Fin 2) (s : Fin 3) : sProp 𝕄 := fwds (F := F) h (s.val + 1) c

/-- A received sum, and with it the pieces that travel with it. -/
theorem sum_parts (I : Dev nD → Ins F) (c : Dev nD) (h : Fin 2) (s : Fin 3) :
    recvPay I c (h, ⟨s.val, by omega⟩) ⊢ iprop(slot c h s (acc I h s.val (bwd h c)) ∗ fwds (F := F) h (s.val + 1) c) := by
  unfold recvPay
  rw [dif_pos (show (⟨s.val, _⟩ : Fin 6).val < 3 from s.isLt)]
  unfold sumPay
  iintro ⟨⟨HS, HF⟩, HP⟩
  isplitl [HS]; · iexact HS
  rw [fwds]
  isplitl [HP]; · iexact HP
  iexact HF

/-- Waiting for a sum's arrival. -/
theorem came (I : Dev nD → Ins F) (K : GSem nD τ sig → ℕ) (c : Dev nD) (h : Fin 2) (s : Fin 3) (n : ℕ)
    {x : Xfer} (hx : x = (h, ⟨s.val, by omega⟩)) (hl : ∀ y ∈ order.drop n, 2 + x.2.val < 2 + y.2.val) {sm : DmaSem sig} (hs : sm = recvS x)
    {src dst : Memref sig .tc .vmem S512x512 .bf16} {h1 h2}
    {α : Type} {Q : α → sProp 𝕄} {k : PUnit → Prog (TpuEff nD τ sig (Elt F) Λ₀ .tc) α} :
    iprop(world I K c ∗ owing c (order.drop n) ∗ landing c x)
      ⊢ iprop((owing c (order.drop n) -∗ semVal (vCell c x) 0 -∗ got I c h s -∗ tow c h s -∗ Runs c (k ⟨⟩) Q)
          -∗ Runs c (.op (.waitDma2 sm src dst h1 h2) k) Q) := by
  iintro ⟨#HW, HO, HF⟩ HQ
  iapply (came_runs I K c x (order.drop n) hl hs (credit dst)) $$ [HO HF]
  · isplitr; · iapply (world_records I K c); iexact HW
    isplitr; · iapply (world_levels I K c); iexact HW
    isplitl [HO]; · iexact HO
    iexact HF
  subst hx
  iintro ⟨HO, HZ, HP⟩
  ihave HP := (sum_parts I c h s) $$ HP
  icases HP with ⟨HS, HF⟩
  iapply HQ $$ HO HZ HS HF

/-- Waiting for a finished chunk's sending: it comes back. -/
theorem copied (I : Dev nD → Ins F) (K : GSem nD τ sig → ℕ) (c : Dev nD) (h : Fin 2) (s : Fin 3) (n : ℕ)
    {x : Xfer} (hx : x = (h, ⟨s.val + 3, by omega⟩)) {j : Dev nD} (hj : j = (bwd h)^[s.val] (fwd h c)) {sm : DmaSem sig} (hs : sm = sendS x)
    {src dst : Memref sig .tc .vmem S512x512 .bf16} {h1 h2}
    {α : Type} {Q : α → sProp 𝕄} {k : PUnit → Prog (TpuEff nD τ sig (Elt F) Λ₀ .tc) α} :
    iprop(world I K c ∗ owing c (order.drop n) ∗ flight c x)
      ⊢ iprop((owing c (order.drop n) -∗ semVal (sCell c x) 0 -∗ landing c x -∗ piece c j h (tot I h j) -∗ Runs c (k ⟨⟩) Q)
          -∗ Runs c (.op (.waitDma2 sm src dst h1 h2) k) Q) := by
  iintro ⟨#HW, HO, HF⟩ HQ
  iapply (sent_runs I K c x (order.drop n) hs (credit dst)) $$ [HO HF]
  · isplitr; · iapply (world_records I K c); iexact HW
    isplitr; · iapply (world_levels I K c); iexact HW
    isplitl [HO]; · iexact HO
    iexact HF
  have hp : sendPay I c x = piece c j h (tot I h j) := by
    subst hx hj
    unfold sendPay
    rw [if_neg (by simp)]
    unfold backPay
    rfl
  rw [hp]
  iintro ⟨HO, HZ, HP, HL⟩
  iapply HQ $$ HO HZ HL HP

/-- Waiting for a finished chunk's arrival. -/
theorem arrived (I : Dev nD → Ins F) (K : GSem nD τ sig → ℕ) (c : Dev nD) (h : Fin 2) (s : Fin 3) (n : ℕ)
    {x : Xfer} (hx : x = (h, ⟨s.val + 3, by omega⟩)) {j : Dev nD} (hj : j = (bwd h)^[s.val] c)
    (hl : ∀ y ∈ order.drop n, 2 + x.2.val < 2 + y.2.val) {sm : DmaSem sig} (hs : sm = recvS x)
    {src dst : Memref sig .tc .vmem S512x512 .bf16} {h1 h2}
    {α : Type} {Q : α → sProp 𝕄} {k : PUnit → Prog (TpuEff nD τ sig (Elt F) Λ₀ .tc) α} :
    iprop(world I K c ∗ owing c (order.drop n) ∗ landing c x)
      ⊢ iprop((owing c (order.drop n) -∗ semVal (vCell c x) 0 -∗ piece c j h (tot I h j) -∗ rest h s c -∗ Runs c (k ⟨⟩) Q)
          -∗ Runs c (.op (.waitDma2 sm src dst h1 h2) k) Q) := by
  iintro ⟨#HW, HO, HF⟩ HQ
  iapply (came_runs I K c x (order.drop n) hl hs (credit dst)) $$ [HO HF]
  · isplitr; · iapply (world_records I K c); iexact HW
    isplitr; · iapply (world_levels I K c); iexact HW
    isplitl [HO]; · iexact HO
    iexact HF
  have hp : recvPay I c x = iprop(piece c j h (tot I h j) ∗ rest (F := F) h s c) := by
    subst hx hj
    unfold recvPay
    rw [dif_neg (by simp)]
    rfl
  rw [hp]
  iintro ⟨HO, HZ, HP, HL⟩
  iapply HQ $$ HO HZ HP HL

/-! ## Which pieces travel back -/

theorem fwds_none (c : Dev nD) (h : Fin 2) : iprop(emp) ⊢ fwds (F := F) h (0 : Fin 3).val c := by
  rw [show fwds (F := F) h (0 : Fin 3).val c = iprop(emp) from rfl]

theorem finish (c : Dev nD) (h : Fin 2) :
    fwds (F := F) h 3 c ⊢ iprop(anyPiece (fwd h c) (fwd h c) h ∗ rest h 0 (fwd h c)) := by
  have e1 : (bwd h)^[2 + 1] c = fwd h c := by revert h c; decide
  have e2 : (bwd h)^[1 + 1] (bwd h c) = fwd h c := by revert h c; decide
  have e3 : (bwd h)^[0 + 1] (bwd h (bwd h c)) = fwd h c := by revert h c; decide
  have e4 : bwd h (bwd h (bwd h c)) = fwd h c := by revert h c; decide
  have e5 : bwd h (bwd h c) = fwd h (fwd h c) := by revert h c; decide
  have e6 : bwd h (bwd h (fwd h c)) = bwd h c := by revert h c; decide
  rw [fwds, fwds, fwds, e1, e2, e3, e4, e5]
  iintro ⟨H1, H2, H3, _⟩
  isplitl [H3]; · iexact H3
  rw [show rest (F := F) h 0 (fwd h c) = iprop(anyPiece (bwd h (bwd h (fwd h c))) (fwd h c) h ∗ anyPiece (fwd h (fwd h c)) (fwd h c) h) from rfl, e6]
  isplitl [H1]; · iexact H1
  iexact H2

theorem rest_next (c : Dev nD) (h : Fin 2) :
    rest (F := F) h 0 c ⊢ iprop(anyPiece (fwd h c) c h ∗ rest h 1 (fwd h c)) := by
  have e : bwd h (bwd h c) = fwd h (fwd h c) := by revert h c; decide
  rw [show rest (F := F) h 1 (fwd h c) = anyPiece (fwd h (fwd h c)) (bwd h (fwd h c)) h from rfl, bwd_fwd,
    show rest (F := F) h 0 c = iprop(anyPiece (bwd h (bwd h c)) c h ∗ anyPiece (fwd h c) c h) from rfl, e]
  iintro ⟨H1, H2⟩
  isplitl [H2]; · iexact H2
  iexact H1

theorem rest_last (c : Dev nD) (h : Fin 2) :
    rest (F := F) h 1 c ⊢ iprop(anyPiece (fwd h c) (bwd h c) h ∗ rest h 2 (fwd h c)) := by
  rw [show rest (F := F) h 1 c = anyPiece (fwd h c) (bwd h c) h from rfl, show rest (F := F) h 2 (fwd h c) = iprop(emp) from rfl]
  iintro H
  isplitl [H]; · iexact H
  ipureintro; trivial

end Cert.KernelIdealRun
-- ==== Proof.KernelIdealRun.Words.lean ====
/-
The words and the offsets the program computes from the device's number: which chunk, which block, which
neighbour.
-/
module

public import proofs.«01_k».proof.Proof.KernelIdealRun.Steps

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The row and the column numbers of the masks. -/
abbrev iR : IVec S256x512 32 := iota .tc S256x512 32 [0] iota_S256x512_d0_w32
abbrev iC : IVec S256x512 32 := iota .tc S256x512 32 [1] iota_S256x512_d1_w32
abbrev iK : IVec S256x128 32 := iota .tc S256x128 32 [1] iota_S256x128_d1_w32

/-- The device's number as the program reads it, the chunk `d` places on, the number of a block of a chunk, and a
    block's first row. -/
abbrev me (c : Dev nD) : BitVec 32 := Scalar.remsi (Scalar.divsi (Dev.word c) 1#32) 4#32
abbrev on (c : Dev nD) (d : BitVec 32) : BitVec 32 := Scalar.remsi (Scalar.addi (me c) d) 4#32
abbrev blkOf (m b : BitVec 32) : BitVec 32 := Scalar.addi (Scalar.muli m 2#32) b
abbrev rowOf (w : BitVec 32) : BitVec 32 := Scalar.muli w 256#32
abbrev sideOf (w : BitVec 32) : BitVec 32 := Scalar.maxsi 0#32 (Scalar.subi (Scalar.muli w 2#32) 1#32)
abbrev winOf (w : BitVec 32) : BitVec 32 := Scalar.muli (Scalar.minsi 12#32 (sideOf w)) 128#32

/-- The chunk opposite. -/
abbrev opp (c : Dev nD) : Dev nD := prv (prv c)

theorem word_me (c : Dev nD) : blkOf (me c) 0#32 = qword c 0 ∧ blkOf (me c) 1#32 = qword c 1 := by revert c; decide
theorem word_prv (c : Dev nD) : blkOf (on c 3#32) 0#32 = qword (prv c) 0 ∧ blkOf (on c 3#32) 1#32 = qword (prv c) 1 := by revert c; decide
theorem word_nxt (c : Dev nD) : blkOf (on c 1#32) 0#32 = qword (nxt c) 0 ∧ blkOf (on c 1#32) 1#32 = qword (nxt c) 1 := by revert c; decide
theorem word_opp (c : Dev nD) : blkOf (on c 2#32) 0#32 = qword (opp c) 0 ∧ blkOf (on c 2#32) 1#32 = qword (opp c) 1 := by revert c; decide

/-! ## What the loops read at -/

theorem offs_t1 : ∀ (c : Dev nD) (t : Fin k0_t1_loop.trips), k0_off1 c t = ![t.val, 512 * c.val + 256 * (0 : Fin 2).val, 0]
    ∧ k0_off2 c t = ![t.val, lo c 0, 0] ∧ k0_off3 t = ![t.val, 0, 0] ∧ k0_off4 t = ![t.val, 0, 0] := by decide +kernel
theorem offs_t2 : ∀ (c : Dev nD) (t : Fin k0_t2_loop.trips), k0_off6 c t = ![t.val, 512 * c.val + 256 * (1 : Fin 2).val, 0]
    ∧ k0_off7 c t = ![t.val, lo c 1, 0] ∧ k0_off8 t = ![t.val, 0, 0] ∧ k0_off9 t = ![t.val, 0, 0] := by decide +kernel
theorem offs_t4 : ∀ (c : Dev nD) (t : Fin k0_t4_loop.trips), k0_off15 c t = ![t.val, 512 * (prv c).val + 256 * (0 : Fin 2).val, 0]
    ∧ k0_off16 c t = ![t.val, lo (prv c) 0, 0] ∧ k0_off17 t = ![t.val, 0, 0] ∧ k0_off18 t = ![t.val, 0, 0] := by decide +kernel
theorem offs_t5 : ∀ (c : Dev nD) (t : Fin k0_t5_loop.trips), k0_off20 c t = ![t.val, 512 * (prv c).val + 256 * (1 : Fin 2).val, 0]
    ∧ k0_off21 c t = ![t.val, lo (prv c) 1, 0] ∧ k0_off22 t = ![t.val, 0, 0] ∧ k0_off23 t = ![t.val, 0, 0] := by decide +kernel
theorem offs_t7 : ∀ (c : Dev nD) (t : Fin k0_t7_loop.trips), k0_off29 c t = ![t.val, 512 * (nxt c).val + 256 * (0 : Fin 2).val, 0]
    ∧ k0_off30 c t = ![t.val, lo (nxt c) 0, 0] ∧ k0_off31 t = ![t.val, 0, 0] ∧ k0_off32 t = ![t.val, 0, 0] := by decide +kernel
theorem offs_t8 : ∀ (c : Dev nD) (t : Fin k0_t8_loop.trips), k0_off33 c t = ![t.val, 512 * (nxt c).val + 256 * (1 : Fin 2).val, 0]
    ∧ k0_off34 c t = ![t.val, lo (nxt c) 1, 0] ∧ k0_off35 t = ![t.val, 0, 0] ∧ k0_off36 t = ![t.val, 0, 0] := by decide +kernel
theorem offs_t10 : ∀ (c : Dev nD) (t : Fin k0_t10_loop.trips), k0_off42 c t = ![t.val, 512 * (opp c).val + 256 * (0 : Fin 2).val, 0]
    ∧ k0_off43 c t = ![t.val, lo (opp c) 0, 0] ∧ k0_off44 t = ![t.val, 0, 0] ∧ k0_off45 t = ![t.val, 0, 0] := by decide +kernel
theorem offs_t11 : ∀ (c : Dev nD) (t : Fin k0_t11_loop.trips), k0_off46 c t = ![t.val, 512 * (opp c).val + 256 * (1 : Fin 2).val, 0]
    ∧ k0_off47 c t = ![t.val, lo (opp c) 1, 0] ∧ k0_off48 t = ![t.val, 0, 0] ∧ k0_off49 t = ![t.val, 0, 0] := by decide +kernel

theorem offs_t3 : ∀ t : Fin k0_t3_loop.trips, k0_off10 t = ![t.val, 0, 0] ∧ k0_off11 t = ![t.val, 0, 0] ∧ k0_off12 t = ![t.val, 0, 0] := by decide +kernel
theorem offs_t6 : ∀ t : Fin k0_t6_loop.trips, k0_off24 t = ![t.val, 0, 0] ∧ k0_off25 t = ![t.val, 0, 0] ∧ k0_off26 t = ![t.val, 0, 0] := by decide +kernel
theorem offs_t9 : ∀ t : Fin k0_t9_loop.trips, k0_off37 t = ![t.val, 0, 0] ∧ k0_off38 t = ![t.val, 0, 0] ∧ k0_off39 t = ![t.val, 0, 0] := by decide +kernel
theorem offs_t12 : ∀ t : Fin k0_t12_loop.trips, k0_off50 t = ![t.val, 0, 0] ∧ k0_off51 t = ![t.val, 0, 0] ∧ k0_off52 t = ![t.val, 0, 0] := by decide +kernel

theorem conds : ∀ c : Dev nD, (k0_cond1 c = 1#1 ↔ c = 0) ∧ (k0_cond2 c = 1#1 ↔ prv c = 0) ∧ (k0_cond3 c = 1#1 ↔ nxt c = 0) ∧ (k0_cond4 c = 1#1 ↔ opp c = 0) := by
  decide +kernel

/-! ## Where blocks and pieces lie -/

theorem rows_me : ∀ c : Dev nD, k0_off5 c 0#32 = ![512 * c.val + 0, 0] ∧ k0_off5 c 1#32 = ![512 * c.val + 256, 0] := by decide +kernel
theorem rows_prv : ∀ c : Dev nD, k0_off19 c 3#32 0#32 = ![512 * (prv c).val + 0, 0] ∧ k0_off19 c 3#32 1#32 = ![512 * (prv c).val + 256, 0] := by decide +kernel
theorem rows_nxt : ∀ c : Dev nD, k0_off19 c 1#32 0#32 = ![512 * (nxt c).val + 0, 0] ∧ k0_off19 c 1#32 1#32 = ![512 * (nxt c).val + 256, 0] := by decide +kernel
theorem rows_opp : ∀ c : Dev nD, k0_off19 c 2#32 0#32 = ![512 * (opp c).val + 0, 0] ∧ k0_off19 c 2#32 1#32 = ![512 * (opp c).val + 256, 0] := by decide +kernel

theorem at13 : ∀ c : Dev nD, k0_off13 c = ![512 * c.val, 512 * (0 : Fin 2).val] := by decide +kernel
theorem at14 : ∀ c : Dev nD, k0_off14 c = ![512 * c.val, 512 * (1 : Fin 2).val] := by decide +kernel
theorem at27 : ∀ c : Dev nD, k0_off27 c 3#32 = ![512 * (prv c).val, 512 * (0 : Fin 2).val] ∧ k0_off27 c 2#32 = ![512 * (opp c).val, 512 * (0 : Fin 2).val] ∧ k0_off27 c 1#32 = ![512 * (nxt c).val, 512 * (0 : Fin 2).val] := by decide +kernel
theorem at28 : ∀ c : Dev nD, k0_off28 c 3#32 = ![512 * (prv c).val, 512 * (0 : Fin 2).val] ∧ k0_off28 c 2#32 = ![512 * (opp c).val, 512 * (0 : Fin 2).val] := by decide +kernel
theorem at40 : ∀ c : Dev nD, k0_off40 c 1#32 = ![512 * (nxt c).val, 512 * (1 : Fin 2).val] ∧ k0_off40 c 2#32 = ![512 * (opp c).val, 512 * (1 : Fin 2).val] ∧ k0_off40 c 3#32 = ![512 * (prv c).val, 512 * (1 : Fin 2).val] := by decide +kernel
theorem at41 : ∀ c : Dev nD, k0_off41 c 1#32 = ![512 * (nxt c).val, 512 * (1 : Fin 2).val] ∧ k0_off41 c 2#32 = ![512 * (opp c).val, 512 * (1 : Fin 2).val] := by decide +kernel
theorem at53 : ∀ c : Dev nD, k0_off53 c 0#32 = ![512 * (nxt c).val, 512 * (0 : Fin 2).val] ∧ k0_off53 c 1#32 = ![512 * c.val, 512 * (0 : Fin 2).val]
    ∧ k0_off53 c 2#32 = ![512 * (prv c).val, 512 * (0 : Fin 2).val] := by decide +kernel
theorem at54 : ∀ c : Dev nD, k0_off54 c 0#32 = ![512 * (prv c).val, 512 * (1 : Fin 2).val] ∧ k0_off54 c 1#32 = ![512 * c.val, 512 * (1 : Fin 2).val]
    ∧ k0_off54 c 2#32 = ![512 * (nxt c).val, 512 * (1 : Fin 2).val] := by decide +kernel

/-! ## Which neighbour -/

theorem dev3_eq (c : Dev nD) : (⟨k0_dev3 c, k0_dev3_lt c⟩ : Dev nD) = fwd 0 c := by revert c; decide +kernel
theorem dev5_eq (c : Dev nD) : (⟨k0_dev5 c, k0_dev5_lt c⟩ : Dev nD) = fwd 0 c := by revert c; decide +kernel
theorem dev7_eq (c : Dev nD) : (⟨k0_dev7 c, k0_dev7_lt c⟩ : Dev nD) = fwd 0 c := by revert c; decide +kernel
theorem dev9_eq (c : Dev nD) : (⟨k0_dev9 c, k0_dev9_lt c⟩ : Dev nD) = fwd 0 c := by revert c; decide +kernel
theorem dev11_eq (c : Dev nD) : (⟨k0_dev11 c, k0_dev11_lt c⟩ : Dev nD) = fwd 0 c := by revert c; decide +kernel
theorem dev13_eq (c : Dev nD) : (⟨k0_dev13 c, k0_dev13_lt c⟩ : Dev nD) = fwd 0 c := by revert c; decide +kernel
theorem dev4_eq (c : Dev nD) : (⟨k0_dev4 c, k0_dev4_lt c⟩ : Dev nD) = fwd 1 c := by revert c; decide +kernel
theorem dev6_eq (c : Dev nD) : (⟨k0_dev6 c, k0_dev6_lt c⟩ : Dev nD) = fwd 1 c := by revert c; decide +kernel
theorem dev8_eq (c : Dev nD) : (⟨k0_dev8 c, k0_dev8_lt c⟩ : Dev nD) = fwd 1 c := by revert c; decide +kernel
theorem dev10_eq (c : Dev nD) : (⟨k0_dev10 c, k0_dev10_lt c⟩ : Dev nD) = fwd 1 c := by revert c; decide +kernel
theorem dev12_eq (c : Dev nD) : (⟨k0_dev12 c, k0_dev12_lt c⟩ : Dev nD) = fwd 1 c := by revert c; decide +kernel
theorem dev14_eq (c : Dev nD) : (⟨k0_dev14 c, k0_dev14_lt c⟩ : Dev nD) = fwd 1 c := by revert c; decide +kernel
theorem dev1_eq (c : Dev nD) : (⟨k0_dev1 c, k0_dev1_lt c⟩ : Dev nD) = bwd 0 c := by revert c; decide +kernel
theorem dev2_eq (c : Dev nD) : (⟨k0_dev2 c, k0_dev2_lt c⟩ : Dev nD) = bwd 1 c := by revert c; decide +kernel

end Cert.KernelIdealRun
-- ==== Proof.KernelIdealRun.PartsA.lean ====
/-
The first third of the program: the handshake, the device's own chunk computed and sent on both ways, the chunk
before it computed, and the first sum that comes from the left.
-/
module

public import proofs.«01_k».proof.Proof.KernelIdealRun.Words

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

set_option maxHeartbeats 1000000
attribute [local irreducible] k0_cond1 k0_cond2 k0_cond3 k0_cond4

/-- The handshake: both neighbours told that the landing slots are free, then both neighbours' word awaited. -/
theorem part9_runs (c : Dev nD) (I : Dev nD → Ins F) (K : GSem nD τ sig → ℕ) {W : Waits sig Unit} {α : Type} {Q : α → sProp 𝕄}
    {k : (Σ' (d0 : Dev nD) (v2 : BitVec 32) (v5 : BitVec 32) (v7 : BitVec 32) (v13 : IVec S256x512 32) (v14 : IVec S256x512 32) (v15 : IVec S256x128 32) (v17 : BitVec 32) (v18 : BitVec 32) (v23 : BitVec 32) (v29 : IVec S256x512 32), IVec S256x512 32) → Prog (TpuEff nD τ sig (Elt F) Λ₀ .tc) α} :
    iprop((records I K ∗ levAts L lv) ∗ owes (c : Thread nD τ) (O₀ c) W ∗ (dutyTok ER (bCell (bwd 0 c)) 0 (0 : Fin 2) ∗ dutyTok ER (bCell (bwd 1 c)) 0 (1 : Fin 2))
        ∗ (anySlot c 0 0 ∗ anySlot c 0 1 ∗ anySlot c 0 2) ∗ (anySlot c 1 0 ∗ anySlot c 1 1 ∗ anySlot c 1 2) ∗ (ready c 0 ∗ ready c 1)
        ∗ (atPos ER (bCell c) 0 ∅ 0 ∗ cred (tallyAt (bCell c) () 2)))
      ⊢ iprop((owing c (order.drop 0) -∗ semVal (bCell c) 0 -∗ world I K c -∗ (anySlot (fwd 0 c) 0 0 ∗ anySlot (fwd 0 c) 0 1 ∗ anySlot (fwd 0 c) 0 2)
          -∗ (anySlot (fwd 1 c) 1 0 ∗ anySlot (fwd 1 c) 1 1 ∗ anySlot (fwd 1 c) 1 2)
          -∗ Runs c (k ⟨c, me c, Scalar.remsi (Scalar.subi (Scalar.addi (me c) 4#32) 1#32) 4#32, on c 1#32, iR, iC, iK, blkOf (me c) 0#32,
              rowOf (blkOf (me c) 0#32), winOf (blkOf (me c) 0#32), k0_pay9 c, k0_pay10⟩) Q)
        -∗ Runs c (k0_part9 qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4 >>= k) Q) := by
  rw [k0_part9_eq_skeleton]
  unfold k0_part9_skel Runs
  simp only [semSignalWord, semWaitWord, Prog.lift, Prog.bind_op, Prog.bind_ret, Prog.pure_eq_ret, Prog.bind_assoc, wp_deviceId]
  iintro ⟨⟨#HR, #HL⟩, HO, ⟨Ht0, Ht1⟩, Hs0, Hs1, ⟨#Hr0, #Hr1⟩, Hat, Hc⟩ HQ
  iapply (signal_runs I K c 0 (debt c order + tallyAt (bCell (nxt c)) () 1) (congrArg (fun d : Dev nD => (d : Thread nD τ)) (dev1_eq c)) rfl rfl) $$ [HO Ht0 Hs0]
  · isplitr; · iexact HR
    isplitl [HO]; · iexact HO
    isplitl [Ht0]; · iexact Ht0
    isplitl [Hs0]; · iexact Hs0
    iexact Hr0
  iintro HO
  iapply (signal_runs I K c 1 (debt c order) (congrArg (fun d : Dev nD => (d : Thread nD τ)) (dev2_eq c)) rfl rfl) $$ [HO Ht1 Hs1]
  · isplitr; · iexact HR
    isplitl [HO]; · iexact HO
    isplitl [Ht1]; · iexact Ht1
    isplitl [Hs1]; · iexact Hs1
    iexact Hr1
  iintro HO
  iapply (barrier_runs I K c rfl rfl) $$ [HO Hat Hc]
  · isplitr; · iexact HR
    isplitr; · iexact HL
    isplitl [HO]; · iexact HO
    isplitl [Hat]; · iexact Hat
    iexact Hc
  unfold barPay
  rw [show owing (F := F) c order = owing c (order.drop 0) from rfl]
  iintro ⟨HO, HZ, ⟨HS0, #HY0⟩, HS1, #HY1⟩
  iapply HQ $$ HO HZ [] HS0 HS1
  unfold world
  isplitr; · iexact HR
  isplitr; · iexact HL
  isplitr; · iexact HY0
  iexact HY1

/-- The first block of the device's own chunk. -/
theorem part10_runs (c : Dev nD) (I : Dev nD → Ins F) {P : Fin 512 → Fin 1024 → F .bf16 → Prop} {α : Type} {Q : α → sProp 𝕄}
    {k : (Σ' (v51 : BitVec 32) (v52 : BitVec 32) (v57 : BitVec 32) (v65 : IVec S256x512 1), IVec S256x512 1) → Prog (TpuEff nD τ sig (Elt F) Λ₀ .tc) α} :
    iprop(inputs c (I c) ∗ stage c c P)
      ⊢ iprop((inputs c (I c) -∗ stage c c (stored (I c) c 0 0 P)
          -∗ Runs c (k ⟨blkOf (me c) 1#32, rowOf (blkOf (me c) 1#32), winOf (blkOf (me c) 1#32), k0_pay16 (me c) iR iC, k0_pay17 (me c) iC⟩) Q)
        -∗ Runs c (k0_part10 qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4 c (me c) iR iC iK (blkOf (me c) 0#32) (rowOf (blkOf (me c) 0#32)) (winOf (blkOf (me c) 0#32)) (k0_pay9 c) k0_pay10 >>= k) Q) := by
  rw [k0_part10_eq_skeleton]
  unfold k0_part10_skel
  simp only [Prog.lift, Prog.bind_op, Prog.bind_ret, Prog.pure_eq_ret, Prog.bind_assoc]
  iintro HIS HQ
  iapply (block_run c (I c) c 0 0 (by omega) P k0_t1_ok rfl rfl _ (i0 := k0_off1_inb c) (i1 := k0_off2_inb c) (i3 := k0_off3_inb) (i4 := k0_off4_inb)
    (fun t x => rfl) (offs_t1 c) (congrArg winMask (word_me c).1) (congrArg headMask (word_me c).1) (rows_me c).1 rfl) $$ HIS
  iintro HI HS
  iapply HQ $$ HI HS

/-- The second block, the first rows of chunk 0 where it is this one, and the first half sent to the right. -/
theorem part11_runs (c : Dev nD) (I : Dev nD → Ins F) (K : GSem nD τ sig → ℕ) {P : Fin 512 → Fin 1024 → F .bf16 → Prop} {v2 v7 : BitVec 32} {α : Type} {Q : α → sProp 𝕄}
    {k : PUnit → Prog (TpuEff nD τ sig (Elt F) Λ₀ .tc) α} :
    iprop(inputs c (I c) ∗ stage c c (stored (I c) c 0 0 P) ∗ world I K c ∗ owing c (order.drop 0) ∗ kit c (0, 0) ∗ anySlot (fwd 0 c) 0 0)
      ⊢ iprop((inputs c (I c) -∗ piece c c 1 (part (I c) c 1) -∗ owing c (order.drop 1) -∗ flight c (0, 0) -∗ Runs c (k ⟨⟩) Q)
        -∗ Runs c (k0_part11 qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4 c v2 v7 iK (blkOf (me c) 1#32) (rowOf (blkOf (me c) 1#32)) (winOf (blkOf (me c) 1#32)) (k0_pay16 (me c) iR iC) (k0_pay17 (me c) iC) >>= k) Q) := by
  rw [k0_part11_eq_skeleton]
  unfold k0_part11_skel
  simp only [Prog.lift, Prog.bind_op, Prog.bind_ret, Prog.pure_eq_ret, Prog.bind_assoc]
  iintro ⟨HI, HS, #HW, HO, HK, HA⟩ HQ
  iapply (block_run c (I c) c 1 256 (by omega) _ k0_t2_ok rfl rfl _ (i0 := k0_off6_inb c) (i1 := k0_off7_inb c) (i3 := k0_off8_inb) (i4 := k0_off9_inb)
    (fun t x => rfl) (offs_t2 c) (congrArg winMask (word_me c).2) (congrArg headMask (word_me c).2) (rows_me c).2 rfl) $$ [HI HS]
  · isplitl [HI]; · iexact HI
    iexact HS
  iintro HI HS
  iapply (top_run c (I c) c (conds c).1 (k0_t3_ok c) rfl rfl (k0_t3_body qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4 c v2 v7 iK (blkOf (me c) 1#32) (rowOf (blkOf (me c) 1#32)) (winOf (blkOf (me c) 1#32)) (k0_pay16 (me c) iR iC) (k0_pay17 (me c) iC))
    (fun h t x => ⟨_, _, _, k0_off10_inb c t h, k0_off11_inb c t h, k0_off12_inb c t h, (offs_t3 t).1, (offs_t3 t).2.1, (offs_t3 t).2.2, rfl⟩) rfl) $$ [HI HS]
  · isplitl [HI]; · iexact HI
    iexact HS
  iintro HI HP0 HP1
  simp only [Prog.bind_op, Prog.bind_ret]
  iapply (pass I K c 0 0 0 (x := (0, 0)) rfl rfl (j := c) rfl (dev3_eq c) (at13 c) rfl rfl rfl) $$ [HO HK HP0 HA]
  · isplitr; · iexact HW
    isplitl [HO]; · iexact HO
    isplitl [HK]; · iexact HK
    isplitl [HP0]; · iexact HP0
    isplitl [HA]; · iexact HA
    iapply fwds_none; ipureintro; trivial
  iintro HO HF
  iapply HQ $$ HI HP1 HO HF

/-- The second half sent to the left. -/
theorem part12_runs (c : Dev nD) (I : Dev nD → Ins F) (K : GSem nD τ sig → ℕ) {v5 : BitVec 32} {α : Type} {Q : α → sProp 𝕄}
    {k : (Σ' (v112 : BitVec 32) (v115 : BitVec 32) (v120 : BitVec 32) (v133 : IVec S256x512 1), IVec S256x128 1) → Prog (TpuEff nD τ sig (Elt F) Λ₀ .tc) α} :
    iprop(world I K c ∗ owing c (order.drop 1) ∗ kit c (1, 0) ∗ piece c c 1 (part (I c) c 1) ∗ anySlot (fwd 1 c) 1 0)
      ⊢ iprop((owing c (order.drop 2) -∗ flight c (1, 0) -∗ Runs c (k ⟨on c 3#32, rowOf (blkOf (on c 3#32) 0#32), winOf (blkOf (on c 3#32) 0#32), k0_pay26 (me c) iR iC, k0_pay27 (me c) iK⟩) Q)
        -∗ Runs c (k0_part12 qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4 c (me c) v5 iR iC iK >>= k) Q) := by
  rw [k0_part12_eq_skeleton]
  unfold k0_part12_skel
  simp only [Prog.lift, Prog.bind_op, Prog.bind_ret, Prog.pure_eq_ret, Prog.bind_assoc]
  iintro ⟨#HW, HO, HK, HP, HA⟩ HQ
  iapply (pass I K c 1 0 1 (x := (1, 0)) rfl rfl (j := c) rfl (dev4_eq c) (at14 c) rfl rfl rfl) $$ [HO HK HP HA]
  · isplitr; · iexact HW
    isplitl [HO]; · iexact HO
    isplitl [HK]; · iexact HK
    isplitl [HP]; · iexact HP
    isplitl [HA]; · iexact HA
    iapply fwds_none; ipureintro; trivial
  iintro HO HF
  iapply HQ $$ HO HF

/-- The first block of the chunk before the device's own. -/
theorem part13_runs (c : Dev nD) (I : Dev nD → Ins F) {P : Fin 512 → Fin 1024 → F .bf16 → Prop} {α : Type} {Q : α → sProp 𝕄}
    {k : (Σ' (v149 : BitVec 32) (v154 : BitVec 32) (v167 : IVec S256x512 1) (v172 : IVec S256x128 1) (v173 : FVec F S256x1024 .f32) (c0_i32_98 : BitVec 32), BitVec 32) → Prog (TpuEff nD τ sig (Elt F) Λ₀ .tc) α} :
    iprop(inputs c (I c) ∗ stage c (prv c) P)
      ⊢ iprop((inputs c (I c) -∗ stage c (prv c) (stored (I c) (prv c) 0 0 P)
          -∗ Runs c (k ⟨rowOf (blkOf (on c 3#32) 1#32), winOf (blkOf (on c 3#32) 1#32), k0_pay31 iR iC (on c 3#32), k0_pay32 iK (on c 3#32), k0_pay33, 0#32, 1#32⟩) Q)
        -∗ Runs c (k0_part13 qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4 c iR iC iK (on c 3#32) (rowOf (blkOf (on c 3#32) 0#32)) (winOf (blkOf (on c 3#32) 0#32)) (k0_pay26 (me c) iR iC) (k0_pay27 (me c) iK) >>= k) Q) := by
  rw [k0_part13_eq_skeleton]
  unfold k0_part13_skel
  simp only [Prog.lift, Prog.bind_op, Prog.bind_ret, Prog.pure_eq_ret, Prog.bind_assoc]
  iintro HIS HQ
  iapply (block_run c (I c) (prv c) 0 0 (by omega) P k0_t4_ok rfl rfl _ (i0 := k0_off15_inb c) (i1 := k0_off16_inb c) (i3 := k0_off17_inb) (i4 := k0_off18_inb)
    (fun t x => rfl) (offs_t4 c) (congrArg winMask (word_prv c).1) (congrArg headMask (word_prv c).1) (rows_prv c).1 rfl) $$ HIS
  iintro HI HS
  iapply HQ $$ HI HS

/-- The second block, the first rows where they belong to it, and the sum that comes from the left. -/
theorem part14_runs (c : Dev nD) (I : Dev nD → Ins F) (K : GSem nD τ sig → ℕ) {P : Fin 512 → Fin 1024 → F .bf16 → Prop} {v7 : BitVec 32} {α : Type} {Q : α → sProp 𝕄}
    {k : (Σ' (v199 : BitVec 32) (v201 : Vec F S512x512 .bf16), FVec F S512x512 .bf16) → Prog (TpuEff nD τ sig (Elt F) Λ₀ .tc) α} :
    iprop(inputs c (I c) ∗ stage c (prv c) (stored (I c) (prv c) 0 0 P) ∗ world I K c ∗ owing c (order.drop 2) ∗ flight c (0, 0))
      ⊢ iprop((inputs c (I c) -∗ piece c (prv c) 0 (part (I c) (prv c) 0) -∗ piece c (prv c) 1 (part (I c) (prv c) 1) -∗ owing c (order.drop 2)
          -∗ semVal (sCell c (0, 0)) 0 -∗ semVal (vCell c (0, 0)) 0 -∗ got I c 0 0 -∗ tow c 0 0
          -∗ Runs c (k ⟨Scalar.muli (Scalar.remsi (Scalar.addi (Scalar.addi (me c) 3#32) 8#32) 4#32) 512#32, part (I c) (prv c) 0, acc I 0 (0 : Fin 3).val (bwd 0 c)⟩) Q)
        -∗ Runs c (k0_part14 qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4 c (me c) v7 (on c 3#32) (rowOf (blkOf (on c 3#32) 1#32)) (winOf (blkOf (on c 3#32) 1#32)) (k0_pay31 iR iC (on c 3#32)) (k0_pay32 iK (on c 3#32)) k0_pay33 0#32 1#32 >>= k) Q) := by
  rw [k0_part14_eq_skeleton]
  unfold k0_part14_skel
  simp only [Prog.lift, Prog.bind_op, Prog.bind_ret, Prog.pure_eq_ret, Prog.bind_assoc]
  iintro ⟨HI, HS, #HW, HO, HF⟩ HQ
  iapply (block_run c (I c) (prv c) 1 256 (by omega) _ k0_t5_ok rfl rfl _ (i0 := k0_off20_inb c) (i1 := k0_off21_inb c) (i3 := k0_off22_inb) (i4 := k0_off23_inb)
    (fun t x => rfl) (offs_t5 c) (congrArg winMask (word_prv c).2) (congrArg headMask (word_prv c).2) (rows_prv c).2 rfl) $$ [HI HS]
  · isplitl [HI]; · iexact HI
    iexact HS
  iintro HI HS
  iapply (top_run c (I c) (prv c) (conds c).2.1 (k0_t6_ok c) rfl rfl (k0_t6_body qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4 c (me c) v7 (on c 3#32) (rowOf (blkOf (on c 3#32) 1#32)) (winOf (blkOf (on c 3#32) 1#32)) (k0_pay31 iR iC (on c 3#32)) (k0_pay32 iK (on c 3#32)) k0_pay33 0#32 1#32)
    (fun h t x => ⟨_, _, _, k0_off24_inb c t h, k0_off25_inb c t h, k0_off26_inb c t h, (offs_t6 t).1, (offs_t6 t).2.1, (offs_t6 t).2.2, rfl⟩) rfl) $$ [HI HS]
  · isplitl [HI]; · iexact HI
    iexact HS
  iintro HI HP0 HP1
  simp only [Prog.bind_op, Prog.bind_ret]
  iapply (sent I K c (0, 0) (by decide) 2 rfl) $$ [HO HF]
  · isplitr; · iexact HW
    isplitl [HO]; · iexact HO
    iexact HF
  iintro HO HZ HL
  iapply (came I K c 0 0 2 (x := (0, 0)) rfl (by decide) rfl) $$ [HO HL]
  · isplitr; · iexact HW
    isplitl [HO]; · iexact HO
    iexact HL
  iintro HO HZ' HS HG
  iapply (piece_load c (prv c) 0 _ (at27 c).1) $$ HP0
  iintro HP0
  iapply (slot_load c 0 0 _ rrM rfl rfl) $$ HS
  iintro %Y %hY HS
  rw [show k0_pay39 Y = acc I 0 (0 : Fin 3).val (bwd 0 c) from hY]
  iapply HQ $$ HI HP0 HP1 HO HZ HZ' HS HG

end Cert.KernelIdealRun
-- ==== Proof.KernelIdealRun.PartsB.lean ====
/-
The second third of the program: the sums sent on, the chunk after the device's own and the one opposite computed.
-/
module

public import proofs.«01_k».proof.Proof.KernelIdealRun.PartsA

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

set_option maxHeartbeats 1000000
attribute [local irreducible] k0_cond1 k0_cond2 k0_cond3 k0_cond4

/-- The sum from the left with the device's own part added, sent on to the right. -/
theorem part15_runs (c : Dev nD) (I : Dev nD → Ins F) (K : GSem nD τ sig → ℕ) {v7 v199 : BitVec 32} {α : Type} {Q : α → sProp 𝕄}
    {k : (Σ' (v223 : BitVec 32) (v225 : BitVec 32) (v226 : BitVec 32) (v231 : BitVec 32), IVec S256x512 32) → Prog (TpuEff nD τ sig (Elt F) Λ₀ .tc) α} :
    iprop(world I K c ∗ owing c (order.drop 2) ∗ kit c (0, 1) ∗ piece c (prv c) 0 (part (I c) (prv c) 0) ∗ anySlot (fwd 0 c) 0 1 ∗ tow c 0 0)
      ⊢ iprop((owing c (order.drop 3) -∗ flight c (0, 1)
          -∗ Runs c (k ⟨on c 1#32, blkOf (on c 1#32) 0#32, rowOf (blkOf (on c 1#32) 0#32), winOf (blkOf (on c 1#32) 0#32), k0_pay41 (me c) iR iC⟩) Q)
        -∗ Runs c (k0_part15 qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4 c (me c) v7 iR iC v199 (part (I c) (prv c) 0) (acc I 0 (0 : Fin 3).val (bwd 0 c)) >>= k) Q) := by
  rw [k0_part15_eq_skeleton]
  unfold k0_part15_skel
  simp only [Prog.lift, Prog.bind_op, Prog.bind_ret, Prog.pure_eq_ret, Prog.bind_assoc]
  iintro ⟨#HW, HO, HK, HP, HA, HG⟩ HQ
  iapply (piece_load c (prv c) 0 _ (at27 c).1) $$ HP
  iintro HP
  rw [pay40_eq, show addf (part (I c) (prv c) 0) (acc I 0 (0 : Fin 3).val (bwd 0 c)) = acc I 0 (1 : Fin 3).val c from rfl]
  iapply (piece_store c (prv c) 0 _ _ (at27 c).1) $$ HP
  iintro HP
  iapply (pass I K c 0 1 2 (x := (0, 1)) rfl rfl (j := prv c) rfl (dev5_eq c) (at28 c).1 rfl rfl rfl) $$ [HO HK HP HA HG]
  · isplitr; · iexact HW
    isplitl [HO]; · iexact HO
    isplitl [HK]; · iexact HK
    isplitl [HP]; · iexact HP
    isplitl [HA]; · iexact HA
    iexact HG
  iintro HO HF
  iapply HQ $$ HO HF

/-- The first block of the chunk after the device's own. -/
theorem part16_runs (c : Dev nD) (I : Dev nD → Ins F) {P : Fin 512 → Fin 1024 → F .bf16 → Prop} {α : Type} {Q : α → sProp 𝕄}
    {k : (Σ' (v259 : BitVec 32) (v260 : BitVec 32) (v265 : BitVec 32) (v273 : IVec S256x512 1) (v275 : IVec S256x512 32), BitVec 32) → Prog (TpuEff nD τ sig (Elt F) Λ₀ .tc) α} :
    iprop(inputs c (I c) ∗ stage c (nxt c) P)
      ⊢ iprop((inputs c (I c) -∗ stage c (nxt c) (stored (I c) (nxt c) 0 0 P)
          -∗ Runs c (k ⟨blkOf (on c 1#32) 1#32, rowOf (blkOf (on c 1#32) 1#32), winOf (blkOf (on c 1#32) 1#32), k0_pay47 iR iC (on c 1#32), k0_pay48 iC (on c 1#32), 32#32⟩) Q)
        -∗ Runs c (k0_part16 qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4 c iR iC iK (on c 1#32) (blkOf (on c 1#32) 0#32) (rowOf (blkOf (on c 1#32) 0#32)) (winOf (blkOf (on c 1#32) 0#32)) (k0_pay41 (me c) iR iC) >>= k) Q) := by
  rw [k0_part16_eq_skeleton]
  unfold k0_part16_skel
  simp only [Prog.lift, Prog.bind_op, Prog.bind_ret, Prog.pure_eq_ret, Prog.bind_assoc]
  iintro HIS HQ
  iapply (block_run c (I c) (nxt c) 0 0 (by omega) P k0_t7_ok rfl rfl _ (i0 := k0_off29_inb c) (i1 := k0_off30_inb c) (i3 := k0_off31_inb) (i4 := k0_off32_inb)
    (fun t x => rfl) (offs_t7 c) (congrArg winMask (word_nxt c).1) (congrArg headMask (word_nxt c).1) (rows_nxt c).1 rfl) $$ HIS
  iintro HI HS
  iapply HQ $$ HI HS

/-- The second block, the first rows where they belong to it, and the sum that comes from the right. -/
theorem part17_runs (c : Dev nD) (I : Dev nD → Ins F) (K : GSem nD τ sig → ℕ) {P : Fin 512 → Fin 1024 → F .bf16 → Prop} {v5 : BitVec 32} {α : Type} {Q : α → sProp 𝕄}
    {k : PUnit → Prog (TpuEff nD τ sig (Elt F) Λ₀ .tc) α} :
    iprop(inputs c (I c) ∗ stage c (nxt c) (stored (I c) (nxt c) 0 0 P) ∗ world I K c ∗ owing c (order.drop 3) ∗ flight c (1, 0))
      ⊢ iprop((inputs c (I c) -∗ piece c (nxt c) 0 (part (I c) (nxt c) 0) -∗ piece c (nxt c) 1 (part (I c) (nxt c) 1) -∗ owing c (order.drop 3)
          -∗ semVal (sCell c (1, 0)) 0 -∗ semVal (vCell c (1, 0)) 0 -∗ got I c 1 0 -∗ tow c 1 0 -∗ Runs c (k ⟨⟩) Q)
        -∗ Runs c (k0_part17 qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4 c v5 iK (on c 1#32) (blkOf (on c 1#32) 1#32) (rowOf (blkOf (on c 1#32) 1#32)) (winOf (blkOf (on c 1#32) 1#32)) (k0_pay47 iR iC (on c 1#32)) (k0_pay48 iC (on c 1#32)) 32#32 >>= k) Q) := by
  rw [k0_part17_eq_skeleton]
  unfold k0_part17_skel
  simp only [Prog.lift, Prog.bind_op, Prog.bind_ret, Prog.pure_eq_ret, Prog.bind_assoc]
  iintro ⟨HI, HS, #HW, HO, HF⟩ HQ
  iapply (block_run c (I c) (nxt c) 1 256 (by omega) _ k0_t8_ok rfl rfl _ (i0 := k0_off33_inb c) (i1 := k0_off34_inb c) (i3 := k0_off35_inb) (i4 := k0_off36_inb)
    (fun t x => rfl) (offs_t8 c) (congrArg winMask (word_nxt c).2) (congrArg headMask (word_nxt c).2) (rows_nxt c).2 rfl) $$ [HI HS]
  · isplitl [HI]; · iexact HI
    iexact HS
  iintro HI HS
  iapply (top_run c (I c) (nxt c) (conds c).2.2.1 (k0_t9_ok c) rfl rfl (k0_t9_body qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4 c v5 iK (on c 1#32) (blkOf (on c 1#32) 1#32) (rowOf (blkOf (on c 1#32) 1#32)) (winOf (blkOf (on c 1#32) 1#32)) (k0_pay47 iR iC (on c 1#32)) (k0_pay48 iC (on c 1#32)) 32#32)
    (fun h t x => ⟨_, _, _, k0_off37_inb c t h, k0_off38_inb c t h, k0_off39_inb c t h, (offs_t9 t).1, (offs_t9 t).2.1, (offs_t9 t).2.2, rfl⟩) rfl) $$ [HI HS]
  · isplitl [HI]; · iexact HI
    iexact HS
  iintro HI HP0 HP1
  simp only [Prog.bind_op, Prog.bind_ret]
  iapply (sent I K c (1, 0) (by decide) 3 rfl) $$ [HO HF]
  · isplitr; · iexact HW
    isplitl [HO]; · iexact HO
    iexact HF
  iintro HO HZ HL
  iapply (came I K c 1 0 3 (x := (1, 0)) rfl (by decide) rfl) $$ [HO HL]
  · isplitr; · iexact HW
    isplitl [HO]; · iexact HO
    iexact HL
  iintro HO HZ' HS HG
  iapply HQ $$ HI HP0 HP1 HO HZ HZ' HS HG

/-- The sum from the right with the device's own part added, sent on to the left. -/
theorem part18_runs (c : Dev nD) (I : Dev nD → Ins F) (K : GSem nD τ sig → ℕ) {v5 : BitVec 32} {α : Type} {Q : α → sProp 𝕄}
    {k : (Σ' (v334 : BitVec 32) (v336 : BitVec 32) (v337 : BitVec 32), BitVec 32) → Prog (TpuEff nD τ sig (Elt F) Λ₀ .tc) α} :
    iprop(world I K c ∗ owing c (order.drop 3) ∗ kit c (1, 1) ∗ piece c (nxt c) 1 (part (I c) (nxt c) 1) ∗ got I c 1 0 ∗ anySlot (fwd 1 c) 1 1 ∗ tow c 1 0)
      ⊢ iprop((owing c (order.drop 4) -∗ flight c (1, 1) -∗ got I c 1 0 -∗ Runs c (k ⟨on c 2#32, blkOf (on c 2#32) 0#32, rowOf (blkOf (on c 2#32) 0#32), 2#32⟩) Q)
        -∗ Runs c (k0_part18 qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4 c (me c) v5 >>= k) Q) := by
  rw [k0_part18_eq_skeleton]
  unfold k0_part18_skel
  simp only [Prog.lift, Prog.bind_op, Prog.bind_ret, Prog.pure_eq_ret, Prog.bind_assoc]
  iintro ⟨#HW, HO, HK, HP, HS, HA, HG⟩ HQ
  iapply (add_runs c I 1 0 (j := nxt c) rfl (at40 c).1 (M := rlM) rfl rfl rfl) $$ [HP HS]
  · isplitl [HP]; · iexact HP
    iexact HS
  iintro HP HS
  iapply (pass I K c 1 1 3 (x := (1, 1)) rfl rfl (j := nxt c) rfl (dev6_eq c) (at41 c).1 rfl rfl rfl) $$ [HO HK HP HA HG]
  · isplitr; · iexact HW
    isplitl [HO]; · iexact HO
    isplitl [HK]; · iexact HK
    isplitl [HP]; · iexact HP
    isplitl [HA]; · iexact HA
    iexact HG
  iintro HO HF
  iapply HQ $$ HO HF HS

/-- The first block of the chunk opposite. -/
theorem part19_runs (c : Dev nD) (I : Dev nD → Ins F) {P : Fin 512 → Fin 1024 → F .bf16 → Prop} {α : Type} {Q : α → sProp 𝕄}
    {k : (Σ' (v370 : BitVec 32) (v371 : BitVec 32) (c12_i32_245 : BitVec 32), BitVec 32) → Prog (TpuEff nD τ sig (Elt F) Λ₀ .tc) α} :
    iprop(inputs c (I c) ∗ stage c (opp c) P)
      ⊢ iprop((inputs c (I c) -∗ stage c (opp c) (stored (I c) (opp c) 0 0 P)
          -∗ Runs c (k ⟨blkOf (on c 2#32) 1#32, rowOf (blkOf (on c 2#32) 1#32), 12#32, sideOf (blkOf (on c 2#32) 1#32)⟩) Q)
        -∗ Runs c (k0_part19 qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4 c iR iC iK (on c 2#32) (blkOf (on c 2#32) 0#32) (rowOf (blkOf (on c 2#32) 0#32)) 2#32 >>= k) Q) := by
  rw [k0_part19_eq_skeleton]
  unfold k0_part19_skel
  simp only [Prog.lift, Prog.bind_op, Prog.bind_ret, Prog.pure_eq_ret, Prog.bind_assoc]
  iintro HIS HQ
  iapply (block_run c (I c) (opp c) 0 0 (by omega) P k0_t10_ok rfl rfl _ (i0 := k0_off42_inb c) (i1 := k0_off43_inb c) (i3 := k0_off44_inb) (i4 := k0_off45_inb)
    (fun t x => rfl) (offs_t10 c) (congrArg winMask (word_opp c).1) (congrArg headMask (word_opp c).1) (rows_opp c).1 rfl) $$ HIS
  iintro HI HS
  iapply HQ $$ HI HS

/-- The second block, the first rows where they belong to it, and the wait for the second sum's sending to the right. -/
theorem part20_runs (c : Dev nD) (I : Dev nD → Ins F) (K : GSem nD τ sig → ℕ) {P : Fin 512 → Fin 1024 → F .bf16 → Prop} {α : Type} {Q : α → sProp 𝕄}
    {k : PUnit → Prog (TpuEff nD τ sig (Elt F) Λ₀ .tc) α} :
    iprop(inputs c (I c) ∗ stage c (opp c) (stored (I c) (opp c) 0 0 P) ∗ world I K c ∗ owing c (order.drop 4) ∗ flight c (0, 1))
      ⊢ iprop((inputs c (I c) -∗ piece c (opp c) 0 (part (I c) (opp c) 0) -∗ piece c (opp c) 1 (part (I c) (opp c) 1) -∗ owing c (order.drop 4)
          -∗ semVal (sCell c (0, 1)) 0 -∗ landing c (0, 1) -∗ Runs c (k ⟨⟩) Q)
        -∗ Runs c (k0_part20 qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4 c iR iC iK (on c 2#32) (blkOf (on c 2#32) 1#32) (rowOf (blkOf (on c 2#32) 1#32)) 12#32 (sideOf (blkOf (on c 2#32) 1#32)) >>= k) Q) := by
  rw [k0_part20_eq_skeleton]
  unfold k0_part20_skel
  simp only [Prog.lift, Prog.bind_op, Prog.bind_ret, Prog.pure_eq_ret, Prog.bind_assoc]
  iintro ⟨HI, HS, #HW, HO, HF⟩ HQ
  iapply (block_run c (I c) (opp c) 1 256 (by omega) _ k0_t11_ok rfl rfl _ (i0 := k0_off46_inb c) (i1 := k0_off47_inb c) (i3 := k0_off48_inb) (i4 := k0_off49_inb)
    (fun t x => rfl) (offs_t11 c) (congrArg winMask (word_opp c).2) (congrArg headMask (word_opp c).2) (rows_opp c).2 rfl) $$ [HI HS]
  · isplitl [HI]; · iexact HI
    iexact HS
  iintro HI HS
  iapply (top_run c (I c) (opp c) (conds c).2.2.2 (k0_t12_ok c) rfl rfl (k0_t12_body qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4 c iR iC iK (on c 2#32) (blkOf (on c 2#32) 1#32) (rowOf (blkOf (on c 2#32) 1#32)) 12#32 (sideOf (blkOf (on c 2#32) 1#32)))
    (fun h t x => ⟨_, _, _, k0_off50_inb c t h, k0_off51_inb c t h, k0_off52_inb c t h, (offs_t12 t).1, (offs_t12 t).2.1, (offs_t12 t).2.2, rfl⟩) rfl) $$ [HI HS]
  · isplitl [HI]; · iexact HI
    iexact HS
  iintro HI HP0 HP1
  simp only [Prog.bind_op, Prog.bind_ret]
  iapply (sent I K c (0, 1) (by decide) 4 rfl) $$ [HO HF]
  · isplitr; · iexact HW
    isplitl [HO]; · iexact HO
    iexact HF
  iintro HO HZ HL
  iapply HQ $$ HI HP0 HP1 HO HZ HL

end Cert.KernelIdealRun
-- ==== Proof.KernelIdealRun.PartsC.lean ====
/-
The last sums received, and the two halves of chunks the device finishes.
-/
module

public import proofs.«01_k».proof.Proof.KernelIdealRun.PartsB

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

set_option maxHeartbeats 1000000

/-- The second sum from the left with the device's own part added. -/
theorem part21_runs (c : Dev nD) (I : Dev nD → Ins F) (K : GSem nD τ sig → ℕ) {v2 v7 : BitVec 32} {α : Type} {Q : α → sProp 𝕄} {k : PUnit → Prog (TpuEff nD τ sig (Elt F) Λ₀ .tc) α} :
    iprop(world I K c ∗ owing c (order.drop 4) ∗ landing c (0, 1) ∗ piece c (opp c) 0 (part (I c) (opp c) 0))
      ⊢ iprop((owing c (order.drop 4) -∗ semVal (vCell c (0, 1)) 0 -∗ piece c (opp c) 0 (acc I 0 ((1 : Fin 3).val + 1) c) -∗ got I c 0 1 -∗ tow c 0 1 -∗ Runs c (k ⟨⟩) Q)
        -∗ Runs c (k0_part21 qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4 c v2 v7 >>= k) Q) := by
  rw [k0_part21_eq_skeleton]
  unfold k0_part21_skel
  simp only [Prog.lift, Prog.bind_op, Prog.bind_ret, Prog.pure_eq_ret, Prog.bind_assoc]
  iintro ⟨#HW, HO, HL, HP⟩ HQ
  iapply (came I K c 0 1 4 (x := (0, 1)) rfl (by decide) rfl) $$ [HO HL]
  · isplitr; · iexact HW
    isplitl [HO]; · iexact HO
    iexact HL
  iintro HO HZ HS HG
  iapply (add_runs c I 0 1 (j := opp c) rfl (at27 c).2.1 (M := rrM) rfl rfl rfl) $$ [HP HS]
  · isplitl [HP]; · iexact HP
    iexact HS
  iintro HP HS
  iapply HQ $$ HO HZ HP HS HG

/-- It is sent on to the right; the second sum from the right with the device's own part added. -/
theorem part22_runs (c : Dev nD) (I : Dev nD → Ins F) (K : GSem nD τ sig → ℕ) {v5 : BitVec 32} {α : Type} {Q : α → sProp 𝕄} {k : (Σ' (v469 : BitVec 32), BitVec 32) → Prog (TpuEff nD τ sig (Elt F) Λ₀ .tc) α} :
    iprop(world I K c ∗ owing c (order.drop 4) ∗ kit c (0, 2) ∗ piece c (opp c) 0 (acc I 0 ((1 : Fin 3).val + 1) c) ∗ anySlot (fwd 0 c) 0 2 ∗ tow c 0 1
        ∗ flight c (1, 1) ∗ piece c (opp c) 1 (part (I c) (opp c) 1))
      ⊢ iprop((owing c (order.drop 5) -∗ flight c (0, 2) -∗ semVal (sCell c (1, 1)) 0 -∗ semVal (vCell c (1, 1)) 0
          -∗ piece c (opp c) 1 (acc I 1 ((1 : Fin 3).val + 1) c) -∗ got I c 1 1 -∗ tow c 1 1 -∗ Runs c (k ⟨Scalar.addi (me c) 2#32, 8#32⟩) Q)
        -∗ Runs c (k0_part22 qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4 c (me c) v5 >>= k) Q) := by
  rw [k0_part22_eq_skeleton]
  unfold k0_part22_skel
  simp only [Prog.lift, Prog.bind_op, Prog.bind_ret, Prog.pure_eq_ret, Prog.bind_assoc]
  iintro ⟨#HW, HO, HK, HP, HA, HG, HF', HR⟩ HQ
  iapply (pass I K c 0 2 4 (x := (0, 2)) rfl rfl (j := opp c) rfl (dev7_eq c) (at28 c).2 rfl rfl rfl) $$ [HO HK HP HA HG]
  · isplitr; · iexact HW
    isplitl [HO]; · iexact HO
    isplitl [HK]; · iexact HK
    isplitl [HP]; · iexact HP
    isplitl [HA]; · iexact HA
    iexact HG
  iintro HO HF
  iapply (sent I K c (1, 1) (by decide) 5 rfl) $$ [HO HF']
  · isplitr; · iexact HW
    isplitl [HO]; · iexact HO
    iexact HF'
  iintro HO HZ HL
  iapply (came I K c 1 1 5 (x := (1, 1)) rfl (by decide) rfl) $$ [HO HL]
  · isplitr; · iexact HW
    isplitl [HO]; · iexact HO
    iexact HL
  iintro HO HZ' HS HG
  iapply (add_runs c I 1 1 (j := opp c) (by revert c; decide) (at40 c).2.1 (M := rlM) rfl rfl rfl) $$ [HR HS]
  · isplitl [HR]; · iexact HR
    iexact HS
  iintro HP HS
  iapply HQ $$ HO HF HZ HZ' HP HS HG

/-- That one is sent on to the left, and the last sum from the left awaited. -/
theorem part23_runs (c : Dev nD) (I : Dev nD → Ins F) (K : GSem nD τ sig → ℕ) {v5 v7 w : BitVec 32} {α : Type} {Q : α → sProp 𝕄} {k : BitVec 32 → Prog (TpuEff nD τ sig (Elt F) Λ₀ .tc) α} :
    iprop(world I K c ∗ owing c (order.drop 5) ∗ kit c (1, 2) ∗ piece c (opp c) 1 (acc I 1 ((1 : Fin 3).val + 1) c) ∗ anySlot (fwd 1 c) 1 2 ∗ tow c 1 1 ∗ flight c (0, 2))
      ⊢ iprop((owing c (order.drop 6) -∗ flight c (1, 2) -∗ semVal (sCell c (0, 2)) 0 -∗ semVal (vCell c (0, 2)) 0 -∗ got I c 0 2 -∗ tow c 0 2 -∗ Runs c (k (Scalar.muli (Scalar.remsi (Scalar.addi (Scalar.addi (me c) 1#32) 8#32) 4#32) 512#32)) Q)
        -∗ Runs c (k0_part23 qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4 c (me c) v5 v7 w 8#32 >>= k) Q) := by
  rw [k0_part23_eq_skeleton]
  unfold k0_part23_skel
  simp only [Prog.lift, Prog.bind_op, Prog.bind_ret, Prog.pure_eq_ret, Prog.bind_assoc]
  iintro ⟨#HW, HO, HK, HP, HA, HG, HF'⟩ HQ
  iapply (pass I K c 1 2 5 (x := (1, 2)) rfl rfl (j := opp c) (by revert c; decide) (dev8_eq c) (at41 c).2 rfl rfl rfl) $$ [HO HK HP HA HG]
  · isplitr; · iexact HW
    isplitl [HO]; · iexact HO
    isplitl [HK]; · iexact HK
    isplitl [HP]; · iexact HP
    isplitl [HA]; · iexact HA
    iexact HG
  iintro HO HF
  iapply (sent I K c (0, 2) (by decide) 6 rfl) $$ [HO HF']
  · isplitr; · iexact HW
    isplitl [HO]; · iexact HO
    iexact HF'
  iintro HO HZ HL
  iapply (came I K c 0 2 6 (x := (0, 2)) rfl (by decide) rfl) $$ [HO HL]
  · isplitr; · iexact HW
    isplitl [HO]; · iexact HO
    iexact HL
  iintro HO HZ' HS HG
  iapply HQ $$ HO HF HZ HZ' HS HG

/-- The first half of the chunk after the device's own finished; the last sum from the right awaited. -/
theorem part24_runs (c : Dev nD) (I : Dev nD → Ins F) (K : GSem nD τ sig → ℕ) {v2 v5 v497 : BitVec 32} {α : Type} {Q : α → sProp 𝕄}
    {k : (Σ' (v522 : BitVec 32) (v524 : Vec F S512x512 .bf16), FVec F S512x512 .bf16) → Prog (TpuEff nD τ sig (Elt F) Λ₀ .tc) α} :
    iprop(world I K c ∗ owing c (order.drop 6) ∗ piece c (nxt c) 0 (part (I c) (nxt c) 0) ∗ got I c 0 2 ∗ flight c (1, 2) ∗ piece c (prv c) 1 (part (I c) (prv c) 1))
      ⊢ iprop((owing c (order.drop 6) -∗ piece c (nxt c) 0 (acc I 0 ((2 : Fin 3).val + 1) c) -∗ got I c 0 2 -∗ semVal (sCell c (1, 2)) 0 -∗ semVal (vCell c (1, 2)) 0
          -∗ piece c (prv c) 1 (part (I c) (prv c) 1) -∗ got I c 1 2 -∗ tow c 1 2
          -∗ Runs c (k ⟨Scalar.muli (Scalar.remsi (Scalar.addi (Scalar.addi v2 3#32) 8#32) 4#32) 512#32, part (I c) (prv c) 1, acc I 1 (2 : Fin 3).val (bwd 1 c)⟩) Q)
        -∗ Runs c (k0_part24 qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4 c v2 v5 v497 >>= k) Q) := by
  rw [k0_part24_eq_skeleton]
  unfold k0_part24_skel
  simp only [Prog.lift, Prog.bind_op, Prog.bind_ret, Prog.pure_eq_ret, Prog.bind_assoc]
  iintro ⟨#HW, HO, HP, HS, HF, HR⟩ HQ
  iapply (add_runs c I 0 2 (j := nxt c) (by revert c; decide) (at27 c).2.2 (M := rrM) rfl rfl rfl) $$ [HP HS]
  · isplitl [HP]; · iexact HP
    iexact HS
  iintro HP HS
  iapply (sent I K c (1, 2) (by decide) 6 rfl) $$ [HO HF]
  · isplitr; · iexact HW
    isplitl [HO]; · iexact HO
    iexact HF
  iintro HO HZ HL
  iapply (came I K c 1 2 6 (x := (1, 2)) rfl (by decide) rfl) $$ [HO HL]
  · isplitr; · iexact HW
    isplitl [HO]; · iexact HO
    iexact HL
  iintro HO HZ' HS' HG
  iapply (piece_load c (prv c) 1 _ (at40 c).2.2) $$ HR
  iintro HR
  iapply (slot_load c 1 2 _ rlM rfl rfl) $$ HS'
  iintro %Y %hY HS'
  rw [show k0_pay74 Y = acc I 1 (2 : Fin 3).val (bwd 1 c) from hY]
  iapply HQ $$ HO HP HS HZ HZ' HR HS' HG

/-- The second half of the chunk before the device's own finished. -/
theorem part25_runs (c : Dev nD) (I : Dev nD → Ins F) {v2 v7 v522 : BitVec 32} {α : Type} {Q : α → sProp 𝕄} {k : PUnit → Prog (TpuEff nD τ sig (Elt F) Λ₀ .tc) α} :
    piece c (prv c) 1 (part (I c) (prv c) 1)
      ⊢ iprop((piece c (prv c) 1 (acc I 1 ((2 : Fin 3).val + 1) c) -∗ Runs c (k ⟨⟩) Q)
        -∗ Runs c (k0_part25 qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4 c v2 v7 v522 (part (I c) (prv c) 1) (acc I 1 (2 : Fin 3).val (bwd 1 c)) >>= k) Q) := by
  rw [k0_part25_eq_skeleton]
  unfold k0_part25_skel
  simp only [Prog.lift, Prog.bind_op, Prog.bind_ret, Prog.pure_eq_ret, Prog.bind_assoc]
  iintro HP HQ
  iapply (piece_load c (prv c) 1 _ (at40 c).2.2) $$ HP
  iintro HP
  rw [show k0_pay75 (part (I c) (prv c) 1) (acc I 1 (2 : Fin 3).val (bwd 1 c)) = addf (part (I c) (prv c) 1) (acc I 1 (2 : Fin 3).val (bwd 1 c)) from pay40_eq _ _,
    show addf (part (I c) (prv c) 1) (acc I 1 (2 : Fin 3).val (bwd 1 c)) = acc I 1 ((2 : Fin 3).val + 1) c by rw [acc, show (bwd 1)^[(2 : Fin 3).val + 1] c = prv c by revert c; decide]]
  iapply (piece_store c (prv c) 1 _ _ (at40 c).2.2) $$ HP
  iintro HP
  iapply HQ $$ HP

end Cert.KernelIdealRun
-- ==== Proof.KernelIdealRun.Join.lean ====
/-
The buffers cut into the parts that travel, and put together again.
-/
module

public import proofs.«01_k».proof.Proof.KernelIdealRun.Moves

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The result buffer -/

/-- Round the ring from the next device, everyone is met. -/
theorem around (c : Dev nD) (h : Fin 2) (Φ : Dev nD → sProp 𝕄) :
    bigSep Finset.univ Φ = iprop(Φ (fwd h c) ∗ Φ c ∗ Φ (bwd h c) ∗ Φ (bwd h (bwd h c))) := by
  have e : (Finset.univ : Finset (Dev nD)) = {fwd h c, c, bwd h c, bwd h (bwd h c)} := by revert h c; decide
  have n1 : fwd h c ∉ ({c, bwd h c, bwd h (bwd h c)} : Finset (Dev nD)) := by revert h c; decide
  have n2 : c ∉ ({bwd h c, bwd h (bwd h c)} : Finset (Dev nD)) := by revert h c; decide
  have n3 : bwd h c ∉ ({bwd h (bwd h c)} : Finset (Dev nD)) := by revert h c; decide
  rw [e, bigSep_insert n1, bigSep_insert n2, bigSep_insert n3, bigSep_singleton]
  rfl

theorem bigSep_three (Φ : Fin 3 → sProp 𝕄) : bigSep Finset.univ Φ = iprop(Φ 0 ∗ Φ 1 ∗ Φ 2) := by
  rw [show (Finset.univ : Finset (Fin 3)) = {0, 1, 2} by decide, bigSep_insert (by decide), bigSep_insert (by decide), bigSep_singleton]
  rfl

theorem pRect_disjoint (t t' : Fin 2 × Dev nD) (h : t ≠ t') : Disjoint (pRect t.2 t.1).set (pRect t'.2 t'.1).set := by
  obtain ⟨a, j⟩ := t; obtain ⟨a', j'⟩ := t'
  rw [Finset.disjoint_left]
  intro i hi hi'
  rw [Rect.mem_set_unit, Fin.forall_fin_two] at hi hi'
  simp only [Matrix.cons_val_zero, Matrix.cons_val_one] at hi hi'
  apply h
  have e1 : a = a' := Fin.ext (by omega)
  have e2 : j = j' := Fin.ext (by omega)
  rw [e1, e2]

theorem pRect_cover : (Finset.univ : Finset S2048x1024.Idx) = (Finset.univ : Finset (Fin 2 × Dev nD)).biUnion fun t => (pRect t.2 t.1).set := by
  ext i
  simp only [Finset.mem_univ, Finset.mem_biUnion, true_and, true_iff]
  have h0 : (i 0).val < 2048 := (i 0).isLt
  have h1 : (i 1).val < 1024 := (i 1).isLt
  refine ⟨(⟨(i 1).val / 512, by omega⟩, ⟨(i 0).val / 512, show _ < 4 by omega⟩), ?_⟩
  rw [Rect.mem_set_unit, Fin.forall_fin_two]
  simp only [Matrix.cons_val_zero, Matrix.cons_val_one]
  omega

theorem whole_emb (I : Dev nD → Ins F) (j : Dev nD) (h : Fin 2) : (fun i => whole I ((pRect j h).emb i)) = tot I h j := by
  funext i
  have h0 : (i 0).val < 512 := (i 0).isLt
  have h1 : (i 1).val < 512 := (i 1).isLt
  have e0 : ((pRect j h).emb i 0).val = 512 * j.val + (i 0).val := by show 512 * j.val + 1 * (i 0).val = _; omega
  have e1 : ((pRect j h).emb i 1).val = 512 * h.val + (i 1).val := by show 512 * h.val + 1 * (i 1).val = _; omega
  unfold whole
  congr 1
  · apply Fin.ext; show ((pRect j h).emb i 1).val / 512 = h.val; omega
  · apply Fin.ext; show ((pRect j h).emb i 0).val / 512 = j.val; omega
  · funext x
    apply Fin.ext
    fin_cases x
    · show ((pRect j h).emb i 0).val % 512 = (i 0).val; omega
    · show ((pRect j h).emb i 1).val % 512 = (i 1).val; omega

/-- The eight finished pieces are the whole result. -/
theorem whole_join (c : Dev nD) (I : Dev nD → Ins F) :
    iprop((piece c (fwd 0 c) 0 (tot I 0 (fwd 0 c)) ∗ piece c c 0 (tot I 0 c) ∗ piece c (bwd 0 c) 0 (tot I 0 (bwd 0 c)) ∗ piece c (bwd 0 (bwd 0 c)) 0 (tot I 0 (bwd 0 (bwd 0 c))))
      ∗ (piece c (fwd 1 c) 1 (tot I 1 (fwd 1 c)) ∗ piece c c 1 (tot I 1 c) ∗ piece c (bwd 1 c) 1 (tot I 1 (bwd 1 c)) ∗ piece c (bwd 1 (bwd 1 c)) 1 (tot I 1 (bwd 1 (bwd 1 c)))))
      ⊢ (((c : Thread nD τ).loc cc0_scratch0) ↦{fullShare} whole I : sProp 𝕄) := by
  rw [← owns_whole (Val := Elt F) (c : Thread nD τ) cc0_scratch0 fullShare (whole I)]
  refine .trans ?_ (owns_of_rects (Val := Elt F) (e := .bf16) (c : Thread nD τ) obM fullShare (fun t : Fin 2 × Dev nD => pRect t.2 t.1) (fun _ _ => rfl)
    (fun t t' => pRect_disjoint t t') pRect_cover.symm (whole I))
  have key : (bigSep Finset.univ fun t : Fin 2 × Dev nD => owns (c : Thread nD τ) (obM.slice (pRect t.2 t.1) (fun _ => rfl)) fullShare (fun i => whole I ((pRect t.2 t.1).emb i)))
      = (iprop((bigSep Finset.univ fun j : Dev nD => piece c j 0 (tot I 0 j)) ∗ bigSep Finset.univ fun j : Dev nD => piece c j 1 (tot I 1 j)) : sProp 𝕄) := by
    rw [bigSep_univ_prod, bigSep_fin_two]
    simp only [whole_emb]
    rfl
  rw [key, around c 0, around c 1]

/-- Reading the whole buffer. -/
theorem read_whole (X : S2048x1024.Idx → F .bf16) {inb} :
    obM.view.readAt (Elt F) (Rect.unit (s := S2048x1024) ![0, 0] S2048x1024.size inb).toLoadRect X = X := by
  funext i
  show X _ = X i
  congr 1
  funext x
  apply Fin.ext
  fin_cases x
  · show 0 + 1 * (i 0).val = (i 0).val; omega
  · show 0 + 1 * (i 1).val = (i 1).val; omega

/-- At the start, the result buffer is its four chunks. -/
theorem chunks_split (c : Dev nD) (f : S2048x1024.Idx → F .bf16) :
    (((c : Thread nD τ).loc cc0_scratch0) ↦{fullShare} f : sProp 𝕄)
      ⊢ iprop(stage c (fwd 0 c) (fun _ _ _ => True) ∗ stage c c (fun _ _ _ => True) ∗ stage c (bwd 0 c) (fun _ _ _ => True)
          ∗ stage c (bwd 0 (bwd 0 c)) (fun _ _ _ => True)) := by
  have hcov : (Finset.univ : Finset S2048x1024.Idx) = (Finset.univ : Finset (Fin 4)).biUnion fun j => (cRect j).set := by
    ext i
    simp only [Finset.mem_univ, Finset.mem_biUnion, true_and, true_iff]
    have h0 : (i 0).val < 2048 := (i 0).isLt
    have h1 : (i 1).val < 1024 := (i 1).isLt
    refine ⟨⟨(i 0).val / 512, by omega⟩, ?_⟩
    rw [Rect.mem_set_unit, Fin.forall_fin_two]
    simp only [Matrix.cons_val_zero, Matrix.cons_val_one]
    omega
  have hdis : ∀ t ∈ (Finset.univ : Finset (Fin 4)), ∀ t' ∈ (Finset.univ : Finset (Fin 4)), t ≠ t' → Disjoint (cRect t).set (cRect t').set := by
    intro t _ t' _ h
    rw [Finset.disjoint_left]
    intro i hi hi'
    rw [Rect.mem_set_unit, Fin.forall_fin_two] at hi hi'
    simp only [Matrix.cons_val_zero, Matrix.cons_val_one] at hi hi'
    exact h (Fin.ext (by omega))
  have hs (j : Fin 4) : (((c : Thread nD τ).loc cc0_scratch0) ↦[(cRect j).set]{fullShare} f : sProp 𝕄) ⊢ stage c j (fun _ _ _ => True) := by
    unfold stage
    iintro H
    iexists f
    isplitr; · ipureintro; exact fun _ _ => trivial
    iexact H
  refine (Entails.of_eq (?_ : _ = bigSep (Finset.univ : Finset (Dev nD)) fun j => (((c : Thread nD τ).loc cc0_scratch0) ↦[(cRect j).set]{fullShare} f : sProp 𝕄))).trans ?_
  · rw [← pointsTo_biUnion (ℓ := (c : Thread nD τ).loc cc0_scratch0) (Finset.univ : Finset (Fin 4)) (fun j => (cRect j).set) hdis]
    exact congrArg (fun S => (((c : Thread nD τ).loc cc0_scratch0) ↦[S]{fullShare} f : sProp 𝕄)) hcov
  rw [around c 0]
  iintro ⟨H0, H1, H2, H3⟩
  isplitl [H0]; · iapply (hs _) $$ H0
  isplitl [H1]; · iapply (hs _) $$ H1
  isplitl [H2]; · iapply (hs _) $$ H2
  iapply (hs _) $$ H3

/-! ## The landing buffers -/

/-- Device `c` has its landing buffer of direction `h`, holding anything. -/
def land (c : Dev nD) (h : Fin 2) : sProp 𝕄 := iprop(∃ X, owns (Val := Elt F) (c : Thread nD τ) (rsM h) fullShare X)

theorem slot_set (h : Fin 2) (s : Fin 3) : (slM h s).view.set = ((rsM h).view.slice (sRect s)).set := View.set_reshape _ _

theorem sRect_disjoint (t t' : Fin 3) (h : t ≠ t') : Disjoint (sRect t).set (sRect t').set := by
  rw [Finset.disjoint_left]
  intro i hi hi'
  rw [Rect.mem_set_unit] at hi hi'
  have a := hi 0; have b := hi' 0
  simp only [Matrix.cons_val_zero] at a b
  exact h (Fin.ext (by have : S1x512x512.size 0 = 1 := rfl; omega))

theorem sRect_cover : (Finset.univ : Finset S3x512x512.Idx) = (Finset.univ : Finset (Fin 3)).biUnion fun t => (sRect t).set := by
  ext i
  simp only [Finset.mem_univ, Finset.mem_biUnion, true_and, true_iff]
  have h0 : (i 0).val < 3 := (i 0).isLt
  have h1 : (i 1).val < 512 := (i 1).isLt
  have h2 : (i 2).val < 512 := (i 2).isLt
  refine ⟨⟨(i 0).val, h0⟩, ?_⟩
  rw [Rect.mem_set_unit]
  intro x
  fin_cases x
  · exact ⟨le_refl _, Nat.lt_succ_self _⟩
  · exact ⟨Nat.zero_le _, by show (i 1).val < 0 + 512; omega⟩
  · exact ⟨Nat.zero_le _, by show (i 2).val < 0 + 512; omega⟩

theorem slots_split (c : Dev nD) (h : Fin 2) : land (F := F) c h ⊢ iprop(anySlot c h 0 ∗ anySlot c h 1 ∗ anySlot c h 2) := by
  have hs (s : Fin 3) (Y) : (owns (c : Thread nD τ) ((rsM h).slice (sRect s) (fun _ => rfl)) fullShare Y : sProp 𝕄) ⊢ anySlot c h s := by
    unfold anySlot slot owns
    iintro ⟨%f, -, H⟩
    iexists _, f
    isplitr; · ipureintro; rfl
    rw [slot_set]
    iexact H
  unfold land
  iintro ⟨%X, H⟩
  ihave H := ((owns_rects (c : Thread nD τ) (rsM h) fullShare (fun t : Fin 3 => sRect t) (fun _ _ => rfl) (fun t t' => sRect_disjoint t t') sRect_cover.symm X).trans (Entails.of_eq (bigSep_three _))) $$ H
  icases H with ⟨H0, H1, H2⟩
  isplitl [H0]; · iapply (hs 0 _) $$ H0
  isplitl [H1]; · iapply (hs 1 _) $$ H1
  iapply (hs 2 _) $$ H2

theorem slots_join (c : Dev nD) (h : Fin 2) : iprop(anySlot c h 0 ∗ anySlot c h 1 ∗ anySlot c h 2) ⊢ land (F := F) c h := by
  have hs (s : Fin 3) : anySlot (F := F) c h s ⊢ iprop(∃ f, ((rsM h).view.loc (c : Thread nD τ)) ↦[((rsM h).view.slice (sRect s)).set]{fullShare} f) := by
    unfold anySlot slot owns
    iintro ⟨%X, %f, -, H⟩
    iexists f
    rw [← slot_set]
    iexact H
  have hd : ∀ t ∈ (Finset.univ : Finset (Fin 3)), ∀ t' ∈ (Finset.univ : Finset (Fin 3)), t ≠ t'
      → Disjoint ((rsM h).view.slice (sRect t)).set ((rsM h).view.slice (sRect t')).set := fun t _ t' _ e => by
    rw [View.set_slice, View.set_slice]; exact (Finset.disjoint_map _).mpr (sRect_disjoint t t' e)
  have hset : (rsM h).view.set = (Finset.univ : Finset (Fin 3)).biUnion fun t => ((rsM h).view.slice (sRect t)).set := by
    ext i; constructor
    · intro hi
      rw [View.set, Finset.mem_map] at hi
      obtain ⟨x, -, rfl⟩ := hi
      obtain ⟨t, -, hx⟩ := Finset.mem_biUnion.mp (sRect_cover ▸ Finset.mem_univ x)
      exact Finset.mem_biUnion.mpr ⟨t, Finset.mem_univ _, by rw [View.set_slice]; exact Finset.mem_map_of_mem _ hx⟩
    · intro hi
      obtain ⟨t, -, hi⟩ := Finset.mem_biUnion.mp hi
      exact View.set_slice_subset _ _ hi
  iintro ⟨H0, H1, H2⟩
  ihave H0 := (hs 0) $$ H0
  ihave H1 := (hs 1) $$ H1
  ihave H2 := (hs 2) $$ H2
  icases H0 with ⟨%f0, H0⟩
  icases H1 with ⟨%f1, H1⟩
  icases H2 with ⟨%f2, H2⟩
  ihave H := (pointsTo_biUnion_join (Val := Elt F) (Finset.univ : Finset (Fin 3)) (fun t => ((rsM h).view.slice (sRect t)).set)
    (fun t => match t with | 0 => f0 | 1 => f1 | 2 => f2) f0 hd) $$ [H0 H1 H2]
  · rw [bigSep_three]
    isplitl [H0]; · iexact H0
    isplitl [H1]; · iexact H1
    iexact H2
  icases H with ⟨%g, -, H⟩
  unfold land
  rw [← hset]
  iexists _
  iapply (owns_intro (c : Thread nD τ) (rsM h) fullShare g)
  iexact H

end Cert.KernelIdealRun
-- ==== Proof.KernelIdealRun.PartsD.lean ====
/-
The last third of the program: the finished halves passed round, and the result read whole.
-/
module

public import proofs.«01_k».proof.Proof.KernelIdealRun.PartsC
public import proofs.«01_k».proof.Proof.KernelIdealRun.Join

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

set_option maxHeartbeats 1000000

/-- Where a finished chunk goes, and what travels with it. -/
abbrev lane (c : Dev nD) (h : Fin 2) (s : Fin 3) (j : Dev nD) : sProp 𝕄 := iprop(anyPiece (F := F) (fwd h c) j h ∗ rest h s (fwd h c))

/-- The finished halves sent on both ways; the first ones received. -/
theorem part26_runs (c : Dev nD) (I : Dev nD → Ins F) (K : GSem nD τ sig → ℕ) {v5 v7 : BitVec 32} {α : Type} {Q : α → sProp 𝕄} {k : PUnit → Prog (TpuEff nD τ sig (Elt F) Λ₀ .tc) α} :
    iprop(world I K c ∗ owing c (order.drop 6) ∗ kit c (0, 3) ∗ kit c (1, 3) ∗ piece c (nxt c) 0 (tot I 0 (nxt c)) ∗ piece c (prv c) 1 (tot I 1 (prv c))
        ∗ lane c 0 0 (nxt c) ∗ lane c 1 0 (prv c))
      ⊢ iprop((owing c (order.drop 8) -∗ semVal (sCell c (0, 3)) 0 -∗ piece c (nxt c) 0 (tot I 0 (nxt c)) -∗ semVal (vCell c (0, 3)) 0
          -∗ piece c c 0 (tot I 0 c) -∗ rest 0 0 c -∗ semVal (sCell c (1, 3)) 0 -∗ landing c (1, 3) -∗ piece c (prv c) 1 (tot I 1 (prv c)) -∗ Runs c (k ⟨⟩) Q)
        -∗ Runs c (k0_part26 qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4 c v5 v7 >>= k) Q) := by
  rw [k0_part26_eq_skeleton]
  unfold k0_part26_skel
  simp only [Prog.lift, Prog.bind_op, Prog.bind_ret, Prog.pure_eq_ret, Prog.bind_assoc]
  iintro ⟨#HW, HO, HK, HK', HP, HP', HB, HB'⟩ HQ
  iapply (copy I K c 0 0 6 (x := (0, 3)) rfl rfl (j := nxt c) rfl (dev9_eq c) (at53 c).1 rfl rfl) $$ [HO HK HP HB]
  · isplitr; · iexact HW
    isplitl [HO]; · iexact HO
    isplitl [HK]; · iexact HK
    isplitl [HP]; · iexact HP
    iexact HB
  iintro HO HF
  iapply (copy I K c 1 0 7 (x := (1, 3)) rfl rfl (j := prv c) rfl (dev10_eq c) (at54 c).1 rfl rfl) $$ [HO HK' HP' HB']
  · isplitr; · iexact HW
    isplitl [HO]; · iexact HO
    isplitl [HK']; · iexact HK'
    isplitl [HP']; · iexact HP'
    iexact HB'
  iintro HO HF'
  iapply (copied I K c 0 0 8 (x := (0, 3)) rfl (j := nxt c) rfl rfl) $$ [HO HF]
  · isplitr; · iexact HW
    isplitl [HO]; · iexact HO
    iexact HF
  iintro HO HZ HL HP
  iapply (arrived I K c 0 0 8 (x := (0, 3)) rfl (j := c) rfl (by decide) rfl) $$ [HO HL]
  · isplitr; · iexact HW
    isplitl [HO]; · iexact HO
    iexact HL
  iintro HO HY HA HR
  iapply (copied I K c 1 0 8 (x := (1, 3)) rfl (j := prv c) rfl rfl) $$ [HO HF']
  · isplitr; · iexact HW
    isplitl [HO]; · iexact HO
    iexact HF'
  iintro HO HZ' HL' HP'
  iapply HQ $$ HO HZ HP HY HA HR HZ' HL' HP'

/-- The first from the right received; the one from the left sent on. -/
theorem part27_runs (c : Dev nD) (I : Dev nD → Ins F) (K : GSem nD τ sig → ℕ) {v2 v7 : BitVec 32} {α : Type} {Q : α → sProp 𝕄} {k : PUnit → Prog (TpuEff nD τ sig (Elt F) Λ₀ .tc) α} :
    iprop(world I K c ∗ owing c (order.drop 8) ∗ landing c (1, 3) ∗ kit c (0, 4) ∗ piece c c 0 (tot I 0 c) ∗ rest 0 0 c)
      ⊢ iprop((owing c (order.drop 9) -∗ semVal (vCell c (1, 3)) 0 -∗ piece c c 1 (tot I 1 c) -∗ rest 1 0 c -∗ flight c (0, 4) -∗ Runs c (k ⟨⟩) Q)
        -∗ Runs c (k0_part27 qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4 c v2 v7 >>= k) Q) := by
  rw [k0_part27_eq_skeleton]
  unfold k0_part27_skel
  simp only [Prog.lift, Prog.bind_op, Prog.bind_ret, Prog.pure_eq_ret, Prog.bind_assoc]
  iintro ⟨#HW, HO, HL, HK, HP, HR⟩ HQ
  iapply (arrived I K c 1 0 8 (x := (1, 3)) rfl (j := c) rfl (by decide) rfl) $$ [HO HL]
  · isplitr; · iexact HW
    isplitl [HO]; · iexact HO
    iexact HL
  iintro HO HY HA HR'
  ihave HB := (rest_next c 0) $$ HR
  iapply (copy I K c 0 1 8 (x := (0, 4)) rfl rfl (j := c) (by revert c; decide) (dev11_eq c) (at53 c).2.1 rfl rfl) $$ [HO HK HP HB]
  · isplitr; · iexact HW
    isplitl [HO]; · iexact HO
    isplitl [HK]; · iexact HK
    isplitl [HP]; · iexact HP
    iexact HB
  iintro HO HF
  iapply HQ $$ HO HY HA HR' HF

/-- The one from the right sent on; the second ones received. -/
theorem part28_runs (c : Dev nD) (I : Dev nD → Ins F) (K : GSem nD τ sig → ℕ) {v5 v7 : BitVec 32} {α : Type} {Q : α → sProp 𝕄} {k : BitVec 32 → Prog (TpuEff nD τ sig (Elt F) Λ₀ .tc) α} :
    iprop(world I K c ∗ owing c (order.drop 9) ∗ kit c (1, 4) ∗ piece c c 1 (tot I 1 c) ∗ rest 1 0 c ∗ flight c (0, 4))
      ⊢ iprop((owing c (order.drop 10) -∗ semVal (sCell c (0, 4)) 0 -∗ piece c c 0 (tot I 0 c) -∗ semVal (vCell c (0, 4)) 0
          -∗ piece c (prv c) 0 (tot I 0 (prv c)) -∗ rest 0 1 c -∗ semVal (sCell c (1, 4)) 0 -∗ piece c c 1 (tot I 1 c) -∗ semVal (vCell c (1, 4)) 0
          -∗ piece c (nxt c) 1 (tot I 1 (nxt c)) -∗ rest 1 1 c -∗ Runs c (k 1#32) Q)
        -∗ Runs c (k0_part28 qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4 c v5 v7 >>= k) Q) := by
  rw [k0_part28_eq_skeleton]
  unfold k0_part28_skel
  simp only [Prog.lift, Prog.bind_op, Prog.bind_ret, Prog.pure_eq_ret, Prog.bind_assoc]
  iintro ⟨#HW, HO, HK, HP, HR, HF⟩ HQ
  ihave HB := (rest_next c 1) $$ HR
  iapply (copy I K c 1 1 9 (x := (1, 4)) rfl rfl (j := c) (by revert c; decide) (dev12_eq c) (at54 c).2.1 rfl rfl) $$ [HO HK HP HB]
  · isplitr; · iexact HW
    isplitl [HO]; · iexact HO
    isplitl [HK]; · iexact HK
    isplitl [HP]; · iexact HP
    iexact HB
  iintro HO HF'
  iapply (copied I K c 0 1 10 (x := (0, 4)) rfl (j := c) (by revert c; decide) rfl) $$ [HO HF]
  · isplitr; · iexact HW
    isplitl [HO]; · iexact HO
    iexact HF
  iintro HO HZ HL HP
  iapply (arrived I K c 0 1 10 (x := (0, 4)) rfl (j := prv c) rfl (by decide) rfl) $$ [HO HL]
  · isplitr; · iexact HW
    isplitl [HO]; · iexact HO
    iexact HL
  iintro HO HY HA HR
  iapply (copied I K c 1 1 10 (x := (1, 4)) rfl (j := c) (by revert c; decide) rfl) $$ [HO HF']
  · isplitr; · iexact HW
    isplitl [HO]; · iexact HO
    iexact HF'
  iintro HO HZ' HL HP'
  iapply (arrived I K c 1 1 10 (x := (1, 4)) rfl (j := nxt c) rfl (by decide) rfl) $$ [HO HL]
  · isplitr; · iexact HW
    isplitl [HO]; · iexact HO
    iexact HL
  iintro HO HY' HA' HR'
  iapply HQ $$ HO HZ HP HY HA HR HZ' HP' HY' HA' HR'

/-- The second from the left sent on. -/
theorem part29_runs (c : Dev nD) (I : Dev nD → Ins F) (K : GSem nD τ sig → ℕ) {v2 v5 v7 : BitVec 32} {α : Type} {Q : α → sProp 𝕄} {k : PUnit → Prog (TpuEff nD τ sig (Elt F) Λ₀ .tc) α} :
    iprop(world I K c ∗ owing c (order.drop 10) ∗ kit c (0, 5) ∗ piece c (prv c) 0 (tot I 0 (prv c)) ∗ rest 0 1 c)
      ⊢ iprop((owing c (order.drop 11) -∗ flight c (0, 5) -∗ Runs c (k ⟨⟩) Q) -∗ Runs c (k0_part29 qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4 c v2 v5 v7 1#32 >>= k) Q) := by
  rw [k0_part29_eq_skeleton]
  unfold k0_part29_skel
  simp only [Prog.lift, Prog.bind_op, Prog.bind_ret, Prog.pure_eq_ret, Prog.bind_assoc]
  iintro ⟨#HW, HO, HK, HP, HR⟩ HQ
  ihave HB := (rest_last c 0) $$ HR
  iapply (copy I K c 0 2 10 (x := (0, 5)) rfl rfl (j := prv c) (by revert c; decide) (dev13_eq c) (at53 c).2.2 rfl rfl) $$ [HO HK HP HB]
  · isplitr; · iexact HW
    isplitl [HO]; · iexact HO
    isplitl [HK]; · iexact HK
    isplitl [HP]; · iexact HP
    iexact HB
  iintro HO HF
  iapply HQ $$ HO HF

/-- The second from the right sent on, the last ones received, and the result read whole. -/
theorem part30_runs (c : Dev nD) (I : Dev nD → Ins F) (K : GSem nD τ sig → ℕ) {v5 v7 : BitVec 32} {α : Type} {Q : α → sProp 𝕄} {k : FVec F S2048x1024 .f32 → Prog (TpuEff nD τ sig (Elt F) Λ₀ .tc) α} :
    iprop(world I K c ∗ owing c (order.drop 11) ∗ kit c (1, 5) ∗ piece c (nxt c) 1 (tot I 1 (nxt c)) ∗ rest 1 1 c ∗ flight c (0, 5)
        ∗ piece c (nxt c) 0 (tot I 0 (nxt c)) ∗ piece c c 0 (tot I 0 c) ∗ piece c (prv c) 1 (tot I 1 (prv c)) ∗ piece c c 1 (tot I 1 c))
      ⊢ iprop((owing c (order.drop 12) -∗ semVal (sCell c (0, 5)) 0 -∗ semVal (vCell c (0, 5)) 0 -∗ semVal (sCell c (1, 5)) 0 -∗ semVal (vCell c (1, 5)) 0
          -∗ (((c : Thread nD τ).loc cc0_scratch0) ↦{fullShare} whole I) -∗ Runs c (k (k0_pay76 (whole I))) Q)
        -∗ Runs c (k0_part30 qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4 c v5 v7 >>= k) Q) := by
  rw [k0_part30_eq_skeleton]
  unfold k0_part30_skel
  simp only [Prog.lift, Prog.bind_op, Prog.bind_ret, Prog.pure_eq_ret, Prog.bind_assoc]
  iintro ⟨#HW, HO, HK, HP, HR, HF, Ha, Hb, Hc, Hd⟩ HQ
  ihave HB := (rest_last c 1) $$ HR
  iapply (copy I K c 1 2 11 (x := (1, 5)) rfl rfl (j := nxt c) (by revert c; decide) (dev14_eq c) (at54 c).2.2 rfl rfl) $$ [HO HK HP HB]
  · isplitr; · iexact HW
    isplitl [HO]; · iexact HO
    isplitl [HK]; · iexact HK
    isplitl [HP]; · iexact HP
    iexact HB
  iintro HO HF'
  iapply (copied I K c 0 2 12 (x := (0, 5)) rfl (j := prv c) (by revert c; decide) rfl) $$ [HO HF]
  · isplitr; · iexact HW
    isplitl [HO]; · iexact HO
    iexact HF
  iintro HO HZ HL HP
  iapply (arrived I K c 0 2 12 (x := (0, 5)) rfl (j := opp c) rfl (by decide) rfl) $$ [HO HL]
  · isplitr; · iexact HW
    isplitl [HO]; · iexact HO
    iexact HL
  iintro HO HY HA HR
  iapply (copied I K c 1 2 12 (x := (1, 5)) rfl (j := nxt c) (by revert c; decide) rfl) $$ [HO HF']
  · isplitr; · iexact HW
    isplitl [HO]; · iexact HO
    iexact HF'
  iintro HO HZ' HL HP'
  iapply (arrived I K c 1 2 12 (x := (1, 5)) rfl (j := bwd 1 (bwd 1 c)) (by revert c; decide) (by decide) rfl) $$ [HO HL]
  · isplitr; · iexact HW
    isplitl [HO]; · iexact HO
    iexact HL
  iintro HO HY' HA' HR'
  ihave Hw := (whole_join c I) $$ [Ha Hb HP HA Hc Hd HP' HA']
  · isplitl [Ha Hb HP HA]
    · isplitl [Ha]; · iexact Ha
      isplitl [Hb]; · iexact Hb
      isplitl [HP]; · iexact HP
      iexact HA
    · isplitl [Hc]; · iexact Hc
      isplitl [Hd]; · iexact Hd
      isplitl [HP']; · iexact HP'
      iexact HA'
  iapply (wp_load 𝒱₀ (c : Thread nD τ) none Set.univ (m := obM) (Finset.subset_univ _)) $$ Hw; iintro Hw
  rw [read_whole]
  iapply HQ $$ HO HZ HY HZ' HY' Hw

end Cert.KernelIdealRun
-- ==== Proof.KernelIdealRun.Body.lean ====
/-
The whole program of one device, put together from its parts: what it holds at the start and at the end.
-/
module

public import proofs.«01_k».proof.Proof.KernelIdealRun.PartsD

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

set_option maxHeartbeats 4000000
set_option maxRecDepth 10000

/-- The twelve transfers' items one by one, in the order the transfers are made. -/
theorem each (Φ : Xfer → sProp 𝕄) : bigSep Finset.univ Φ = iprop(Φ (0, 0) ∗ Φ (1, 0) ∗ Φ (0, 1) ∗ Φ (1, 1) ∗ Φ (0, 2) ∗ Φ (1, 2) ∗ Φ (0, 3) ∗ Φ (1, 3) ∗ Φ (0, 4) ∗ Φ (1, 4) ∗ Φ (0, 5) ∗ Φ (1, 5)) :=
  bigSep_univ_eq_bigSepL order (by decide) (by decide) Φ

/-- What direction `h` sends in its third step is the finished half of the chunk that belongs to the receiver. -/
theorem tot_sent (c : Dev nD) (I : Dev nD → Ins F) (h : Fin 2) :
    (piece c (fwd h c) h (acc I h ((2 : Fin 3).val + 1) c) : sProp 𝕄) = piece c (fwd h c) h (tot I h (fwd h c)) := by
  rw [show tot I h (fwd h c) = acc I h 3 (bwd h (fwd h c)) from rfl, bwd_fwd]; rfl

/-- What the device holds when the program starts, apart from its part in the barrier. -/
def before (c : Dev nD) (I : Dev nD → Ins F) : sProp 𝕄 :=
  iprop(inputs c (I c) ∗ (∃ f, ((c : Thread nD τ).loc cc0_stg4_0) ↦{fullShare} f) ∗ (∃ f, ((c : Thread nD τ).loc cc0_scratch0) ↦{fullShare} f)
    ∗ land c 0 ∗ land c 1 ∗ bigSep Finset.univ fun x : Xfer => kit c x)

/-- What it holds when the program ends. -/
def after (c : Dev nD) (I : Dev nD → Ins F) : sProp 𝕄 :=
  iprop(owing c [] ∗ semVal (bCell c) 0 ∗ inputs c (I c) ∗ (((c : Thread nD τ).loc cc0_stg4_0) ↦{fullShare} k0_pay76 (whole I))
    ∗ (∃ f, ((c : Thread nD τ).loc cc0_scratch0) ↦{fullShare} f) ∗ land c 0 ∗ land c 1
    ∗ bigSep Finset.univ fun x : Xfer => iprop(semVal (sCell c x) 0 ∗ semVal (vCell c x) 0))

theorem any_of_got (c : Dev nD) (I : Dev nD → Ins F) (h : Fin 2) (s : Fin 3) : got I c h s ⊢ anySlot c h s := by
  unfold anySlot
  iintro H
  iexists _
  iexact H

theorem off00 : (![0, 0] : Fin 2 → ℕ) = fun _ => 0 := funext fun a => by fin_cases a <;> rfl

/-- The whole program, part by part. -/
theorem body_runs (c : Dev nD) (I : Dev nD → Ins F) (K : GSem nD τ sig → ℕ) {W : Waits sig Unit} (Q : PUnit → sProp 𝕄) :
    iprop((records I K ∗ levAts L lv) ∗ owes (c : Thread nD τ) (O₀ c) W ∗ (dutyTok ER (bCell (bwd 0 c)) 0 (0 : Fin 2) ∗ dutyTok ER (bCell (bwd 1 c)) 0 (1 : Fin 2))
        ∗ (ready c 0 ∗ ready c 1) ∗ (atPos ER (bCell c) 0 ∅ 0 ∗ cred (tallyAt (bCell c) () 2)) ∗ before c I)
      ⊢ iprop((after c I -∗ Q ⟨⟩) -∗ Runs c (cc0__body qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4) Q) := by
  rw [cc0__body_eq_skeleton]
  unfold cc0__body_skel before
  rw [each]
  iintro ⟨⟨#HR, #HL⟩, HO, Ht, #Hr, Hat, HI, ⟨%g, Hg⟩, ⟨%f, Hf⟩, HA, HB, K00, K10, K01, K11, K02, K12, K03, K13, K04, K14, K05, K15⟩ HQ
  ihave HA' := (slots_split c 0) $$ HA
  ihave HB' := (slots_split c 1) $$ HB
  ihave Hf' := (chunks_split c f) $$ Hf
  icases Hf' with ⟨Hn, Hc, Hp, Ho⟩
  iapply (part9_runs c I K) $$ [HO Ht HA' HB' Hat]
  · isplitr
    · isplitr; · iexact HR
      iexact HL
    isplitl [HO]; · iexact HO
    isplitl [Ht]; · iexact Ht
    isplitl [HA']; · iexact HA'
    isplitl [HB']; · iexact HB'
    isplitr; · iexact Hr
    iexact Hat
  iintro HO Zb #HW ⟨S00, S01, S02⟩ ⟨S10, S11, S12⟩
  iapply (part10_runs c I) $$ [HI Hc]
  · isplitl [HI]; · iexact HI
    iexact Hc
  iintro HI Hc
  iapply (part11_runs c I K) $$ [HI Hc HO K00 S00]
  · isplitl [HI]; · iexact HI
    isplitl [Hc]; · iexact Hc
    isplitr; · iexact HW
    isplitl [HO]; · iexact HO
    isplitl [K00]; · iexact K00
    iexact S00
  iintro HI C1 HO F00
  iapply (part12_runs c I K) $$ [HO K10 C1 S10]
  · isplitr; · iexact HW
    isplitl [HO]; · iexact HO
    isplitl [K10]; · iexact K10
    isplitl [C1]; · iexact C1
    iexact S10
  iintro HO F10
  iapply (part13_runs c I) $$ [HI Hp]
  · isplitl [HI]; · iexact HI
    iexact Hp
  iintro HI Hp
  iapply (part14_runs c I K) $$ [HI Hp HO F00]
  · isplitl [HI]; · iexact HI
    isplitl [Hp]; · iexact Hp
    isplitr; · iexact HW
    isplitl [HO]; · iexact HO
    iexact F00
  iintro HI P0 P1 HO Zs00 Zv00 G00 T0
  iapply (part15_runs c I K) $$ [HO K01 P0 S01 T0]
  · isplitr; · iexact HW
    isplitl [HO]; · iexact HO
    isplitl [K01]; · iexact K01
    isplitl [P0]; · iexact P0
    isplitl [S01]; · iexact S01
    iexact T0
  iintro HO F01
  iapply (part16_runs c I) $$ [HI Hn]
  · isplitl [HI]; · iexact HI
    iexact Hn
  iintro HI Hn
  iapply (part17_runs c I K) $$ [HI Hn HO F10]
  · isplitl [HI]; · iexact HI
    isplitl [Hn]; · iexact Hn
    isplitr; · iexact HW
    isplitl [HO]; · iexact HO
    iexact F10
  iintro HI N0 N1 HO Zs10 Zv10 G10 T1
  iapply (part18_runs c I K) $$ [HO K11 N1 G10 S11 T1]
  · isplitr; · iexact HW
    isplitl [HO]; · iexact HO
    isplitl [K11]; · iexact K11
    isplitl [N1]; · iexact N1
    isplitl [G10]; · iexact G10
    isplitl [S11]; · iexact S11
    iexact T1
  iintro HO F11 G10
  iapply (part19_runs c I) $$ [HI Ho]
  · isplitl [HI]; · iexact HI
    iexact Ho
  iintro HI Ho
  iapply (part20_runs c I K) $$ [HI Ho HO F01]
  · isplitl [HI]; · iexact HI
    isplitl [Ho]; · iexact Ho
    isplitr; · iexact HW
    isplitl [HO]; · iexact HO
    iexact F01
  iintro HI O0 O1 HO Zs01 L01
  iapply (part21_runs c I K) $$ [HO L01 O0]
  · isplitr; · iexact HW
    isplitl [HO]; · iexact HO
    isplitl [L01]; · iexact L01
    iexact O0
  iintro HO Zv01 O0 G01 T0
  iapply (part22_runs c I K) $$ [HO K02 O0 S02 T0 F11 O1]
  · isplitr; · iexact HW
    isplitl [HO]; · iexact HO
    isplitl [K02]; · iexact K02
    isplitl [O0]; · iexact O0
    isplitl [S02]; · iexact S02
    isplitl [T0]; · iexact T0
    isplitl [F11]; · iexact F11
    iexact O1
  iintro HO F02 Zs11 Zv11 O1 G11 T1
  iapply (part23_runs c I K) $$ [HO K12 O1 S12 T1 F02]
  · isplitr; · iexact HW
    isplitl [HO]; · iexact HO
    isplitl [K12]; · iexact K12
    isplitl [O1]; · iexact O1
    isplitl [S12]; · iexact S12
    isplitl [T1]; · iexact T1
    iexact F02
  iintro HO F12 Zs02 Zv02 G02 T0
  iapply (part24_runs c I K) $$ [HO N0 G02 F12 P1]
  · isplitr; · iexact HW
    isplitl [HO]; · iexact HO
    isplitl [N0]; · iexact N0
    isplitl [G02]; · iexact G02
    isplitl [F12]; · iexact F12
    iexact P1
  iintro HO N0 G02 Zs12 Zv12 P1 G12 T1
  iapply (part25_runs c I) $$ P1
  iintro P1
  ihave HA := (show tow c 0 2 ⊢ lane c 0 0 (fwd 0 c) from finish c 0) $$ T0
  ihave HB := (show tow c 1 2 ⊢ lane c 1 0 (fwd 1 c) from finish c 1) $$ T1
  ihave N0' := (show piece c (nxt c) 0 (acc I 0 ((2 : Fin 3).val + 1) c) ⊢ piece c (fwd 0 c) 0 (tot I 0 (fwd 0 c)) from Entails.of_eq (tot_sent c I 0)) $$ N0
  ihave P1' := (show piece c (prv c) 1 (acc I 1 ((2 : Fin 3).val + 1) c) ⊢ piece c (fwd 1 c) 1 (tot I 1 (fwd 1 c)) from Entails.of_eq (tot_sent c I 1)) $$ P1
  iapply (part26_runs c I K) $$ [HO K03 K13 N0' P1' HA HB]
  · isplitr; · iexact HW
    isplitl [HO]; · iexact HO
    isplitl [K03]; · iexact K03
    isplitl [K13]; · iexact K13
    isplitl [N0']; · iexact N0'
    isplitl [P1']; · iexact P1'
    isplitl [HA]; · iexact HA
    iexact HB
  iintro HO Zs03 N0 Zv03 C0 R0 Zs13 L13 P1
  iapply (part27_runs c I K) $$ [HO L13 K04 C0 R0]
  · isplitr; · iexact HW
    isplitl [HO]; · iexact HO
    isplitl [L13]; · iexact L13
    isplitl [K04]; · iexact K04
    isplitl [C0]; · iexact C0
    iexact R0
  iintro HO Zv13 C1 R1 F04
  iapply (part28_runs c I K) $$ [HO K14 C1 R1 F04]
  · isplitr; · iexact HW
    isplitl [HO]; · iexact HO
    isplitl [K14]; · iexact K14
    isplitl [C1]; · iexact C1
    isplitl [R1]; · iexact R1
    iexact F04
  iintro HO Zs04 C0 Zv04 P0 R0 Zs14 C1 Zv14 N1 R1
  iapply (part29_runs c I K) $$ [HO K05 P0 R0]
  · isplitr; · iexact HW
    isplitl [HO]; · iexact HO
    isplitl [K05]; · iexact K05
    isplitl [P0]; · iexact P0
    iexact R0
  iintro HO F05
  iapply (part30_runs c I K) $$ [HO K15 N1 R1 F05 N0 C0 P1 C1]
  · isplitr; · iexact HW
    isplitl [HO]; · iexact HO
    isplitl [K15]; · iexact K15
    isplitl [N1]; · iexact N1
    isplitl [R1]; · iexact R1
    isplitl [F05]; · iexact F05
    isplitl [N0]; · iexact N0
    isplitl [C0]; · iexact C0
    isplitl [P1]; · iexact P1
    iexact C1
  iintro HO Zs05 Zv05 Zs15 Zv15 Hw
  simp only [Prog.lift, Prog.bind_op, Prog.bind_ret, Prog.pure_eq_ret]
  iapply (wp_load 𝒱₀ (c : Thread nD τ) none Set.univ (m := outM) (Finset.subset_univ _)) $$ Hg; iintro Hg
  iapply (wp_store 𝒱₀ (c : Thread nD τ) none Set.univ (m := outM) (r := Rect.unit (s := S2048x1024) ![0, 0] S2048x1024.size inb_S2048x1024_S2048x1024_0_0) (Mk := Finset.univ) (S := Finset.univ) (f := g) (Finset.subset_univ _)) $$ [Hg]
  · iexact Hg
  iintro Hg
  ihave Hg' := (Entails.of_eq (congrArg (fun w : S2048x1024.Idx → F .f32 => (((c : Thread nD τ).loc cc0_stg4_0) ↦{fullShare} w : sProp 𝕄)) (Memref.write_access_unit_zero_univ (Elt F) cc0_stg4_0 off00 _ g (k0_pay76 (whole I))))) $$ Hg
  rw [wp_ret]
  imodintro
  iapply HQ
  unfold after
  isplitl [HO]; · iexact HO
  isplitl [Zb]; · iexact Zb
  isplitl [HI]; · iexact HI
  isplitl [Hg']; · iexact Hg'
  isplitl [Hw]; · iexists _; iexact Hw
  isplitl [G00 G01 G02]
  · iapply (slots_join c 0)
    isplitl [G00]; · iapply (any_of_got c I 0 0); iexact G00
    isplitl [G01]; · iapply (any_of_got c I 0 1); iexact G01
    iapply (any_of_got c I 0 2); iexact G02
  isplitl [G10 G11 G12]
  · iapply (slots_join c 1)
    isplitl [G10]; · iapply (any_of_got c I 1 0); iexact G10
    isplitl [G11]; · iapply (any_of_got c I 1 1); iexact G11
    iapply (any_of_got c I 1 2); iexact G12
  rw [each]
  isplitl [Zs00 Zv00]; · isplitl [Zs00] <;> iassumption
  isplitl [Zs10 Zv10]; · isplitl [Zs10] <;> iassumption
  isplitl [Zs01 Zv01]; · isplitl [Zs01] <;> iassumption
  isplitl [Zs11 Zv11]; · isplitl [Zs11] <;> iassumption
  isplitl [Zs02 Zv02]; · isplitl [Zs02] <;> iassumption
  isplitl [Zs12 Zv12]; · isplitl [Zs12] <;> iassumption
  isplitl [Zs03 Zv03]; · isplitl [Zs03] <;> iassumption
  isplitl [Zs13 Zv13]; · isplitl [Zs13] <;> iassumption
  isplitl [Zs04 Zv04]; · isplitl [Zs04] <;> iassumption
  isplitl [Zs14 Zv14]; · isplitl [Zs14] <;> iassumption
  isplitl [Zs05 Zv05]; · isplitl [Zs05] <;> iassumption
  isplitl [Zs15] <;> iassumption

end Cert.KernelIdealRun
-- ==== Proof.KernelIdealRun.Deal.lean ====
/-
The launch: which cells and tokens there are at the start, what each device is given of them, and what it is owed.
-/
module

public import proofs.«01_k».proof.Proof.KernelIdealRun.Body
public import Idealize.ShloMosaic.Lib.Pipeline.Regions

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The tokens, each at the device that uses it up -/

theorem fwd_inj (h : Fin 2) : Function.Injective (fwd h) := fun a b e => by rw [← bwd_fwd h a, e, bwd_fwd]
theorem bwd_inj (h : Fin 2) : Function.Injective (bwd h) := fun a b e => by rw [← fwd_bwd h a, e, fwd_bwd]

theorem dma_ne_bar (q : DmaSem sig) : (SemLoc.dma q : SemLoc sig) ≠ .reg barS := by intro e; cases e
theorem recv_ne_bar (d c : Dev nD) (x : Xfer) : vCell d x ≠ bCell c := fun e => dma_ne_bar _ (congrArg Prod.snd e)

/-- The two signals a device sends. -/
def signalEmb : Dev nD × Fin 2 ↪ GSem nD τ sig × ℕ × Fin 2 :=
  ⟨fun ch => (bCell (bwd ch.2 ch.1), 0, ch.2), fun a b e => by
    obtain ⟨c, h⟩ := a; obtain ⟨d, k⟩ := b
    obtain rfl : h = k := congrArg (fun t : GSem nD τ sig × ℕ × Fin 2 => t.2.2) e
    exact Prod.ext (bwd_inj h (congrArg (fun t : GSem nD τ sig × ℕ × Fin 2 => t.1.1.1) e)) rfl⟩

/-- The cell of an end of device `c`'s transfer: its sending is counted at home, its arrival at the receiver. -/
def endCell (c : Dev nD) (i : Bool × Xfer) : GSem nD τ sig := if i.1 then vCell (fwd i.2.1 c) i.2 else sCell c i.2

theorem endCell_eq (c : Dev nD) (i : Bool × Xfer) :
    endCell c i = (((if i.1 then fwd i.2.1 c else c : Dev nD) : Thread nD τ), endS i) := by
  obtain ⟨b, x⟩ := i; cases b <;> rfl

/-- The two ends of each of a device's transfers. -/
def endEmb : Dev nD × (Bool × Xfer) ↪ GSem nD τ sig × ℕ × Fin 2 :=
  ⟨fun ci => (endCell ci.1 ci.2, 0, 0), fun a b e => by
    obtain ⟨c, i⟩ := a; obtain ⟨d, j⟩ := b
    have e' := congrArg (fun t : GSem nD τ sig × ℕ × Fin 2 => t.1) e
    simp only [endCell_eq] at e'
    obtain rfl : i = j := endS_inj (congrArg Prod.snd e')
    have e'' := congrArg (fun g : GSem nD τ sig => g.1.1) e'
    obtain ⟨b, x⟩ := i
    cases b
    · exact Prod.ext e'' rfl
    · exact Prod.ext (fwd_inj x.1 e'') rfl⟩

abbrev signals : Finset (GSem nD τ sig × ℕ × Fin 2) := Finset.univ.map signalEmb
abbrev ends : Finset (GSem nD τ sig × ℕ × Fin 2) := Finset.univ.map endEmb

theorem signals_ends : Disjoint signals ends := by
  rw [Finset.disjoint_left]
  rintro t h₁ h₂
  obtain ⟨a, -, rfl⟩ := Finset.mem_map.mp h₁
  obtain ⟨b, -, h⟩ := Finset.mem_map.mp h₂
  have h' := congrArg (fun t : GSem nD τ sig × ℕ × Fin 2 => t.1.2) h
  change (endCell b.1 b.2).2 = SemLoc.reg barS at h'
  rw [endCell_eq] at h'
  exact dma_ne_bar _ h'

theorem bCells_dCells : Disjoint (bCells : Finset (GSem nD τ sig)) dCells := by
  rw [Finset.disjoint_left]
  rintro g h₁ h₂
  obtain ⟨c, -, rfl⟩ := Finset.mem_map.mp h₁
  obtain ⟨ci, -, h⟩ := Finset.mem_map.mp h₂
  have h' : (endS ci.2 : SemLoc sig) = .reg barS := congrArg (fun g : GSem nD τ sig => g.2) h
  exact dma_ne_bar _ h'

/-- What a transfer has before its semaphores' counters are there. -/
def bare (c : Dev nD) (x : Xfer) : sProp 𝕄 :=
  iprop(dutyTok ER (sCell c x) 0 0 ∗ dutyTok ER (vCell (fwd x.1 c) x) 0 0 ∗ openTok ER (sCell c x) ∗ openTok ER (vCell c x)
    ∗ cred (tallyAt (vCell c x) () N))

/-- What device `c` is dealt. -/
def dealt (c : Dev nD) : sProp 𝕄 :=
  iprop((dutyTok ER (bCell (bwd 0 c)) 0 (0 : Fin 2) ∗ dutyTok ER (bCell (bwd 1 c)) 0 (1 : Fin 2))
    ∗ (atPos ER (bCell c) 0 ∅ 0 ∗ cred (tallyAt (bCell c) () 2)) ∗ bigSep Finset.univ fun x : Xfer => bare c x)

theorem bigSep_ends (Φ : Bool × Xfer → sProp 𝕄) :
    bigSep Finset.univ Φ = iprop((bigSep Finset.univ fun x : Xfer => Φ (false, x)) ∗ bigSep Finset.univ fun x : Xfer => Φ (true, x)) := by
  rw [bigSep_univ_prod]
  exact bigSep_univ_eq_bigSepL [false, true] (by decide) (by decide) _

theorem tokens (T : GSem nD τ sig × ℕ × Fin 2 → sProp 𝕄) :
    bigSep (signals ∪ ends) T = bigSep Finset.univ fun c : Dev nD => iprop((T (bCell (bwd 0 c), 0, 0) ∗ T (bCell (bwd 1 c), 0, 1))
      ∗ (bigSep Finset.univ fun x : Xfer => T (sCell c x, 0, 0)) ∗ bigSep Finset.univ fun x : Xfer => T (vCell (fwd x.1 c) x, 0, 0)) := by
  rw [bigSep_union signals_ends, bigSep_map, bigSep_map, bigSep_univ_prod, bigSep_univ_prod, bigSep_sep']
  congr 1
  · exact bigSep_congr fun c _ => bigSep_fin_two _
  · exact bigSep_congr fun c _ => bigSep_ends _

/-! ## What each cell is owed at the start -/

theorem fwd_eq_iff (h : Fin 2) (d c : Dev nD) : fwd h d = c ↔ d = bwd h c :=
  ⟨fun e => by rw [← e, bwd_fwd], fun e => by rw [e, fwd_bwd]⟩

theorem debt_at (d c : Dev nD) (x : Xfer) : ∀ l : List Xfer, debt d l (vCell c x) () = if d = bwd x.1 c then N * l.count x else 0
  | [] => by unfold debt; simp
  | y :: l => by
    unfold debt
    rw [Pi.add_apply, Finsupp.add_apply, tallyAt_apply, debt_at d c x l]
    by_cases hy : y = x
    · subst hy
      rw [List.count_cons_self]
      by_cases hd : d = bwd y.1 c
      · have hp : vCell c y = vCell (fwd y.1 d) y ∧ () = () := ⟨by rw [hd, fwd_bwd], rfl⟩
        rw [if_pos hp, if_pos hd, if_pos hd]; ring
      · have hn : ¬(vCell c y = vCell (fwd y.1 d) y ∧ () = ()) :=
          fun e => hd ((fwd_eq_iff _ _ _).mp (congrArg (fun g : GSem nD τ sig => g.1.1) e.1).symm)
        rw [if_neg hn, if_neg hd, if_neg hd]
    · have hn : ¬(vCell c x = vCell (fwd y.1 d) y ∧ () = ()) := fun e => hy (recvS_inj (SemLoc.dma.inj (congrArg Prod.snd e.1))).symm
      rw [List.count_cons_of_ne hy, if_neg hn, Nat.add_zero]

theorem debt_bar (d c : Dev nD) : ∀ l : List Xfer, debt d l (bCell c) () = 0
  | [] => rfl
  | y :: l => by
    unfold debt
    rw [Pi.add_apply, Finsupp.add_apply, tallyAt_ne_cell (recv_ne_bar _ _ _).symm, debt_bar d c l]; rfl

theorem once : ∀ x : Xfer, order.count x = 1 := by decide

theorem owed_recv (d c : Dev nD) (x : Xfer) : O₀ d (vCell c x) () = if d = bwd x.1 c then N else 0 := by
  unfold O₀
  rw [Pi.add_apply, Finsupp.add_apply, Pi.add_apply, Finsupp.add_apply, tallyAt_ne_cell (recv_ne_bar _ _ _), tallyAt_ne_cell (recv_ne_bar _ _ _),
    debt_at, once, Nat.mul_one]
  rfl

theorem owed_bar (d c : Dev nD) : O₀ d (bCell c) () = (if d = prv c then 1 else 0) + (if d = nxt c then 1 else 0) := by
  have key (e : Dev nD) : (tallyAt (bCell e) () 1 : CellTallies nD τ sig Unit) (bCell c) () = if e = c then 1 else 0 := by
    rw [tallyAt_apply]
    by_cases he : e = c
    · rw [if_pos he, if_pos ⟨by rw [he], rfl⟩]
    · rw [if_neg he, if_neg (fun e' => he (congrArg (fun g : GSem nD τ sig => g.1.1) e'.1).symm)]
  have h1 : ∀ c d : Dev nD, nxt d = c ↔ d = prv c := by decide
  have h2 : ∀ c d : Dev nD, prv d = c ↔ d = nxt c := by decide
  unfold O₀
  rw [Pi.add_apply, Finsupp.add_apply, Pi.add_apply, Finsupp.add_apply, key, key, debt_bar]
  simp only [h1, h2, zero_add]

theorem launch_bar (c : Dev nD) :
    tallyOn (bCell c) (launchCredit (Pipeline.owing O₀) 0 (bCell c)) = (tallyAt (bCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (x : Xfer) :
    tallyOn (vCell c x) (launchCredit (Pipeline.owing O₀) 0 (vCell c x)) = (tallyAt (vCell c x) () N : CellTallies nD τ sig Unit) := by
  unfold tallyAt; refine congrArg _ (Finsupp.ext fun u => ?_); cases u
  rw [Pipeline.launchCredit_owing, Finsupp.single_eq_same, Finset.sum_congr rfl fun d _ => owed_recv d c x,
    Finset.sum_ite_eq' Finset.univ (bwd x.1 c) fun _ => N, if_pos (Finset.mem_univ _)]

/-- The semaphore of an arrival. -/
def recvEmb : Xfer ↪ SemLoc sig := ⟨fun x => .dma (recvS x), fun _ _ e => recvS_inj (SemLoc.dma.inj e)⟩

theorem creds (c : Dev nD) :
    (Pipeline.launchCred O₀ c : sProp 𝕄) ⊢ iprop(cred (tallyAt (bCell c) () 2) ∗ bigSep Finset.univ fun x : Xfer => cred (tallyAt (vCell c x) () N)) := by
  unfold Pipeline.launchCred
  rw [bigSep_univ_at _ (SemLoc.reg barS), launch_bar]
  refine sep_mono_right ?_
  have hs : (Finset.univ.map recvEmb : Finset (SemLoc sig)) ⊆ Finset.univ.erase (SemLoc.reg barS) := fun s hs => by
    obtain ⟨x, -, rfl⟩ := Finset.mem_map.mp hs
    exact Finset.mem_erase.mpr ⟨dma_ne_bar _, Finset.mem_univ _⟩
  refine BI.Entails.trans (bigSep_subset hs) ?_
  rw [bigSep_map]
  exact Entails.of_eq (bigSep_congr fun x _ => congrArg _ (launch_recv c x))

end Cert.KernelIdealRun
-- ==== Proof.KernelIdealRun.Region.lean ====
/-
The kernel call as a step of the whole program: what it starts from, what it leaves, and its launch.
-/
module

public import proofs.«01_k».proof.Proof.KernelIdealRun.Deal
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit.Geometry

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ)

/-- The kernel's input arrays on device `d`, as the host leaves them. -/
def ins (d : Dev nD) : Ins F := ⟨V1 m d main_v21, V1 m d main_v24, V1 m d main_v27, V1 m d main_v29⟩

/-- The kernel's result, the same on every device. -/
def result : S2048x1024.Idx → F .f32 := k0_pay76 (whole (ins m))

/-- What the kernel call leaves in the array of its result. -/
def outs : Outs (F := F) := fun _ r c => Function.update (V1 m c) main_v30 (result m) r

theorem V2_result (c : Dev nD) : V2 m (outs m) c main_v30 = result m := by
  unfold V2 outs; rw [Function.update_self, Function.update_self]

/-! ## Opening the transfers' cells -/

/-- With the two counters of a transfer's ends there, its cells open. -/
theorem open_one (I : Dev nD → Ins F) (K : GSem nD τ sig → ℕ) (c : Dev nD) (x : Xfer) :
    iprop(records I K ∗ (bare c x ∗ (semVal (sCell c x) 0 ∗ semVal (vCell c x) 0)))
      ⊢ (|={Set.univ}=> (iprop(kit c x ∗ reached ER (vCell c x) 0)) : sProp 𝕄) := by
  unfold bare kit
  iintro ⟨#HR, ⟨T0, T1, O0, O1, Hc⟩, S0, S1⟩
  ihave #HI := (inv_at I K (send_mem c x)) $$ HR
  ihave #HJ := (inv_at I K (recv_mem c x)) $$ HR
  imod (Rounds.cell_open ER (sched I) (g := sCell c x) (Set.mem_univ (K (sCell c x)))) $$ [O0 S0] with ⟨A0, #R0⟩
  · isplitr; · iexact HI
    isplitl [O0] <;> iassumption
  imod (Rounds.cell_open ER (sched I) (g := vCell c x) (Set.mem_univ (K (vCell c x)))) $$ [O1 S1] with ⟨A1, #R1⟩
  · isplitr; · iexact HJ
    isplitl [O1] <;> iassumption
  imodintro
  isplitl
  · isplitl [T0]; · iexact T0
    isplitl [T1]; · iexact T1
    isplitl [A0]; · iexact A0
    isplitl [A1]; · iexact A1
    isplitl [Hc]; · iexact Hc
    iexact R0
  iexact R1

theorem open_all (I : Dev nD → Ins F) (K : GSem nD τ sig → ℕ) (c : Dev nD) :
    iprop(records I K ∗ ((bigSep Finset.univ fun x : Xfer => bare c x) ∗ bigSep Finset.univ fun x : Xfer => iprop(semVal (sCell c x) 0 ∗ semVal (vCell c x) 0)))
      ⊢ (|={Set.univ}=> (iprop((bigSep Finset.univ fun x : Xfer => kit c x) ∗ ready c 0 ∗ ready c 1)) : sProp 𝕄) := by
  rw [← bigSep_sep']
  refine BI.Entails.trans (bigSep_with_persistent (R := records I K) fun x _ => open_one I K c x) ?_
  refine BI.Entails.trans (bigSep_fupd _ _) ?_
  rw [bigSep_sep', show (bigSep Finset.univ fun x : Xfer => (reached ER (vCell c x) 0 : sProp 𝕄)) = iprop(ready c 0 ∗ ready c 1) from by
    rw [bigSep_univ_prod, bigSep_fin_two]; rfl]
  exact BI.Entails.refl _

theorem ownSems_eq (c : Dev nD) : (Pipeline.ownSems0 endS c : sProp 𝕄)
    = bigSep Finset.univ fun x : Xfer => iprop(semVal (sCell c x) 0 ∗ semVal (vCell c x) 0) := by
  unfold Pipeline.ownSems0
  rw [bigSep_ends, bigSep_sep']
  rfl

/-! ## What the call starts from and what it leaves -/

/-- What a device brings to the call. -/
def bring (c : Dev nD) : sProp 𝕄 := iprop((∃ K, records (ins m) K) ∗ dealt c)

/-- The same once its cells are open. -/
def opened (c : Dev nD) : sProp 𝕄 :=
  iprop((∃ K, records (ins m) K) ∗ levAts L lv ∗ (dutyTok ER (bCell (bwd 0 c)) 0 (0 : Fin 2) ∗ dutyTok ER (bCell (bwd 1 c)) 0 (1 : Fin 2))
    ∗ (ready c 0 ∗ ready c 1) ∗ (atPos ER (bCell c) 0 ∅ 0 ∗ cred (tallyAt (bCell c) () 2)) ∗ bigSep Finset.univ fun x : Xfer => kit c x)

theorem opens (c : Dev nD) : iprop(bring m c ∗ Pipeline.ownSems0 endS c ∗ levAts L lv) ⊢ (|={Set.univ}=> opened m c : sProp 𝕄) := by
  rw [ownSems_eq]
  unfold bring dealt opened
  iintro ⟨⟨⟨%K, #HR⟩, Ht, Ha, Hb⟩, Hs, #HL⟩
  imod (open_all (ins m) K c) $$ [Hb Hs] with ⟨Hk, Hr⟩
  · isplitr; · iexact HR
    isplitl [Hb] <;> iassumption
  imodintro
  isplitr; · iexists K; iexact HR
  isplitr; · iexact HL
  isplitl [Ht]; · iexact Ht
  isplitl [Hr]; · iexact Hr
  isplitl [Ha]; · iexact Ha
  iexact Hk

/-- Owning a whole buffer at some contents, in two words for the same. -/
theorem any_whole (c : Dev nD) (b : Ref sig .tc) :
    (iprop(∃ X, owns (Val := Elt F) (c : Thread nD τ) (Memref.whole b) fullShare X) : sProp 𝕄)
      ⊢ iprop(∃ f : Buf (Elt F) ((c : Thread nD τ).loc b), ((c : Thread nD τ).loc b) ↦{fullShare} f) := by
  unfold owns
  simp only [Memref.view_whole, View.read_whole, View.set_whole]
  iintro ⟨%X, %f, -, H⟩
  iexists f
  iexact H
theorem whole_any (c : Dev nD) (b : Ref sig .tc) :
    (iprop(∃ f : Buf (Elt F) ((c : Thread nD τ).loc b), ((c : Thread nD τ).loc b) ↦{fullShare} f) : sProp 𝕄)
      ⊢ iprop(∃ X, owns (Val := Elt F) (c : Thread nD τ) (Memref.whole b) fullShare X) := by
  unfold owns
  simp only [Memref.view_whole, View.read_whole, View.set_whole]
  iintro ⟨%f, H⟩
  iexists f, f
  isplitr; · ipureintro; rfl
  iexact H

/-- The three scratch buffers, at whatever contents. -/
def scratch (c : Dev nD) : sProp 𝕄 :=
  iprop((∃ f, ((c : Thread nD τ).loc cc0_scratch0) ↦{fullShare} f) ∗ land c 0 ∗ land c 1)

theorem scratch_in (c : Dev nD) : (Pipeline.scopedRest spec0 c : sProp 𝕄) ⊢ scratch c := by
  rw [scopedRest0_eq]
  unfold scratch land
  iintro ⟨H0, H1, H2⟩
  isplitl [H0]; · iexact H0
  isplitl [H1]; · iapply (whole_any c cc0_scratch1); iexact H1
  iapply (whole_any c cc0_scratch2); iexact H2
theorem scratch_out (c : Dev nD) : scratch c ⊢ (Pipeline.scopedRest spec0 c : sProp 𝕄) := by
  rw [scopedRest0_eq]
  unfold scratch land
  iintro ⟨H0, H1, H2⟩
  isplitl [H0]; · iexact H0
  isplitl [H1]; · iapply (any_whole c cc0_scratch1); iexact H1
  iapply (any_whole c cc0_scratch2); iexact H2

/-- What the transfers leave: their counters at zero. -/
def quiet (c : Dev nD) : sProp 𝕄 := bigSep Finset.univ fun x : Xfer => iprop(semVal (sCell c x) 0 ∗ semVal (vCell c x) 0)

/-- The call's data: its arrays at entry, what its windows' buffers hold after the body, and what holds before and after. -/
def dat (c : Dev nD) : Dat τ (Elt F) Unit ℕ UU ℕ cfg0 c where
  A w := V1 m c (Proc.devRef .tc (Pipeline.arrRef spec0 w))
  after w _ := match w with
    | ⟨0, _⟩ => (ins m c).q
    | ⟨1, _⟩ => (ins m c).k
    | ⟨2, _⟩ => (ins m c).v
    | ⟨3, _⟩ => (ins m c).wo
    | ⟨4, _⟩ => result m
  Φ t := match t with
    | ⟨0, _⟩ => iprop(opened m c ∗ scratch c ∗ ∃ r, prngReg c r)
    | ⟨_ + 1, _⟩ => iprop(semVal (bCell c) 0 ∗ quiet c ∗ scratch c ∗ ∃ r, prngReg c r)
  q _ := fullShare
  owed t := match t with
    | ⟨0, _⟩ => O₀ c
    | ⟨_ + 1, _⟩ => 0

def pdats (p : Fin 1) (c : Dev nD) : Dat τ (Elt F) Unit ℕ UU ℕ (cfgs p) c := dat m c

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The call's input windows are whole arrays: the body finds each as it was at entry. -/
theorem found0 (c : Dev nD) (D : Dat τ (Elt F) Unit ℕ UU ℕ cfg0 c) (d) : D.before 0 t0_0 d = D.A 0 := by
  unfold Dat.before; rw [if_pos (fetch0_0 t0_0)]
  funext i
  exact congrArg (D.A 0) (show (win0_0.rect t0_0).emb i = i from
    funext fun a => Fin.ext (by rw [Pipeline.Window.rect_emb_val_of_index_zero]; rfl))
theorem found1 (c : Dev nD) (D : Dat τ (Elt F) Unit ℕ UU ℕ cfg0 c) (d) : D.before 1 t0_0 d = D.A 1 := by
  unfold Dat.before; rw [if_pos (fetch0_1 t0_0)]
  funext i
  exact congrArg (D.A 1) (show (win0_1.rect t0_0).emb i = i from
    funext fun a => Fin.ext (by rw [Pipeline.Window.rect_emb_val_of_index_zero]; rfl))
theorem found2 (c : Dev nD) (D : Dat τ (Elt F) Unit ℕ UU ℕ cfg0 c) (d) : D.before 2 t0_0 d = D.A 2 := by
  unfold Dat.before; rw [if_pos (fetch0_2 t0_0)]
  funext i
  exact congrArg (D.A 2) (show (win0_2.rect t0_0).emb i = i from
    funext fun a => Fin.ext (by rw [Pipeline.Window.rect_emb_val_of_index_zero]; rfl))
theorem found3 (c : Dev nD) (D : Dat τ (Elt F) Unit ℕ UU ℕ cfg0 c) (d) : D.before 3 t0_0 d = D.A 3 := by
  unfold Dat.before; rw [if_pos (fetch0_3 t0_0)]
  funext i
  exact congrArg (D.A 3) (show (win0_3.rect t0_0).emb i = i from
    funext fun a => Fin.ext (by rw [Pipeline.Window.rect_emb_val_of_index_zero]; rfl))

/-- Buffer `b` of device `c` holds `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 8000 in
def bodyPre (c : Dev nD) : sProp 𝕄 :=
  iprop((opened m c ∗ scratch c ∗ ∃ r, prngReg c r) ∗ (dat m c).owesAt () t0_0.castSucc
    ∗ (∃ d, stg c cc0_stg0_0 ((dat m c).before (0 : Fin 5) t0_0 d))
    ∗ (∃ d, stg c cc0_stg1_0 ((dat m c).before (1 : Fin 5) t0_0 d))
    ∗ (∃ d, stg c cc0_stg2_0 ((dat m c).before (2 : Fin 5) t0_0 d))
    ∗ (∃ d, stg c cc0_stg3_0 ((dat m c).before (3 : Fin 5) t0_0 d))
    ∗ (∃ d, stg c cc0_stg4_0 ((dat m c).before (4 : Fin 5) t0_0 d)))

set_option maxRecDepth 8000 in
def bodyPost (c : Dev nD) : sProp 𝕄 :=
  iprop((semVal (bCell c) 0 ∗ quiet c ∗ scratch c ∗ ∃ r, prngReg c r) ∗ (dat m c).owesAt () t0_0.succ
    ∗ stg c cc0_stg0_0 (ins m c).q ∗ stg c cc0_stg1_0 (ins m c).k ∗ stg c cc0_stg2_0 (ins m c).v ∗ stg c cc0_stg3_0 (ins m c).wo
    ∗ stg c cc0_stg4_0 (result m))

set_option maxHeartbeats 4000000 in
set_option maxRecDepth 8000 in
theorem sound_body (c : Dev nD) : bodyPre m c ⊢ Runs c
    (cc0__body qM (Memref.isWhole_whole _) kM (Memref.isWhole_whole _) vM (Memref.isWhole_whole _) woM (Memref.isWhole_whole _) outM (Memref.isWhole_whole _) obM (Memref.isWhole_whole _) rrM (Memref.isWhole_whole _) rlM (Memref.isWhole_whole _) cc0_scratch3 cc0_scratch4)
    (fun _ => bodyPost m c) := by
  unfold bodyPre opened scratch
  iintro ⟨⟨⟨⟨%K, #HR⟩, #HL, Ht, Hr, Ha, Hk⟩, ⟨Hf, HA, HB⟩, Hp⟩, Ho, ⟨%d0, %g0, %hg0, H0⟩, ⟨%d1, %g1, %hg1, H1⟩, ⟨%d2, %g2, %hg2, H2⟩, ⟨%d3, %g3, %hg3, H3⟩, ⟨%d4, %g4, %hg4, H4⟩⟩
  have e0 : g0 = (ins m c).q := hg0.trans (found0 c (dat m c) d0)
  have e1 : g1 = (ins m c).k := hg1.trans (found1 c (dat m c) d1)
  have e2 : g2 = (ins m c).v := hg2.trans (found2 c (dat m c) d2)
  have e3 : g3 = (ins m c).wo := hg3.trans (found3 c (dat m c) d3)
  subst e0 e1 e2 e3
  unfold Dat.owesAt Pipeline.owesWithin
  icases Ho with ⟨%W, %hW, HO⟩
  rw [show (dat m c).owed t0_0.castSucc = O₀ c from rfl]
  iapply (body_runs c (ins m) K (W := W) (fun _ => bodyPost m c)) $$ [HO Ht Hr Ha Hk Hf HA HB H0 H1 H2 H3 H4]
  · isplitr
    · isplitr; · iexact HR
      iexact HL
    isplitl [HO]; · iexact HO
    isplitl [Ht]; · iexact Ht
    isplitl [Hr]; · iexact Hr
    isplitl [Ha]; · iexact Ha
    unfold before inputs
    isplitl [H0 H1 H2 H3]
    · isplitl [H0]; · iexact H0
      isplitl [H1]; · iexact H1
      isplitl [H2]; · iexact H2
      iexact H3
    isplitl [H4]; · iexists g4; iexact H4
    isplitl [Hf]; · iexact Hf
    isplitl [HA]; · iexact HA
    isplitl [HB]; · iexact HB
    iexact Hk
  unfold after owing inputs bodyPost scratch
  iintro ⟨⟨%W', HO⟩, Hb, ⟨H0, H1, H2, H3⟩, H4, Hf, HA, HB, Hq⟩
  isplitl [Hb Hq Hf HA HB Hp]
  · isplitl [Hb]; · iexact Hb
    isplitl [Hq]; · unfold quiet; iexact Hq
    isplitl [Hf HA HB]
    · isplitl [Hf]; · iexact Hf
      isplitl [HA] <;> iassumption
    iexact Hp
  isplitl [HO]
  · unfold Dat.owesAt Pipeline.owesWithin
    iexists W'
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  iexists _; isplitr; · (ipureintro; rfl)
  iexact H4

set_option maxRecDepth 8000 in
theorem body_obligation (c : Dev nD) : BodyObligation (pdats m 0 c) (defs₀ (F := F)) 𝒱₀ () Set.univ := fun t => by
  rw [fin_N0 t]
  rw [bigSep_W0, bigSep_W0]
  simp only [owns_whole_eq]
  exact sound_body m c

end Cert.KernelIdealRun
-- ==== Proof.KernelIdealRun.Run.lean ====
/-
The run of the whole program on the four devices: what it leaves in memory, from any memory.
-/
module

public import proofs.«01_k».proof.Proof.KernelIdealRun.Region
public import Idealize.ShloMosaic.Lib.Quiescent

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ)

/-! ## The call as a segment -/

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem own_facts : Pipeline.OwnSemFacts spec0 endS := by decide +kernel

/-- The buffers that are no array of the call. -/
abbrev others : Finset (DevRef τ sig) := Pipeline.ucRefs τ sig \ Pipeline.arrRefs spec0

theorem arr_sub : Pipeline.arrRefs (τ := τ) spec0 ⊆ Pipeline.ucRefs τ sig := by decide +kernel
theorem result_mem : Proc.devRef .tc main_v30 ∈ Pipeline.arrRefs (τ := τ) spec0 := by decide +kernel

theorem owed_pos_level (c : Dev nD) (t : Fin (cfg0.N + 1)) (g : GSem nD τ sig) (i : Unit) (h : 0 < (dat m c).owed t g i) :
    i ∈ L g ∧ (0 : ℕ) < lv g i := by
  obtain ⟨t, ht⟩ := t
  cases t with
  | zero =>
    rcases O₀_pos (show 0 < O₀ c g i from h) with ⟨d, x, rfl⟩ | ⟨d, rfl⟩
    · exact ⟨by rw [L_tc]; exact Finset.mem_singleton_self _, by rw [lv_recv]; omega⟩
    · exact ⟨by rw [L_tc]; exact Finset.mem_singleton_self _, Nat.one_pos⟩
  | succ t => exact absurd h (Nat.lt_irrefl 0)

theorem call_in (c : Dev nD) : iprop(Pipeline.scopedRest spec0 c ∗ (∃ r, prngReg c r) ∗ StableHlo.held (c.tc : Thread nD τ) ∅ (V1 m c) ∗ opened m c)
    ⊢ (iprop(opened m c ∗ scratch c ∗ ∃ r, prngReg c r) : sProp 𝕄) := by
  iintro ⟨Hs, Hp, -, Ho⟩
  isplitl [Ho]; · iexact Ho
  isplitl [Hs]; · iapply (scratch_in c); iexact Hs
  iexact Hp

theorem call_out (c : Dev nD) : (iprop(semVal (bCell c) 0 ∗ quiet c ∗ scratch c ∗ ∃ r, prngReg c r) : sProp 𝕄)
    ⊢ iprop(Pipeline.scopedRest spec0 c ∗ (∃ r, prngReg c r) ∗ StableHlo.held (c.tc : Thread nD τ) ∅ (V2 m (outs m) c) ∗ Pipeline.ownSems0 endS c ∗ semVal (bCell c) 0) := by
  rw [ownSems_eq]
  unfold quiet
  iintro ⟨Hb, Hq, Hs, Hp⟩
  isplitl [Hs]; · iapply (scratch_out c); iexact Hs
  isplitl [Hp]; · iexact Hp
  isplitr; · unfold StableHlo.held; rw [BI.bigSep_empty]; iempintro
  isplitl [Hq] <;> iassumption

theorem arr_before (c : Dev nD) (w : Fin 5) : (dat m c).arrAt w 0 = V1 m c (Proc.devRef .tc (Pipeline.arrRef spec0 w)) := rfl

theorem arr_result (c : Dev nD) : (dat m c).arrAt 4 cfg0.N = result m :=
  (dat m c).arrAt_eq_of_after_last 4 t0_0 (by decide +kernel) _ (fun j => rfl)

theorem arr_after (c : Dev nD) (w : Fin 5) : (dat m c).arrAt w cfg0.N = V2 m (outs m) c (Proc.devRef .tc (Pipeline.arrRef spec0 w)) := by
  match w with
  | 0 => exact ((dat m c).arrAt_in 0 rfl _).trans (V2_of m (outs m) c main_v21 (by decide)).symm
  | 1 => exact ((dat m c).arrAt_in 1 rfl _).trans (V2_of m (outs m) c main_v24 (by decide)).symm
  | 2 => exact ((dat m c).arrAt_in 2 rfl _).trans (V2_of m (outs m) c main_v27 (by decide)).symm
  | 3 => exact ((dat m c).arrAt_in 3 rfl _).trans (V2_of m (outs m) c main_v29 (by decide)).symm
  | 4 => exact (arr_result m c).trans (V2_result m c).symm

theorem others_kept (c : Dev nD) : ∀ b ∈ others \ ∅, V2 m (outs m) c b = V1 m c b := fun b hb =>
  Function.update_of_ne (fun e => (Finset.mem_sdiff.mp (Finset.mem_sdiff.mp hb).1).2 (by rw [e]; exact result_mem)) _ _

theorem share_eq (c : Dev nD) (w : Fin cfg0.W) : (pdats m 0 c).share w = fullShare := by unfold Dat.share; split <;> rfl

/-- A semaphore before those of the transfers waits below everything. -/
theorem lv_stage (c : Dev nD) (q : DmaSem sig) (h : q.val < 5) : lv ((c : Thread nD τ), .dma q) () = 0 := by
  dsimp only [lv]
  rw [show what q = none from List.find?_eq_none.mpr fun bx _ => by
    simp only [decide_eq_true_eq]
    intro e
    have e' := congrArg Fin.val e
    obtain ⟨b, x⟩ := bx
    cases b
    · change 5 + (num x).val = q.val at e'; omega
    · change 17 + (num x).val = q.val at e'; omega]

theorem stage_small : ∀ (w : Fin cfg0.W) (s : Fin (cfg0.win w).nbuf), ((cfg0.win w).sem s).val < 5 := by decide +kernel

set_option backward.isDefEq.respectTransparency.types false in
/-- The kernel call. -/
def region : Pipeline.RegionSeg (pcfgs (F := F)) adm (pdats m) () defs₀ 𝒱₀ L lv 0 :=
  Pipeline.RegionSeg.ofTalk (pcfgs (F := F)) adm (pdats m) () defs₀ 𝒱₀ L lv 0 endS own_facts
    ∅ others (Finset.empty_subset _) kitP rfl (fun c => (body_obligation m c).loose)
    (fun _ => 0) O₀ (fun c => (zero_add _).symm) (fun _ => rfl) (fun _ => rfl) (share_eq m)
    (fun c => V1 m c) (fun c => V2 m (outs m) c) (others_kept m)
    (bring m) (fun c => semVal (bCell c) 0) (opened m) (fun c => semVal (bCell c) 0) (opens m) (call_in m) (call_out m)
    (fun c => by iintro H; imodintro; iexact H)
    (fun _ => 0)
    ⟨fun c w s => by rw [L_tc]; exact Finset.mem_singleton_self _, fun c w s => le_of_eq (lv_stage c _ (stage_small w s)), fun c t g i h => owed_pos_level m c t g i h⟩
    (fun _ => iprop(emp))
    (arr_before m) (arr_after m)

/-! ## What rides along -/

/-- Beside the buffers, before the call and after it. -/
def along : Fin 2 → Dev nD → sProp 𝕄
  | 0, c => iprop(bring m c ∗ (∃ r, prngReg c r) ∗ ∃ W, owes (c : Thread nD τ) (O₀ c) W)
  | 1, c => iprop(semVal (bCell c) 0 ∗ ∃ W, owes (c : Thread nD τ) (0 : CellTallies nD τ sig Unit) W)

theorem region_pre (c : Dev nD) : iprop(StableHlo.held (c : Thread nD τ) (Pipeline.ucRefs τ sig) (V1 m c) ∗ along m 0 c) ⊢ (region m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ bring m c ∗ ∃ Wd, owes (c : Thread nD τ) (0 + O₀ c) Wd)
  rw [zero_add, StableHlo.held_sub_split (c.tc : Thread nD τ) arr_sub (V1 m c), show along m 0 c = iprop(bring m c ∗ (∃ r, prngReg c r) ∗ ∃ W, owes (c : Thread nD τ) (O₀ c) W) from rfl]
  iintro ⟨⟨Ha, Hs⟩, Hb, Hp, HO⟩
  isplitl [Ha]; · iexact Ha
  isplitl [Hp]; · iexact Hp
  isplitl [Hs]
  · isplitl [Hs]; · iexact Hs
    iempintro
  isplitl [Hb] <;> iassumption

theorem region_post (c : Dev nD) : (region m).post c ⊢ iprop(StableHlo.held (c : Thread nD τ) (Pipeline.ucRefs τ sig) (V2 m (outs m) c) ∗ along m 1 c) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ semVal (bCell c) 0 ∗ ∃ Wd, owes (c : Thread nD τ) (0 : CellTallies nD τ sig Unit) Wd) ⊢ _
  rw [StableHlo.held_sub_split (c.tc : Thread nD τ) arr_sub (V2 m (outs m) c),
    show along m 1 c = iprop(semVal (bCell c) 0 ∗ ∃ W, owes (c : Thread nD τ) (0 : CellTallies nD τ sig Unit) W) from rfl]
  iintro ⟨Ha, -, ⟨Hs, -⟩, Hb, HO⟩
  isplitl [Ha Hs]
  · isplitl [Ha] <;> iassumption
  isplitl [Hb] <;> iassumption

/-! ## The launch -/

/-- The element of ghost state the launch starts from. -/
def start₀ : UU := (initOf (Pipeline.cells cfgs cellOf_inj) (Pipeline.launchToks cfgs cellOf_inj), launchOf bCells dCells (signals ∪ ends))

/-- All of `X`, on device 0. -/
def onFirst (X : sProp 𝕄) (c : Dev nD) : sProp 𝕄 := if c = 0 then X else iprop(emp)
theorem bigSep_onFirst (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

/-- The transfers' part of it. -/
def pot : sProp 𝕄 := BI.own (ER (launchOf bCells dCells (signals ∪ ends)))

/-- What each device has of its own at the launch, apart from its cells. -/
def held₀ (ρ : Dev nD → PrngReg) (c : Dev nD) : sProp 𝕄 :=
  iprop((cred (tallyAt (bCell c) () 2) ∗ bigSep Finset.univ fun x : Xfer => cred (tallyAt (vCell c x) () N))
    ∗ owes (c : Thread nD τ) (O₀ c) ∅ ∗ prngReg c (ρ c))

/-- What each device is given of the cells and tokens. -/
def given (c : Dev nD) : sProp 𝕄 :=
  iprop(atPos ER (bCell c) 0 ∅ 0 ∗ (bigSep Finset.univ fun i : Bool × Xfer => openTok ER ((c : Thread nD τ), endS i))
    ∗ ((dutyTok ER (bCell (bwd 0 c)) 0 (0 : Fin 2) ∗ dutyTok ER (bCell (bwd 1 c)) 0 (1 : Fin 2))
      ∗ (bigSep Finset.univ fun x : Xfer => dutyTok ER (sCell c x) 0 (0 : Fin 2)) ∗ bigSep Finset.univ fun x : Xfer => dutyTok ER (vCell (fwd x.1 c) x) 0 (0 : Fin 2)))

theorem bares (c : Dev nD) : iprop((bigSep Finset.univ fun i : Bool × Xfer => openTok ER ((c : Thread nD τ), endS i))
      ∗ (bigSep Finset.univ fun x : Xfer => dutyTok ER (sCell c x) 0 (0 : Fin 2)) ∗ (bigSep Finset.univ fun x : Xfer => dutyTok ER (vCell (fwd x.1 c) x) 0 (0 : Fin 2))
      ∗ bigSep Finset.univ fun x : Xfer => cred (tallyAt (vCell c x) () N))
    ⊢ (bigSep Finset.univ fun x : Xfer => bare c x : sProp 𝕄) := by
  unfold bare
  rw [bigSep_ends, bigSep_sep', bigSep_sep', bigSep_sep', bigSep_sep']
  iintro ⟨⟨O0, O1⟩, T0, T1, Hc⟩
  isplitl [T0]; · iexact T0
  isplitl [T1]; · iexact T1
  isplitl [O0]; · iexact O0
  isplitl [O1]; · iexact O1
  iexact Hc

theorem begins (ρ : Dev nD → PrngReg) (K : GSem nD τ sig → ℕ) (c : Dev nD) : iprop(records (ins m) K ∗ (given c ∗ held₀ ρ c)) ⊢ along m 0 c := by
  show _ ⊢ iprop(bring m c ∗ (∃ r, prngReg c r) ∗ ∃ W, owes (c : Thread nD τ) (O₀ c) W)
  unfold given held₀ bring dealt
  iintro ⟨#HR, ⟨Ha, Ho, Ht, T0, T1⟩, ⟨Hc, Hd⟩, HO, Hp⟩
  isplitr [Hp HO]
  · isplitr; · iexists K; iexact HR
    isplitl [Ht]; · iexact Ht
    isplitl [Ha Hc]; · isplitl [Ha] <;> iassumption
    iapply (bares c)
    isplitl [Ho]; · iexact Ho
    isplitl [T0]; · iexact T0
    isplitl [T1]; · iexact T1
    iexact Hd
  isplitl [Hp]; · iexists (ρ c); iexact Hp
  iexists ∅; iexact HO

theorem barrier_only (c : Dev nD) : (unscopedSems0 c : sProp 𝕄) = semVal (bCell c) 0 := by
  unfold unscopedSems0
  rw [show (Finset.univ.filter fun sm : SemLoc sig => ¬ sm.isScoped .tc) = {SemLoc.reg barS} from by decide, BI.bigSep_singleton]

theorem unscoped_eq : ∀ sm : SemLoc sig, sm.isScoped .tc = false → sm = .reg barS := by decide

theorem all_apart {Φ Ψ : Dev nD → sProp 𝕄} : (bigSep Finset.univ fun c => iprop(Φ c ∗ Ψ c)) ⊢ iprop(bigSep Finset.univ Φ ∗ bigSep Finset.univ Ψ) := by
  rw [bigSep_sep']
theorem all_together {Φ Ψ : Dev nD → sProp 𝕄} : iprop(bigSep Finset.univ Φ ∗ bigSep Finset.univ Ψ) ⊢ (bigSep Finset.univ fun c => iprop(Φ c ∗ Ψ c)) := by
  rw [bigSep_sep']

/-- What the launch leaves, dealt out. -/
theorem share_out (ρ : Dev nD → PrngReg) : iprop((bigSep Finset.univ fun c : Dev nD => iprop(unscopedSems0 c ∗ owes (c : Thread nD τ) (O₀ c) ∅ ∗ Pipeline.launchCred O₀ c ∗ prngReg c (ρ c) ∗ onFirst pot c)) ∗ levAts L lv)
    ⊢ (|={Set.univ}=> bigSep Finset.univ (along m 0) : sProp 𝕄) := by
  have hcore (c : Dev nD) : iprop(unscopedSems0 c ∗ owes (c : Thread nD τ) (O₀ c) ∅ ∗ Pipeline.launchCred O₀ c ∗ prngReg c (ρ c) ∗ onFirst pot c)
      ⊢ (iprop(held₀ ρ c ∗ (semVal (bCell c) 0 ∗ onFirst pot c)) : sProp 𝕄) := by
    rw [barrier_only]
    unfold held₀
    iintro ⟨Hb, HO, Hc, Hp, HG⟩
    isplitl [HO Hc Hp]
    · isplitl [Hc]; · iapply (creds (F := F) c); iexact Hc
      isplitl [HO] <;> iassumption
    isplitl [Hb] <;> iassumption
  have hv : bigSep Finset.univ (fun c : Dev nD => (semVal (bCell c) 0 : sProp 𝕄)) ⊢ bigSep bCells (fun g => (semVal g 0 : sProp 𝕄)) :=
    Entails.of_eq (bigSep_map (s := Finset.univ) bEmb (Φ := fun g : GSem nD τ sig => (semVal g 0 : sProp 𝕄))).symm
  have hat : bigSep bCells (fun g => (atPos ER g 0 ∅ 0 : sProp 𝕄)) ⊢ bigSep Finset.univ (fun c : Dev nD => (atPos ER (bCell c) 0 ∅ 0 : sProp 𝕄)) :=
    Entails.of_eq (bigSep_map (s := Finset.univ) bEmb (Φ := fun g : GSem nD τ sig => (atPos ER g 0 ∅ 0 : sProp 𝕄)))
  have hopen : bigSep dCells (fun g => (openTok ER g : sProp 𝕄))
      ⊢ bigSep Finset.univ (fun c : Dev nD => bigSep Finset.univ fun i : Bool × Xfer => (openTok ER ((c : Thread nD τ), endS i) : sProp 𝕄)) :=
    Entails.of_eq (by rw [bigSep_map, bigSep_univ_prod]; rfl)
  iintro ⟨H, -⟩
  ihave H' := (show (bigSep Finset.univ fun c : Dev nD => iprop(unscopedSems0 c ∗ owes (c : Thread nD τ) (O₀ c) ∅ ∗ Pipeline.launchCred O₀ c ∗ prngReg c (ρ c) ∗ onFirst pot c))
      ⊢ (bigSep Finset.univ fun c : Dev nD => iprop(held₀ ρ c ∗ (semVal (bCell c) 0 ∗ onFirst pot c)) : sProp 𝕄) from bigSep_mono fun c _ => hcore c) $$ H
  ihave H2 := all_apart $$ H'; icases H2 with ⟨HB, H3⟩
  ihave H4 := all_apart $$ H3; icases H4 with ⟨Hv, HG⟩
  ihave Hu := (show bigSep Finset.univ (onFirst (F := F) pot) ⊢ BI.own (ER (launchOf bCells dCells (signals ∪ ends))) from
    Entails.of_eq (bigSep_onFirst (F := F) pot)) $$ HG
  imod (Rounds.fund_launch ER (sched (ins m)) bCells_dCells (fun g _ h => h) (signals ∪ ends)) $$ [Hv Hu] with ⟨%κ, -, #Hinv, #Hr, Hat, Hopen, Htok⟩
  · isplitl [Hv]
    · iapply hv $$ Hv
    · iexact Hu
  imodintro
  iapply (bigSep_with_persistent (R := records (ins m) κ) (Φ := fun c => iprop(given c ∗ held₀ ρ c)) fun c _ => begins m ρ κ c)
  isplitr
  · unfold records
    isplitr; · iexact Hinv
    iexact Hr
  iapply all_together
  isplitr [HB]
  · unfold given
    iapply all_together; isplitl [Hat]; · iapply hat $$ Hat
    iapply all_together; isplitl [Hopen]; · iapply hopen $$ Hopen
    iapply (Entails.of_eq (tokens (F := F) (fun x => dutyTok ER x.1 x.2.1 x.2.2))) $$ Htok
  · iexact HB

/-! ## The run -/

/-- What a device ends with. -/
def final (c : Dev nD) : sProp 𝕄 :=
  iprop(StableHlo.held (c : Thread nD τ) (Pipeline.ucRefs τ sig) (V3 m (outs m) c) ∗ semVal (bCell c) 0)

/-- What the last memory says of device `c`: its arguments are unchanged, and its result is what the last host operation makes
    of the kernel's. -/
def Ends (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_v31) = V3 m (outs m) c (Proc.devRef .tc main_v31)

set_option backward.isDefEq.respectTransparency.types false in
/-- From any memory with the counters at zero every fair run of the program on the four devices ends, with the arguments
    unchanged, the result in place and every counter at zero. -/
theorem run_main (ρ : Dev nD → PrngReg) : θ_run defs (onTc (τ := τ) (main (F := F))) ⟨m, fun _ => 0, ρ⟩
    (fun r => (∀ c : Dev nD, Ends m c r.2) ∧ r.2.sem = fun _ => 0) := by
  refine Pipeline.θ_run_regions_kit_dev_sems (pcfgs (F := F)) adm (pdats m) () cellOf_inj EP defs₀ 𝒱₀ L lv m ρ main
    (segs m (outs m) 𝒱₀ L lv (along m) () (pdats m) (region m))
    (fun c Q => by
      rewrite [main_chain c, Pipeline.Seg.run_eq_chain,
        show (segs m (outs m) 𝒱₀ L lv (along m) () (pdats m) (region m) c).map Pipeline.Seg.prog = [
          StableHlo.seq (hostOps0 c),
          Prog.lift (.customCall (Pipeline.entry 0) ()),
          StableHlo.seq hostOps1 ] from rfl]
      dsimp (config := { failIfUnchanged := false }) only
      exact BI.Entails.refl _)
    (fun c => by simp only [segs, Pipeline.Seg.pipes_host, Pipeline.Seg.pipes_region, Pipeline.Seg.pipes_nil]; decide)
    O₀ L_of_ne (onFirst pot) start₀ ?_
    (T₀ := fun c => iprop(StableHlo.held (c : Thread nD τ) (Pipeline.ucRefs τ sig) (V0 m c) ∗ along m 0 c))
    (Tₙ := final m)
    (hch := fun c => ⟨BI.Entails.refl _, region_pre m c, region_post m c, ?_⟩)
    (hinit := ?_) (QY := fun c s => Ends m c s ∧ s.sem (bCell c) = 0) (hfin := fun c s' => ?_)
    (hQ := fun s h hs => ⟨fun c => (h c).1, sem_eq_zero hs fun c sm hsm => by
      obtain rfl := unscoped_eq sm hsm
      exact (h c).2⟩)
  · unfold start₀
    iintro Hu
    ihave H := (ownU_pair _ _) $$ Hu
    icases H with ⟨HP, HX⟩
    imodintro
    isplitl [HP]; · iexact HP
    rw [bigSep_onFirst]; unfold pot; iexact HX
  · show iprop(StableHlo.held (c : Thread nD τ) (Pipeline.ucRefs τ sig) (V3 m (outs m) c)
      ∗ (semVal (bCell c) 0 ∗ ∃ W, owes (c : Thread nD τ) (0 : CellTallies nD τ sig Unit) W))
      ⊢ iprop((StableHlo.held (c : Thread nD τ) (Pipeline.ucRefs τ sig) (V3 m (outs m) c) ∗ semVal (bCell c) 0) ∗ ∃ W, owes (c : Thread nD τ) (0 : CellTallies nD τ sig Unit) W)
    iintro ⟨Hh, Hb, HO⟩
    isplitr [HO]
    · isplitl [Hh] <;> iassumption
    iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ onFirst pot c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ onFirst pot c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (share_out m ρ) $$ [Hr Hla] with HE
    · isplitl [Hr]; · iexact Hr
      iexact Hla
    imodintro
    rw [bigSep_sep']
    isplitl [Hh]; · iexact Hh
    iexact HE
  · unfold final StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c),
        (h (Proc.devRef .tc main_arg2) (Finset.mem_filter.mpr ⟨StableHlo.devRef_mem_tcRefs main_arg2, by decide⟩)).trans (V3_main_arg2 m (outs m) c),
        (h (Proc.devRef .tc main_arg3) (Finset.mem_filter.mpr ⟨StableHlo.devRef_mem_tcRefs main_arg3, by decide⟩)).trans (V3_main_arg3 m (outs m) c),
        (h (Proc.devRef .tc main_arg4) (Finset.mem_filter.mpr ⟨StableHlo.devRef_mem_tcRefs main_arg4, by decide⟩)).trans (V3_main_arg4 m (outs m) c),
        h (Proc.devRef .tc main_v31) (Finset.mem_filter.mpr ⟨StableHlo.devRef_mem_tcRefs main_v31, by decide⟩)⟩, by simpa using hb⟩
    · iexact HSI

end Cert.KernelIdealRun
-- ==== Proof.Value.Softmax.lean ====
/-
Masked attention of one query row, on the extended reals: the weight of a key is `exp` of its score where the
mask keeps it and 0 elsewhere, and the row's result is the weighted mean of the values. Here it is shown that
the textbook form (each score lowered by the row's greatest, the weights divided by their sum before they meet
the values) is that mean, for real scores and any values, infinite ones included.
-/
module

public import Idealize.ShloMosaic.PureOps.Ideal
public import Idealize.ShloMosaic.PureOps.Ideal.Laws

@[expose] public section

noncomputable section

namespace Cert.Value

open Idealize.ShloMosaic
open scoped BigOperators

/-- Query row `i` attends to key row `j`: they are within 128 rows of each other, or one of them is among the
    first 32 rows. -/
abbrev Keep (i j : Fin 2048) : Prop := (i.val ≤ j.val + 128 ∧ j.val ≤ i.val + 128) ∨ j.val < 32 ∨ i.val < 32

/-- A key's weight. -/
def weight (i : Fin 2048) (a : Fin 2048 → EReal) (j : Fin 2048) : EReal := if Keep i j then Ideal.exp (a j) else 0

/-- The weighted mean of the values `v`, the scores being `a`. -/
def mean (i : Fin 2048) (a v : Fin 2048 → EReal) : EReal :=
  Ideal.div (∑ j, weight i a j * v j) (∑ j, weight i a j)

/-- A score where the mask keeps it, −∞ elsewhere. -/
def masked (i : Fin 2048) (a : Fin 2048 → EReal) (j : Fin 2048) : EReal := if Keep i j then a j else ⊥

theorem keep_self (i : Fin 2048) : Keep i i := Or.inl ⟨by omega, by omega⟩

/-- A sum of reals, as an extended real, is the sum of them as extended reals. -/
theorem real_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A finite nonnegative factor comes out of a sum, whatever the terms. -/
theorem sum_mul_real {ι : Type} (s : Finset ι) (f : ι → EReal) (c : ℝ) (hc : 0 ≤ c) :
    ∑ j ∈ s, f j * (c : EReal) = (∑ j ∈ s, f j) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- The greatest of a row's masked scores is real when the scores are. -/
theorem fold_max_real (i : Fin 2048) (a : Fin 2048 → EReal) (r : Fin 2048 → ℝ) (ha : ∀ j, a j = (r j : EReal)) :
    ∃ μ : ℝ, Finset.univ.fold max ⊥ (masked i a) = (μ : EReal) := by
  have hb : Finset.univ.fold max ⊥ (masked i a) ≠ ⊥ := by
    refine ne_of_gt ((Finset.lt_fold_max _).mpr (Or.inr ⟨i, Finset.mem_univ _, ?_⟩))
    rw [masked, if_pos (keep_self i), ha]; exact EReal.bot_lt_coe _
  have ht : Finset.univ.fold max ⊥ (masked i a) ≠ ⊤ := by
    refine ne_of_lt ((Finset.fold_max_lt _).mpr ⟨bot_lt_top, fun j _ => ?_⟩)
    unfold masked
    split
    · rw [ha]; exact EReal.coe_lt_top _
    · exact bot_lt_top
  exact ⟨_, (EReal.coe_toReal ht hb).symm⟩

/-- A weight, for real scores, as a real number. -/
def realWeight (i : Fin 2048) (r : Fin 2048 → ℝ) (j : Fin 2048) : ℝ := if Keep i j then Real.exp (r j) else 0

theorem weight_real (i : Fin 2048) (a : Fin 2048 → EReal) (r : Fin 2048 → ℝ) (ha : ∀ j, a j = (r j : EReal))
    (j : Fin 2048) : weight i a j = (realWeight i r j : EReal) := by
  unfold weight realWeight
  split
  · rw [ha]; rfl
  · rfl

theorem realWeight_nonneg (i : Fin 2048) (r : Fin 2048 → ℝ) (j : Fin 2048) : 0 ≤ realWeight i r j := by
  unfold realWeight; split
  · exact (Real.exp_pos _).le
  · exact le_rfl

theorem realSum_pos (i : Fin 2048) (r : Fin 2048 → ℝ) : 0 < ∑ j, realWeight i r j :=
  Finset.sum_pos' (fun j _ => realWeight_nonneg i r j)
    ⟨i, Finset.mem_univ _, by rw [realWeight, if_pos (keep_self i)]; exact Real.exp_pos _⟩

/-- Lowering every score by the same real number multiplies every weight by the same factor. -/
theorem exp_masked_sub (i : Fin 2048) (a : Fin 2048 → EReal) (r : Fin 2048 → ℝ) (ha : ∀ j, a j = (r j : EReal))
    (μ : ℝ) (j : Fin 2048) : Ideal.exp (masked i a j - (μ : EReal)) = ((realWeight i r j * Real.exp (-μ) : ℝ) : EReal) := by
  unfold masked realWeight
  split
  · rw [ha, ← EReal.coe_sub, ← Real.exp_add, ← sub_eq_add_neg]; rfl
  · rw [EReal.bot_sub, zero_mul]; rfl

/-- The quotient of two reals, the divisor positive. -/
theorem div_real (x y : ℝ) (hy : 0 < y) : Ideal.div (x : EReal) (y : EReal) = ((x / y : ℝ) : EReal) := by
  rw [Ideal.div, if_neg (by exact_mod_cast hy.ne'), ← EReal.coe_inv, ← EReal.coe_mul, div_eq_mul_inv]

/-- A sum of reals, each multiplied into an extended real and divided by one positive real. -/
theorem textbook_eq_mean (i : Fin 2048) (a v : Fin 2048 → EReal) (r : Fin 2048 → ℝ) (ha : ∀ j, a j = (r j : EReal)) :
    ∑ j, v j * Ideal.div (Ideal.exp (masked i a j - Finset.univ.fold max ⊥ (masked i a)))
        (∑ k, Ideal.exp (masked i a k - Finset.univ.fold max ⊥ (masked i a))) = mean i a v := by
  obtain ⟨μ, hμ⟩ := fold_max_real i a r ha
  have hS := realSum_pos i r
  have hsum : ∑ k, Ideal.exp (masked i a k - (μ : EReal)) = (((∑ k, realWeight i r k) * Real.exp (-μ) : ℝ) : EReal) := by
    rw [Finset.sum_mul, real_sum]
    exact Finset.sum_congr rfl fun k _ => exp_masked_sub i a r ha μ k
  have hq : ∀ j, Ideal.div (Ideal.exp (masked i a j - (μ : EReal))) (∑ k, Ideal.exp (masked i a k - (μ : EReal)))
      = (realWeight i r j : EReal) * (((∑ k, realWeight i r k)⁻¹ : ℝ) : EReal) := fun j => by
    rw [hsum, exp_masked_sub i a r ha μ j, div_real _ _ (mul_pos hS (Real.exp_pos _)),
      mul_div_mul_right _ _ (Real.exp_pos _).ne', div_eq_mul_inv, EReal.coe_mul]
  rw [hμ]
  calc ∑ j, v j * Ideal.div (Ideal.exp (masked i a j - (μ : EReal))) (∑ k, Ideal.exp (masked i a k - (μ : EReal)))
      = ∑ j, (realWeight i r j : EReal) * v j * (((∑ k, realWeight i r k)⁻¹ : ℝ) : EReal) :=
        Finset.sum_congr rfl fun j _ => by rw [hq, ← mul_assoc, mul_comm (v j)]
    _ = (∑ j, (realWeight i r j : EReal) * v j) * (((∑ k, realWeight i r k)⁻¹ : ℝ) : EReal) :=
        sum_mul_real _ _ _ (inv_nonneg.mpr hS.le)
    _ = mean i a v := by
        unfold mean
        simp only [weight_real i a r ha]
        rw [← real_sum, Ideal.div, if_neg (by exact_mod_cast hS.ne'), EReal.coe_inv]

/-- A real factor on the queries is the same factor on the scores. -/
theorem score_scale {n : ℕ} (q k : Fin n → EReal) (s : ℝ) (hq : ∀ d, ∃ x : ℝ, q d = x) (hk : ∀ d, ∃ x : ℝ, k d = x) :
    ∑ d, q d * (s : EReal) * k d = (∑ d, q d * k d) * (s : EReal) := by
  choose q' hq using hq
  choose k' hk using hk
  simp only [hq, hk, ← EReal.coe_mul, ← real_sum, Finset.sum_mul]
  exact congrArg Real.toEReal (Finset.sum_congr rfl fun d _ => by ring)

/-- A sum of products of reals is real. -/
theorem dot_real {n : ℕ} (q k : Fin n → EReal) (hq : ∀ d, ∃ x : ℝ, q d = x) (hk : ∀ d, ∃ x : ℝ, k d = x) :
    ∃ x : ℝ, ∑ d, q d * k d = x := by
  choose q' hq using hq
  choose k' hk using hk
  exact ⟨∑ d, q' d * k' d, by simp only [hq, hk, ← EReal.coe_mul, ← real_sum]⟩

end Cert.Value
-- ==== Proof.Value.Host.lean ====
/-
What the kernel's host program hands to each device, at an index: its eight heads of the queries (the product
of the input with the device's columns of the projection), of the keys and of the values, and its rows of the
output weights; and what it makes of the kernel's result.
-/
module

public import proofs.«01_k».proof.Proof.KernelIdealRun.Region
public import Idealize.ShloMosaic.Lib.Pointwise
public import Idealize.ShloMosaic.Lib.StableHlo.ReadAt
public import Idealize.ShloMosaic.Lib.DynamicIndex

@[expose] public section

set_option maxRecDepth 16384

noncomputable section

namespace Cert.Value

open Cert.KernelIdeal Cert.KernelIdeal.Gen Cert.KernelIdealRun Idealize.ShloMosaic Idealize.ShloMosaic.TcCoe
open scoped BigOperators

variable (m : (ℓ : Loc nD τ sig) → Buf (Elt Ideal) ℓ)

/-- The five arguments a device is given: the input, the projection, the keys, the values, the output weights. -/
abbrev argX (c : Dev nD) : S1x2048x1024.Idx → EReal := m ((c.tc : Thread nD τ).loc main_arg0)
abbrev argQ (c : Dev nD) : S1024x4096.Idx → EReal := m ((c.tc : Thread nD τ).loc main_arg1)
abbrev argK (c : Dev nD) : S1x2048x8x128.Idx → EReal := m ((c.tc : Thread nD τ).loc main_arg2)
abbrev argV (c : Dev nD) : S1x2048x8x128.Idx → EReal := m ((c.tc : Thread nD τ).loc main_arg3)
abbrev argO (c : Dev nD) : S4096x1024.Idx → EReal := m ((c.tc : Thread nD τ).loc main_arg4)

/-- A device's column of the projections, which is also its row of the output weights: device `c`, head `t` of its
    eight, entry `d`. -/
abbrev col (c : Fin 4) (t : Fin 8) (d : Fin 128) : Fin 4096 := ⟨1024 * c.val + (t.val * 128 + d.val), by omega⟩

/-- The number the host program computes for a device's first row of the output weights, -/
theorem first_row (c : Dev nD) (W : Valuation τ sig (Elt Ideal)) (i : S_.Idx) :
    (StableHlo.upto (hostOps0 c) W 23 (Proc.devRef .tc main_v13) : S_.Idx → BitVec 32) i = BitVec.ofNat 32 (1024 * c.val) := by
  after_reads_simp
  rw [show i = ix0 from Subsingleton.elim _ _]
  clear W i
  revert c
  decide

/-- and for its first column of the projection. -/
theorem first_col (c : Dev nD) (W : Valuation τ sig (Elt Ideal)) (i : S_.Idx) :
    (StableHlo.upto (hostOps0 c) W 14 (Proc.devRef .tc main_v8) : S_.Idx → BitVec 32) i = BitVec.ofNat 32 (1024 * c.val) := by
  after_reads_simp
  rw [show i = ix0 from Subsingleton.elim _ _]
  clear W i
  revert c
  decide

/-- The other start is zero for both. -/
theorem zero_row (c : Dev nD) (W : Valuation τ sig (Elt Ideal)) (i : S_.Idx) :
    (StableHlo.upto (hostOps0 c) W 23 (Proc.devRef .tc main_c_8) : S_.Idx → BitVec 32) i = 0#32 := by
  after_reads_simp
  rfl

theorem zero_col (c : Dev nD) (W : Valuation τ sig (Elt Ideal)) (i : S_.Idx) :
    (StableHlo.upto (hostOps0 c) W 14 (Proc.devRef .tc main_c_4) : S_.Idx → BitVec 32) i = 0#32 := by
  after_reads_simp
  rfl

theorem first_toInt (c : Fin 4) : (BitVec.ofNat 32 (1024 * c.val)).toInt = ((1024 * c.val : ℕ) : ℤ) :=
  toInt_ofNat_of_lt (by omega)

theorem first_le (c : Fin 4) : 1024 * c.val + 1024 ≤ 4096 := by omega

theorem ins_k (c : Dev nD) (t : Fin 8) (i : Fin 2048) (d : Fin 128) :
    (ins m c).k (ix3 t i d) = argK m c (ix4 0 i t d) := by
  unfold ins V1 V0
  after_reads_at

theorem ins_v (c : Dev nD) (t : Fin 8) (i : Fin 2048) (d : Fin 128) :
    (ins m c).v (ix3 t i d) = argV m c (ix4 0 i t d) := by
  unfold ins V1 V0
  after_reads_at

theorem ins_wo (c : Dev nD) (t : Fin 8) (d : Fin 128) (n : Fin 1024) :
    (ins m c).wo (ix3 t d n) = argO m c (ix2 (col c t d) n) := by
  unfold ins V1 V0
  after_reads_at
  refine congrArg _ (congrArg₂ ix2 (Fin.ext ?_) (Fin.ext ?_))
  · exact congrArg (· + _) (Host.clampedStart_of_le _ _ _ (1024 * c.val)
      ((congrArg BitVec.toInt (first_row c _ _)).trans (first_toInt c)) (first_le c))
  · exact (congrArg (· + _) (Host.clampedStart_of_le _ _ _ 0
      (congrArg BitVec.toInt (zero_row c _ _)) (by decide))).trans (Nat.zero_add _)

theorem ins_q (c : Dev nD) (t : Fin 8) (i : Fin 2048) (d : Fin 128) :
    (ins m c).q (ix3 t i d) = ∑ e : Fin 1024, argX m c (ix3 0 i e)
      * argQ m c (ix2 e (col c t d)) := by
  unfold ins V1 V0
  after_reads_at
  refine Finset.sum_congr rfl fun e _ => congrArg₂ (· * ·) rfl (congrArg _ (congrArg₂ ix2 (Fin.ext ?_) (Fin.ext ?_)))
  · exact (congrArg (· + _) (Host.clampedStart_of_le _ _ _ 0
      (congrArg BitVec.toInt (zero_col c _ _)) (by decide))).trans (Nat.zero_add _)
  · exact congrArg (· + _) (Host.clampedStart_of_le _ _ _ (1024 * c.val)
      ((congrArg BitVec.toInt (first_col c _ _)).trans (first_toInt c)) (first_le c))

/-- What the program returns, on every device: the whole sum the devices made together. -/
theorem final (c : Dev nD) (i : Fin 2048) (n : Fin 1024) :
    (V3 m (outs m) c (Proc.devRef .tc main_v31) : S1x2048x1024.Idx → EReal) (ix3 0 i n) = whole (ins m) (ix2 i n) := by
  unfold V3
  after_reads_at
  rw [V2_result]
  unfold result
  pointwise [k0_pay76]

end Cert.Value
-- ==== Proof.Value.Finite.lean ====
/-
What the precondition says: every entry of the input, of the projection and of each device's keys is a real.
So is every product of a query and a key row, and every score.
-/
module

public import proofs.«01_k».proof.Defs
public import proofs.«01_k».proof.Proof.Value.Softmax
public import proofs.«01_k».proof.Proof.Value.Host
public import Idealize.ShloMosaic.Lib.ReduceAll

@[expose] public section

set_option maxRecDepth 16384

noncomputable section

namespace Cert.Value

open Idealize.ShloMosaic Idealize.ShloMosaic.TcCoe
open scoped BigOperators

/-- The side conditions of the precondition, printed for one device's arguments and for all of them together. -/
theorem pre_facts : Cert.Pre_finite_scores_KernelIdeal.Facts where
  bcast_S_S1x2048x1024 := by decide
  reducesTo_S1x2048x1024_S_d0_1_2 := by decide
  h_S_ := by decide
  bcast_S_S1024x4096 := by decide
  reducesTo_S1024x4096_S_d0_1 := by decide
  bcast_S_S1x2048x8x128 := by decide
  reducesTo_S1x2048x8x128_S_d0_1_2_3 := by decide

theorem pre_facts_whole : Cert.Pre_finite_scores_ReferenceIdeal.Facts where
  bcast_S_S1x2048x1024 := by decide
  reducesTo_S1x2048x1024_S_d0_1_2 := by decide
  h_S_ := by decide
  bcast_S_S1024x4096 := by decide
  reducesTo_S1024x4096_S_d0_1 := by decide
  bcast_S_S1x2048x32x128 := by decide
  reducesTo_S1x2048x32x128_S_d0_1_2_3 := by decide

/-- The absolute value of a value below +∞: it is a real. -/
theorem real_of_bit (a : EReal) (h : FloatOps.cmpf (F := Ideal) (φ := .f32) .olt (FloatOps.absf (F := Ideal) (φ := .f32) a) (Ideal.ofBits .f32 0x7F800000#32) = 1#1) :
    ∃ r : ℝ, a = r := by
  have ht : Ideal.ofBits .f32 0x7F800000#32 = (⊤ : EReal) := by simp [Ideal.ofBits, Ideal.ieee]
  rw [Ideal.cmpf_def, Ideal.absf_def, ht] at h
  have hlt : max a (-a) < (⊤ : EReal) := by
    by_contra hn
    simp [Ideal.cmp, hn] at h
  induction a using EReal.rec with
  | bot => simp at hlt
  | top => simp at hlt
  | coe r => exact ⟨r, rfl⟩

theorem pre_real [Cert.Pre_finite_scores_KernelIdeal.Facts] (m : (ℓ : Loc Cert.KernelIdeal.nD Cert.KernelIdeal.τ Cert.KernelIdeal.sig) → Buf (Elt Ideal) ℓ)
    (h : Pre_KernelIdeal_finite_scores_KernelIdeal m) (c : Dev Cert.KernelIdeal.nD) :
    (∀ i, ∃ r : ℝ, argX m c i = r) ∧ (∀ i, ∃ r : ℝ, argQ m c i = r) ∧ ∀ i, ∃ r : ℝ, argK m c i = r := by
  have h0 := congrFun (h c) ix0
  unfold Cert.Pre_finite_scores_KernelIdeal.fn at h0
  have h1 := IntOp.andi_eq_one.mp h0
  have h2 := IntOp.andi_eq_one.mp h1.1
  haveI : Subsingleton Cert.Pre_finite_scores_KernelIdeal.S_.Idx := inferInstance
  refine ⟨fun i => real_of_bit _ ?_, fun i => real_of_bit _ ?_, fun i => real_of_bit _ ?_⟩
  · exact Host.reduce_andi_all _ _ _ _ _ h2.1 i
  · exact Host.reduce_andi_all _ _ _ _ _ h2.2 i
  · exact Host.reduce_andi_all _ _ _ _ _ h1.2 i

end Cert.Value
-- ==== Proof.Value.Words.lean ====
/-
The masks, one bit at a time: the bit the reference computes says that the query row attends to the key row, and
the two bits the kernel computes for a block of 256 query rows (over a window of 512 key rows, and over the first
128) say when a key of the window, or one of the first keys, takes part.
-/
module

public import proofs.«01_k».proof.Proof.KernelIdealRun.Model
public import Idealize.ShloMosaic.Lib.Pointwise

@[expose] public section

noncomputable section

namespace Cert.Value

open Cert.KernelIdeal Cert.KernelIdeal.Gen Cert.KernelIdealRun Idealize.ShloMosaic

/-- The signed value of a word that stands for a small integer. -/
theorem toInt_small (z : ℤ) (h : -(2 ^ 20 : ℤ) ≤ z) (h' : z ≤ 2 ^ 20) : (BitVec.ofInt 32 z).toInt = z := by
  rw [BitVec.toInt_ofInt, Int.bmod_eq_of_le (by norm_num; omega) (by norm_num; omega)]

theorem ofNat_toInt (n : ℕ) (h : n ≤ 2 ^ 20) : (BitVec.ofNat 32 n).toInt = (n : ℤ) := by
  have := toInt_small (n : ℤ) (by omega) (by exact_mod_cast h)
  rwa [BitVec.ofInt_natCast] at this

/-- "The absolute value is at most 128", as a bit, of a word that stands for a small integer. -/
theorem near_bit (w : BitVec 32) (z : ℤ) (hw : w = BitVec.ofInt 32 z) (h : -(2 ^ 20 : ℤ) ≤ z) (h' : z ≤ 2 ^ 20) :
    IntOp.cmpi .sle (IntOp.absi w) 128#32 = BitVec.ofBool (decide (-128 ≤ z ∧ z ≤ 128)) := by
  have ht : w.toInt = z := by rw [hw]; exact toInt_small z h h'
  unfold IntOp.cmpi IntOp.absi
  refine congrArg BitVec.ofBool (Bool.eq_iff_iff.mpr ?_)
  rw [BitVec.sle_iff_toInt_le, decide_eq_true_iff, show (128#32).toInt = 128 from rfl, BitVec.msb_eq_toInt, ht]
  by_cases hz : z < 0
  · rw [if_pos (decide_eq_true hz)]
    have : (-w).toInt = -z := by
      rw [hw, ← BitVec.ofInt_neg]; exact toInt_small (-z) (by omega) (by omega)
    rw [this]; omega
  · rw [if_neg (by simpa using hz), ht]; omega

/-- "Less than 32", as a bit, of a word that stands for a small number. -/
theorem below_bit (n : ℕ) (h : n ≤ 2 ^ 20) :
    IntOp.cmpi .slt (BitVec.ofNat 32 n) 32#32 = BitVec.ofBool (decide (n < 32)) := by
  unfold IntOp.cmpi
  refine congrArg BitVec.ofBool (Bool.eq_iff_iff.mpr ?_)
  rw [BitVec.slt_iff_toInt_lt, ofNat_toInt n h, decide_eq_true_iff, show (32#32).toInt = 32 from rfl]; omega

theorem or_bit (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

theorem and_bit (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- Choosing by such a bit. -/
theorem select_bit {α : Type} (p : Prop) [Decidable p] (a b : α) :
    Scalar.select (BitVec.ofBool (decide p)) a b = if p then a else b := by
  by_cases hp : p <;> simp [hp, Scalar.select]

/-- The difference of two small numbers, as a word. -/
theorem sub_word (a b : ℕ) : IntOp.subi (BitVec.ofNat 32 a) (BitVec.ofNat 32 b) = BitVec.ofInt 32 ((a : ℤ) - b) := by
  unfold IntOp.subi
  rw [← BitVec.ofInt_natCast, ← BitVec.ofInt_natCast, BitVec.sub_eq_add_neg, ← BitVec.ofInt_neg, ← BitVec.ofInt_add, sub_eq_add_neg]

theorem add_word (z : ℤ) (n : ℕ) : IntOp.addi (BitVec.ofInt 32 z) (BitVec.ofNat 32 n) = BitVec.ofInt 32 (z + n) := by
  unfold IntOp.addi
  rw [← BitVec.ofInt_natCast, BitVec.ofInt_add]

/-- The word of the window's first row. -/
theorem winStart_eq (j : Fin 4) (b : Fin 2) : winStart (qword j b) = BitVec.ofNat 32 (lo j b) := by
  revert j b; decide

/-- The first query row's distance from the window's first row, as a word. -/
theorem offset_eq (j : Fin 4) (b : Fin 2) :
    Scalar.subi (Scalar.muli (qword j b) 256#32) (winStart (qword j b)) = BitVec.ofNat 32 (512 * j.val + 256 * b.val - lo j b) := by
  revert j b; decide

theorem lo_le_row (j : Fin 4) (b : Fin 2) : lo j b ≤ 512 * j.val + 256 * b.val := by unfold lo; omega

/-- The window's bit: the key is near the query, or among the first 32. -/
theorem winMask_at (j : Fin 4) (b : Fin 2) (r : Fin 256) (c : Fin 512) :
    winMask (qword j b) (ix2 r c) = BitVec.ofBool (decide
      ((512 * j.val + 256 * b.val + r.val ≤ lo j b + c.val + 128 ∧ lo j b + c.val ≤ 512 * j.val + 256 * b.val + r.val + 128)
        ∨ lo j b + c.val < 32)) := by
  pointwise [winMask]
  have hl := lo_le_row j b
  have hb := lo_le j b
  rw [offset_eq, winStart_eq, sub_word, add_word,
    near_bit _ _ rfl (by omega) (by omega),
    show IntOp.addi (BitVec.ofNat 32 (lo j b)) (BitVec.ofNat 32 c.val) = BitVec.ofNat 32 (lo j b + c.val) from (BitVec.ofNat_add _ _).symm,
    below_bit _ (by omega), or_bit]
  refine congrArg BitVec.ofBool (decide_eq_decide.mpr ?_)
  omega

/-- The bit of the first keys: one of the first 32, the block not being the first. -/
theorem headMask_at (j : Fin 4) (b : Fin 2) (r : Fin 256) (c : Fin 128) :
    headMask (qword j b) (ix2 r c) = BitVec.ofBool (decide (c.val < 32 ∧ 0 < 2 * j.val + b.val)) := by
  pointwise [headMask]
  have hw : Scalar.cmpi .sgt (qword j b) 0#32 = BitVec.ofBool (decide (0 < 2 * j.val + b.val)) := by revert j b; decide
  rw [hw, below_bit _ (by omega), and_bit]

end Cert.Value
-- ==== Proof.Value.Window.lean ====
/-
A sum over every key the mask keeps is a sum over the 512 keys of the window plus one over the first 128, each
with its own bit: outside the first 32 rows a query's near keys all lie in the window of its block, and the
first 32 keys are either in the window (for the first block) or counted apart (for every other block).
-/
module

public import proofs.«01_k».proof.Proof.Value.Softmax
public import proofs.«01_k».proof.Proof.Value.Words
public import Idealize.ShloMosaic.Lib.FinSumWindow

@[expose] public section

noncomputable section

namespace Cert.Value

open Cert.KernelIdealRun Idealize.ShloMosaic
open scoped BigOperators

/-- Row `r` of block `b` of chunk `j`, among the 2048 rows. -/
def row (j : Fin 4) (b : Fin 2) (r : Fin 256) : Fin 2048 := ⟨512 * j.val + 256 * b.val + r.val, by omega⟩

/-- The bit of key `c` of the window. -/
abbrev InWin (j : Fin 4) (b : Fin 2) (r : Fin 256) (c : Fin 512) : Prop :=
  (512 * j.val + 256 * b.val + r.val ≤ lo j b + c.val + 128 ∧ lo j b + c.val ≤ 512 * j.val + 256 * b.val + r.val + 128)
    ∨ lo j b + c.val < 32

/-- The bit of key `c` of the first keys. -/
abbrev InHead (j : Fin 4) (b : Fin 2) (c : Fin 128) : Prop := c.val < 32 ∧ 0 < 2 * j.val + b.val

/-- Key `c` of the window, among the 2048 rows. -/
def winKey (j : Fin 4) (b : Fin 2) (c : Fin 512) : Fin 2048 := ⟨lo j b + c.val, by have := lo_le j b; omega⟩

/-- Key `c` of the first keys, among the 2048 rows. -/
def headKey (c : Fin 128) : Fin 2048 := ⟨c.val, by omega⟩

theorem window_sum (j : Fin 4) (b : Fin 2) (r : Fin 256) (hr : 32 ≤ (row j b r).val) (f : Fin 2048 → EReal) :
    (∑ c : Fin 512, if InWin j b r c then f (winKey j b c) else 0) + (∑ c : Fin 128, if InHead j b c then f (headKey c) else 0)
      = ∑ k, if Keep (row j b r) k then f k else 0 := by
  have hl := lo_le j b
  let A : Fin 2048 → Prop := fun k => (lo j b ≤ k.val ∧ k.val < lo j b + 512)
    ∧ ((512 * j.val + 256 * b.val + r.val ≤ k.val + 128 ∧ k.val ≤ 512 * j.val + 256 * b.val + r.val + 128) ∨ k.val < 32)
  let B : Fin 2048 → Prop := fun k => k.val < 32 ∧ 0 < 2 * j.val + b.val
  have e1 : (∑ c : Fin 512, if InWin j b r c then f (winKey j b c) else 0) = ∑ k, if A k then f k else 0 := by
    rw [FinSumWindow.sum_window (lo j b) hl (fun k => if A k then f k else 0) fun P hP => if_neg fun h => hP h.1]
    refine Finset.sum_congr rfl fun c _ => ?_
    have : InWin j b r c ↔ A (winKey j b c) := by
      show _ ↔ (lo j b ≤ lo j b + c.val ∧ lo j b + c.val < lo j b + 512) ∧ _
      exact ⟨fun h => ⟨by omega, h⟩, fun h => h.2⟩
    exact if_congr this rfl rfl
  have e2 : (∑ c : Fin 128, if InHead j b c then f (headKey c) else 0) = ∑ k, if B k then f k else 0 := by
    rw [FinSumWindow.sum_window (W := 128) 0 (by omega) (fun k => if B k then f k else 0) fun P hP => if_neg fun h : P.val < 32 ∧ _ => hP (by omega)]
    refine Finset.sum_congr rfl fun c _ => ?_
    have hc : (⟨0 + c.val, by omega⟩ : Fin 2048) = headKey c := Fin.ext (Nat.zero_add _)
    simp only [hc]
    exact if_congr Iff.rfl rfl rfl
  rw [e1, e2, ← Finset.sum_add_distrib]
  refine Finset.sum_congr rfl fun k _ => ?_
  have hv : (row j b r).val = 512 * j.val + 256 * b.val + r.val := rfl
  have hlo : lo j b = 128 * min 12 (2 * (2 * j.val + b.val) - 1) := rfl
  have hdisj : ¬(A k ∧ B k) := by
    rintro ⟨⟨⟨h1, _⟩, _⟩, h3, h4⟩; omega
  have hkeep : Keep (row j b r) k ↔ A k ∨ B k := by
    show ((row j b r).val ≤ k.val + 128 ∧ k.val ≤ (row j b r).val + 128) ∨ k.val < 32 ∨ (row j b r).val < 32 ↔
      ((lo j b ≤ k.val ∧ k.val < lo j b + 512) ∧ ((512 * j.val + 256 * b.val + r.val ≤ k.val + 128 ∧ k.val ≤ 512 * j.val + 256 * b.val + r.val + 128) ∨ k.val < 32))
        ∨ (k.val < 32 ∧ 0 < 2 * j.val + b.val)
    omega
  by_cases ha : A k
  · rw [if_pos ha, if_neg fun hb => hdisj ⟨ha, hb⟩, if_pos (hkeep.mpr (Or.inl ha)), add_zero]
  · by_cases hb : B k
    · rw [if_neg ha, if_pos hb, if_pos (hkeep.mpr (Or.inr hb)), zero_add]
    · rw [if_neg ha, if_neg hb, if_neg fun h => (hkeep.mp h).elim ha hb, add_zero]

end Cert.Value
-- ==== Proof.Value.Device.lean ====
/-
What one device computes, row by row and column by column: the sum over its eight heads, and over the 128
columns of each head's context, of the weighted mean of the values times the output weight.
-/
module

public import proofs.«01_k».proof.Proof.Value.Window
public import Idealize.ShloMosaic.PureOps.IdealRules

@[expose] public section

noncomputable section

namespace Cert.Value

open Cert.KernelIdeal Cert.KernelIdeal.Gen Cert.KernelIdealRun Idealize.ShloMosaic
open scoped BigOperators

/-- The factor on the scores. -/
def scaleR : ℝ := 11863283 / 134217728

theorem named_s : (Named.named κ "s" 0x3DB5#16 : Ideal .bf16) = (scaleR : EReal) :=
  IdealRules.named_const.ideal_named_scalar _ _ _ _ rfl

theorem named_mask : (Named.named κ "mask" 0xCE6E#16 : Ideal .bf16) = (⊥ : EReal) :=
  IdealRules.named_const.ideal_named_scalar _ _ _ _ rfl

/-- Head `t`'s score of query row `i` against key row `k`. -/
def devScore (I : Ins Ideal) (t : Fin 8) (i k : Fin 2048) : EReal :=
  ∑ d : Fin 128, I.q (ix3 t i d) * (scaleR : EReal) * I.k (ix3 t k d)

/-- Column `d` of head `t`'s context at query row `i`. -/
def devMean (I : Ins Ideal) (t : Fin 8) (i : Fin 2048) (d : Fin 128) : EReal :=
  mean i (devScore I t i) fun k => I.v (ix3 t k d)

/-- One head's share of the device's result. -/
def devHead (I : Ins Ideal) (i : Fin 2048) (n : Fin 1024) (t : Fin 8) : EReal :=
  ∑ d : Fin 128, devMean I t i d * I.wo (ix3 t d n)

/-- The device's result. -/
def devOut (I : Ins Ideal) (i : Fin 2048) (n : Fin 1024) : EReal := ∑ t : Fin 8, devHead I i n t

/-- The weight of a key left out is zero. -/
theorem exp_select (p : Prop) [Decidable p] (x : EReal) : Ideal.exp (if p then x else ⊥) = if p then Ideal.exp x else 0 := by
  split <;> rfl

theorem ite_mul_right (p : Prop) [Decidable p] (x y : EReal) : (if p then x else 0) * y = if p then x * y else 0 := by
  split
  · rfl
  · exact zero_mul y

/-- The context of a block's row past the first 32. -/
theorem ctx_at (I : Ins Ideal) (j : Fin 4) (b : Fin 2) (t : Fin 8) (r : Fin 256) (d : Fin 128) (hr : 32 ≤ (row j b r).val) :
    ctx I j b t (ix2 r d) = devMean I t (row j b r) d := by
  unfold ctx devMean mean weight
  pointwise [k0_pay1, cut]
  simp only [winMask_at, headMask_at, select_bit, named_s, named_mask, exp_select, ite_mul_right]
  rw [← window_sum j b r hr, ← window_sum j b r hr]
  rfl

/-- One of the first 32 rows reaches every key. -/
theorem top_keep (r : Fin 32) (k : Fin 2048) : Keep ⟨r.val, by omega⟩ k := Or.inr (Or.inr r.isLt)

theorem heads_at (I : Ins Ideal) (j : Fin 4) (b : Fin 2) (r : Fin 256) (n : Fin 1024) (hr : 32 ≤ (row j b r).val) :
    ∀ N : ℕ, ∀ hN : N ≤ 8, heads I j b N (ix2 r n) = ∑ t : Fin N, devHead I (row j b r) n ⟨t.val, by omega⟩ := fun N => by
  induction N with
  | zero => intro _; unfold heads; pointwise [k0_pay13]; simp
  | succ N ih =>
    intro hN
    rw [heads, dif_pos (by omega), Fin.sum_univ_castSucc]
    change _ = (∑ t : Fin N, devHead I (row j b r) n ⟨t.val, by omega⟩) + devHead I (row j b r) n ⟨N, by omega⟩
    rw [← ih (by omega)]
    unfold headAdd
    pointwise [k0_pay14, cut]
    exact congrArg _ (Finset.sum_congr rfl fun d _ => by rw [ctx_at I j b _ r d hr])

theorem blk_at (I : Ins Ideal) (j : Fin 4) (b : Fin 2) (r : Fin 256) (n : Fin 1024) (hr : 32 ≤ (row j b r).val) :
    blk I j b (ix2 r n) = devOut I (row j b r) n := by
  unfold blk
  pointwise [k0_pay15]
  exact heads_at I j b r n hr 8 le_rfl

theorem tops_at (I : Ins Ideal) (r : Fin 32) (n : Fin 1024) :
    ∀ N : ℕ, ∀ hN : N ≤ 8, tops I N (ix2 r n) = ∑ t : Fin N, devHead I ⟨r.val, by omega⟩ n ⟨t.val, by omega⟩ := fun N => by
  induction N with
  | zero => intro _; unfold tops; pointwise [k0_pay23]; simp
  | succ N ih =>
    intro hN
    rw [tops, dif_pos (by omega), Fin.sum_univ_castSucc]
    change _ = (∑ t : Fin N, devHead I ⟨r.val, by omega⟩ n ⟨t.val, by omega⟩) + devHead I ⟨r.val, by omega⟩ n ⟨N, by omega⟩
    rw [← ih (by omega)]
    unfold topAdd
    pointwise [k0_pay24, cut]
    refine congrArg _ (Finset.sum_congr rfl fun d _ => ?_)
    unfold devMean mean weight
    simp only [named_s, if_pos (top_keep r _)]
    rfl

theorem top_at (I : Ins Ideal) (r : Fin 32) (n : Fin 1024) : top I (ix2 r n) = devOut I ⟨r.val, by omega⟩ n := by
  unfold top
  pointwise [k0_pay25]
  exact tops_at I r n 8 le_rfl

theorem at2_eq {m n : ℕ} (a : Fin m) (b : Fin n) : (at2 a b : Shape.Idx ⟨2, ![m, n]⟩) = ix2 a b := eq_ix2 _

/-- A row of a chunk. -/
theorem chunk_at (I : Ins Ideal) (j : Fin 4) (r : Fin 512) (n : Fin 1024) :
    chunk I j r n = devOut I ⟨512 * j.val + r.val, by omega⟩ n := by
  unfold chunk
  split
  next h =>
    rw [at2_eq, top_at]
    exact congrArg (devOut I · n) (Fin.ext (by obtain ⟨rfl, _⟩ := h; simp))
  next h =>
    have hj : j = 0 ↔ j.val = 0 := Fin.ext_iff
    rw [hj] at h
    split
    next h' =>
      rw [at2_eq, blk_at I j 0 ⟨r.val, h'⟩ n (show 32 ≤ 512 * j.val + 256 * 0 + r.val by omega)]
      exact congrArg (devOut I · n) (Fin.ext (show 512 * j.val + 256 * 0 + r.val = 512 * j.val + r.val by omega))
    next h' =>
      rw [at2_eq, blk_at I j 1 ⟨r.val - 256, by omega⟩ n (show 32 ≤ 512 * j.val + 256 * 1 + (r.val - 256) by omega)]
      exact congrArg (devOut I · n) (Fin.ext (show 512 * j.val + 256 * 1 + (r.val - 256) = 512 * j.val + r.val by omega))

/-! ## The sum over the four devices -/

theorem part_at (I : Ins Ideal) (j : Fin 4) (h : Fin 2) (r c : Fin 512) :
    Cert.KernelIdealRun.part I j h (ix2 r c) = devOut I ⟨512 * j.val + r.val, by omega⟩ ⟨512 * h.val + c.val, by omega⟩ :=
  chunk_at I j r _

/-- Going back round the ring from a device, four steps meet every device once. -/
theorem four_devices (f : Dev nD → EReal) (h : Fin 2) (j : Fin 4) :
    f (bwd h j) + (f (bwd h (bwd h j)) + (f (bwd h (bwd h (bwd h j))) + f j)) = ∑ e : Fin 4, f e := by
  have hb : ∀ h j, Function.Bijective (![bwd h j, bwd h (bwd h j), bwd h (bwd h (bwd h j)), j] : Fin 4 → Dev nD) := by decide
  rw [← Equiv.sum_comp (Equiv.ofBijective _ (hb h j)) f, Fin.sum_univ_four, add_assoc, add_assoc]
  rfl

/-- A finished half of a chunk is the sum of the four devices' parts. -/
theorem tot_at (I : Dev nD → Ins Ideal) (h : Fin 2) (j : Fin 4) (r c : Fin 512) :
    tot I h j (ix2 r c) = ∑ e : Fin 4, devOut (I e) ⟨512 * j.val + r.val, by omega⟩ ⟨512 * h.val + c.val, by omega⟩ := by
  have hback : (bwd h)^[3] (bwd h j) = j ∧ (bwd h)^[2] (bwd h (bwd h j)) = j ∧ (bwd h)^[1] (bwd h (bwd h (bwd h j))) = j
      ∧ bwd h (bwd h (bwd h (bwd h j))) = j := by revert h j; decide
  obtain ⟨b1, b2, b3, b4⟩ := hback
  have hacc : tot I h j (ix2 r c) = Cert.KernelIdealRun.part (I (bwd h j)) j h (ix2 r c)
      + (Cert.KernelIdealRun.part (I (bwd h (bwd h j))) j h (ix2 r c)
        + (Cert.KernelIdealRun.part (I (bwd h (bwd h (bwd h j)))) j h (ix2 r c) + Cert.KernelIdealRun.part (I j) j h (ix2 r c))) := by
    unfold tot
    rw [acc, acc, acc, acc, b1, b2, b3, b4]
    rfl
  rw [hacc]
  simp only [part_at]
  generalize (⟨512 * j.val + r.val, _⟩ : Fin 2048) = i
  generalize (⟨512 * h.val + c.val, _⟩ : Fin 1024) = n
  exact four_devices (fun e => devOut (I e) i n) h j

/-- An element of the whole result. -/
theorem whole_at (I : Dev nD → Ins Ideal) (i : Fin 2048) (n : Fin 1024) : whole I (ix2 i n) = ∑ e : Fin 4, devOut (I e) i n := by
  unfold whole
  rw [at2_eq, tot_at]
  exact Finset.sum_congr rfl fun e _ => congrArg₂ (devOut (I e))
    (Fin.ext (show 512 * (i.val / 512) + i.val % 512 = i.val from Nat.div_add_mod _ _))
    (Fin.ext (show 512 * (n.val / 512) + n.val % 512 = n.val from Nat.div_add_mod _ _))

end Cert.Value
-- ==== Proof.Value.Reference.lean ====
/-
What the reference returns, at an index: for every entry of every head the weighted mean of the values, times
the output weights, all summed. The scores have to be real: of an infinite one the softmax is no longer a mean.
-/
module

public import proofs.«01_k».proof.Proof.Gen.ReferenceIdeal.Run
public import proofs.«01_k».proof.Proof.Value.Softmax
public import proofs.«01_k».proof.Proof.Value.Words
public import proofs.«01_k».proof.Proof.Value.Device
public import Idealize.ShloMosaic.Lib.Tactic.CleanTypes

@[expose] public section

set_option maxRecDepth 16384

noncomputable section

namespace Cert.Value

open Cert.ReferenceIdeal Cert.ReferenceIdeal.Gen Idealize.ShloMosaic Idealize.ShloMosaic.TcCoe
open scoped BigOperators

/-- The reference's bit of a query row and a key row says that the one attends to the other. -/
theorem keep_bit (i j : Fin 2048) :
    IntOp.ori (IntOp.cmpi .sle (IntOp.absi (IntOp.subi (BitVec.ofNat 32 i.val) (BitVec.ofNat 32 j.val))) 128#32)
      (IntOp.ori (IntOp.cmpi .slt (BitVec.ofNat 32 j.val) 32#32) (IntOp.cmpi .slt (BitVec.ofNat 32 i.val) 32#32))
      = BitVec.ofBool (decide (Keep i j)) := by
  rw [near_bit _ _ (sub_word i.val j.val) (by omega) (by omega), below_bit _ (by omega), below_bit _ (by omega), or_bit, or_bit]
  refine congrArg BitVec.ofBool (decide_eq_decide.mpr (or_congr_left ?_))
  omega

/-- Some key is kept as soon as one of the bits that are joined is set. -/
theorem fold_or_one {ι : Type} (s : Finset ι) (p : ι → BitVec 1) (a : ι) (ha : a ∈ s) (h : p a = 1#1) :
    s.fold IntOp.ori (0#1) p = 1#1 := by
  classical
  rw [← Finset.insert_erase ha, Finset.fold_insert (Finset.notMem_erase a s), h]
  generalize Finset.fold IntOp.ori (0#1) p (s.erase a) = w
  revert w; decide

theorem row_bit (i : Fin 2048) :
    Finset.univ.fold IntOp.ori (0#1) (fun j => BitVec.ofBool (decide (Keep i j))) = 1#1 :=
  fold_or_one _ _ i (Finset.mem_univ i) (by rw [decide_eq_true (keep_self i)]; rfl)

theorem select_one {α : Type} (a b : α) : Scalar.select 1#1 a b = a := rfl

theorem low_bits : Ideal.ofBits .f32 4286578688#32 = (⊥ : EReal) := by
  simp [Ideal.ofBits, Ideal.ieee]

theorem scale_bits : Ideal.ofBits .f32 1035273459#32 = (scaleR : EReal) := by
  simp [Ideal.ofBits, Ideal.ieee, scaleR, -EReal.coe_mul]; norm_num

/-! ## The reference's arrays, step by step -/

/-- Which key rows a query row attends to, and whether it attends to any. -/
def keepV : IVec S2048x2048 1 :=
  ori (cmpi .sle (absi (subi
      (broadcastInDim S2048x2048 ![0, 1] bcast_S2048x1_S2048x2048_0_1 (broadcastInDim S2048x1 ![0] bcast_S2048_S2048x1_0 (iotaInDim S2048 32 0)))
      (broadcastInDim S2048x2048 ![0, 1] bcast_S1x2048_S2048x2048_0_1 (broadcastInDim S1x2048 ![1] bcast_S2048_S1x2048_1 (iotaInDim S2048 32 0)))))
    (broadcastInDim S2048x2048 ![] bcast_S_S2048x2048 (constantI S_ 32 128#32)))
  (ori (broadcastInDim S2048x2048 ![0, 1] bcast_S1x2048_S2048x2048_0_1 (cmpi .slt
      (broadcastInDim S1x2048 ![1] bcast_S2048_S1x2048_1 (iotaInDim S2048 32 0)) (broadcastInDim S1x2048 ![] bcast_S_S1x2048 (constantI S_ 32 32#32))))
    (broadcastInDim S2048x2048 ![0, 1] bcast_S2048x1_S2048x2048_0_1 (cmpi .slt
      (broadcastInDim S2048x1 ![0] bcast_S2048_S2048x1_0 (iotaInDim S2048 32 0)) (broadcastInDim S2048x1 ![] bcast_S_S2048x1 (constantI S_ 32 32#32)))))

def anyV : IVec S2048 1 := Host.reduce IntOp.ori keepV (constantI S_ 1 0#1) reducesTo_S2048x2048_S2048_d1 h_S_

theorem keepV_at (i j : Fin 2048) : keepV (ix2 i j) = BitVec.ofBool (decide (Keep i j)) := by
  pointwise [keepV]
  exact keep_bit i j

theorem anyV_at (i : Fin 2048) : anyV (ix1 i) = 1#1 := by
  pointwise [anyV]
  simp only [keepV_at]
  exact row_bit i

variable (X : FVec Ideal S1x2048x1024 .f32) (Q : FVec Ideal S1024x4096 .f32) (K V : FVec Ideal S1x2048x32x128 .f32)
  (O : FVec Ideal S4096x1024 .f32)

/-- The scores; the scores of the keys that are kept; their exponentials, each row lowered by its greatest. -/
def scoreV : FVec Ideal S1x32x2048x2048 .f32 :=
  mulf (Host.dotGeneral dot_S1x2048x32x128_S1x2048x32x128_S1x32x2048x2048_3_3_1_1_02_02 none
      (shapeCast _ (Host.dotGeneral dot_S1x2048x1024_S1024x4096_S1x2048x4096_2_0_01_1_n_n none X Q) shapeCasts_S1x2048x4096_S1x2048x32x128) K)
    (broadcastInDim S1x32x2048x2048 ![] bcast_S_S1x32x2048x2048 (constant S_ .f32 0x3DB504F3#32))

def keptV : FVec Ideal S1x32x2048x2048 .f32 :=
  select (broadcastInDim S1x32x2048x2048 ![0, 1, 2, 3] bcast_S1x1x2048x2048_S1x32x2048x2048_0_1_2_3
      (broadcastInDim S1x1x2048x2048 ![2, 3] bcast_S2048x2048_S1x1x2048x2048_2_3 keepV))
    (scoreV X Q K) (broadcastInDim S1x32x2048x2048 ![] bcast_S_S1x32x2048x2048 (id (constant S_ .f32 0xFF800000#32)))

def greatestV : FVec Ideal S1x32x2048 .f32 :=
  Host.reduce FloatOps.maximumf (keptV X Q K) (constant S_ .f32 0xFF800000#32) reducesTo_S1x32x2048x2048_S1x32x2048_d3 h_S_

def expV : FVec Ideal S1x32x2048x2048 .f32 :=
  Host.exp (subf (keptV X Q K) (broadcastInDim S1x32x2048x2048 ![0, 1, 2, 3] bcast_S1x32x2048x1_S1x32x2048x2048_0_1_2_3
    (broadcastInDim S1x32x2048x1 ![0, 1, 2] bcast_S1x32x2048_S1x32x2048x1_0_1_2 (greatestV X Q K))))

/-- The sum of a row's exponentials, the weights, and the result. -/
def totalV : FVec Ideal S1x32x2048x1 .f32 :=
  select (broadcastInDim S1x32x2048x1 ![0, 1, 2, 3] bcast_S1x1x2048x1_S1x32x2048x1_0_1_2_3
      (broadcastInDim S1x1x2048x1 ![2] bcast_S2048_S1x1x2048x1_2 anyV))
    (broadcastInDim S1x32x2048x1 ![0, 1, 2] bcast_S1x32x2048_S1x32x2048x1_0_1_2
      (Host.reduceAdd (expV X Q K) (constant S_ .f32 0x00000000#32) reducesTo_S1x32x2048x2048_S1x32x2048_d3 h_S_))
    (broadcastInDim S1x32x2048x1 ![] bcast_S_S1x32x2048x1 (id (constant S_ .f32 0x3F800000#32)))

def ratioV (E : FVec Ideal S1x32x2048x2048 .f32) (T : FVec Ideal S1x32x2048x1 .f32) : FVec Ideal S1x32x2048x2048 .f32 :=
  Host.divf E (broadcastInDim S1x32x2048x2048 ![0, 1, 2, 3] bcast_S1x32x2048x1_S1x32x2048x2048_0_1_2_3 T)

def chosenV (P : IVec S2048 1) (R : FVec Ideal S1x32x2048x2048 .f32) : FVec Ideal S1x32x2048x2048 .f32 :=
  select (broadcastInDim S1x32x2048x2048 ![0, 1, 2, 3] bcast_S1x1x2048x1_S1x32x2048x2048_0_1_2_3
      (broadcastInDim S1x1x2048x1 ![2] bcast_S2048_S1x1x2048x1_2 P))
    R (broadcastInDim S1x32x2048x2048 ![] bcast_S_S1x32x2048x2048 (id (constant S_ .f32 0x00000000#32)))

def weightV : FVec Ideal S1x32x2048x2048 .f32 := chosenV anyV (ratioV (expV X Q K) (totalV X Q K))

def contextV : FVec Ideal S1x32x128x2048 .f32 :=
  Host.dotGeneral dot_S1x2048x32x128_S1x32x2048x2048_S1x32x128x2048_1_3_3_2_02_01 none V (weightV X Q K)

def resultV : FVec Ideal S1x2048x1024 .f32 :=
  Host.dotGeneral dot_S1x2048x4096_S4096x1024_S1x2048x1024_2_0_01_1_n_n none
    (shapeCast _ (transpose S1x2048x32x128 [0, 3, 1, 2] (contextV X Q K V) transposes_S1x32x128x2048_S1x2048x32x128_0_3_1_2)
      shapeCasts_S1x2048x32x128_S1x2048x4096) O

/-! ## The same at an index -/

/-- The column of a head's entry, the head a column belongs to, and its place there. -/
abbrev colOf (g : Fin 32) (d : Fin 128) : Fin 4096 := ⟨g.val * 128 + d.val, by omega⟩
abbrev headOf (x : Fin 4096) : Fin 32 := ⟨x.val / 128, by omega⟩
abbrev entryOf (x : Fin 4096) : Fin 128 := ⟨x.val % 128, by omega⟩

/-- The product of a query and a key row in a head, before and after the scale. -/
def refDot (g : Fin 32) (i j : Fin 2048) : EReal :=
  ∑ d : Fin 128, (∑ e : Fin 1024, X (ix3 0 i e) * Q (ix2 e (colOf g d))) * K (ix4 0 j g d)
def refScore (g : Fin 32) (i j : Fin 2048) : EReal := refDot X Q K g i j * (scaleR : EReal)

theorem scoreV_at (g : Fin 32) (i j : Fin 2048) : scoreV X Q K (ix4 0 g i j) = refScore X Q K g i j := by
  pointwise [scoreV]
  rw [scale_bits]
  rfl

theorem keptV_at (g : Fin 32) (i j : Fin 2048) : keptV X Q K (ix4 0 g i j) = masked i (refScore X Q K g i) j := by
  pointwise [keptV]
  rw [keepV_at, select_bit, scoreV_at]
  exact congrArg (fun b => if Keep i j then refScore X Q K g i j else b) low_bits

theorem greatestV_at (g : Fin 32) (i : Fin 2048) :
    greatestV X Q K (ix3 0 g i) = Finset.univ.fold max ⊥ (masked i (refScore X Q K g i)) := by
  pointwise [greatestV]
  simp only [keptV_at, low_bits]

theorem expV_at (g : Fin 32) (i j : Fin 2048) : expV X Q K (ix4 0 g i j)
    = Ideal.exp (masked i (refScore X Q K g i) j - Finset.univ.fold max ⊥ (masked i (refScore X Q K g i))) := by
  pointwise [expV]
  rw [keptV_at, greatestV_at]

theorem totalV_at (g : Fin 32) (i : Fin 2048) : totalV X Q K (ix4 0 g i 0)
    = ∑ k, Ideal.exp (masked i (refScore X Q K g i) k - Finset.univ.fold max ⊥ (masked i (refScore X Q K g i))) := by
  pointwise [totalV]
  simp only [anyV_at, select_one, expV_at]

theorem ratioV_at (E : FVec Ideal S1x32x2048x2048 .f32) (T : FVec Ideal S1x32x2048x1 .f32) (g : Fin 32) (i j : Fin 2048) :
    ratioV E T (ix4 0 g i j) = Ideal.div (E (ix4 0 g i j)) (T (ix4 0 g i 0)) := by
  pointwise [ratioV]

theorem chosenV_at (P : IVec S2048 1) (R : FVec Ideal S1x32x2048x2048 .f32) (g : Fin 32) (i j : Fin 2048) (h : P (ix1 i) = 1#1) :
    chosenV P R (ix4 0 g i j) = R (ix4 0 g i j) := by
  pointwise [chosenV]
  rw [h, select_one]

theorem weightV_at (g : Fin 32) (i j : Fin 2048) : weightV X Q K (ix4 0 g i j)
    = Ideal.div (Ideal.exp (masked i (refScore X Q K g i) j - Finset.univ.fold max ⊥ (masked i (refScore X Q K g i))))
      (∑ k, Ideal.exp (masked i (refScore X Q K g i) k - Finset.univ.fold max ⊥ (masked i (refScore X Q K g i)))) :=
  (chosenV_at anyV _ g i j (anyV_at i)).trans
    ((ratioV_at _ _ g i j).trans (congrArg₂ Ideal.div (expV_at X Q K g i j) (totalV_at X Q K g i)))

theorem contextV_at (g : Fin 32) (d : Fin 128) (i : Fin 2048) (h : ∀ j, ∃ r : ℝ, refScore X Q K g i j = r) :
    contextV X Q K V (ix4 0 g d i) = mean i (refScore X Q K g i) fun j => V (ix4 0 j g d) := by
  pointwise [contextV]
  choose r hr using h
  rw [← textbook_eq_mean i (refScore X Q K g i) _ r hr]
  exact Finset.sum_congr rfl fun j _ => congrArg _ (weightV_at X Q K g i j)

theorem resultV_at (i : Fin 2048) (n : Fin 1024) (h : ∀ g j, ∃ r : ℝ, refScore X Q K g i j = r) :
    resultV X Q K V O (ix3 0 i n)
      = ∑ x : Fin 4096, mean i (refScore X Q K (headOf x) i) (fun j => V (ix4 0 j (headOf x) (entryOf x))) * O (ix2 x n) := by
  pointwise [resultV]
  exact Finset.sum_congr rfl fun x _ => congrArg (· * O (ix2 x n)) (contextV_at X Q K V (headOf x) (entryOf x) i (h (headOf x)))

/-- The array the program is shown to return is this one. -/
theorem res_eq (m : (ℓ : Loc nD τ sig) → Buf (Elt Ideal) ℓ) (c : Dev nD) :
    Cert.ReferenceIdeal.Value.res_main_v42 m c = resultV (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Cert.ReferenceIdeal.Value.res_main_v42 resultV contextV weightV chosenV ratioV totalV expV greatestV keptV scoreV anyV keepV
  rfl

end Cert.Value
-- ==== Proof.Value.Equal.lean ====
/-
The kernel's result is the reference's: device `e` of four, head `t` of its eight is head `8 e + t` of the
thirty-two; the scale may be multiplied into the query or into the score, the scores being real; and the sum over
devices, heads and entries is the sum over the columns.
-/
module

public import proofs.«01_k».proof.Proof.Value.Finite
public import proofs.«01_k».proof.Proof.Value.Device
public import proofs.«01_k».proof.Proof.Value.Reference
public import Idealize.ShloMosaic.Lib.LayoutAt

@[expose] public section

set_option maxRecDepth 16384

noncomputable section

namespace Cert.Value

open Cert.KernelIdeal Cert.KernelIdeal.Gen Cert.KernelIdealRun Idealize.ShloMosaic Idealize.ShloMosaic.TcCoe
open scoped BigOperators

/-- Device `e`'s head `t`, among all of them. -/
abbrev head (e : Fin 4) (t : Fin 8) : Fin 32 := ⟨e.val * 8 + t.val, by omega⟩

theorem colOf_head (e : Fin 4) (t : Fin 8) (d : Fin 128) : colOf (head e t) d = col e t d := Fin.ext (by
  show (e.val * 8 + t.val) * 128 + d.val = 1024 * e.val + (t.val * 128 + d.val); omega)
theorem headOf_col (e : Fin 4) (t : Fin 8) (d : Fin 128) : headOf (col e t d) = head e t := Fin.ext (by
  show (1024 * e.val + (t.val * 128 + d.val)) / 128 = e.val * 8 + t.val; omega)
theorem entryOf_col (e : Fin 4) (t : Fin 8) (d : Fin 128) : entryOf (col e t d) = d := Fin.ext (by
  show (1024 * e.val + (t.val * 128 + d.val)) % 128 = d.val; omega)
theorem head_surj (g : Fin 32) : ∃ e t, head e t = g :=
  ⟨⟨g.val / 8, by omega⟩, ⟨g.val % 8, by omega⟩, Fin.ext (by show g.val / 8 * 8 + g.val % 8 = g.val; omega)⟩

/-- The columns, counted by device, head and entry. -/
def colEquiv : Fin 4 × Fin 8 × Fin 128 ≃ Fin 4096 where
  toFun p := col p.1 p.2.1 p.2.2
  invFun x := (⟨x.val / 1024, by omega⟩, ⟨x.val / 128 % 8, by omega⟩, ⟨x.val % 128, by omega⟩)
  left_inv p := Prod.ext (Fin.ext (by show (1024 * p.1.val + (p.2.1.val * 128 + p.2.2.val)) / 1024 = p.1.val; omega))
    (Prod.ext (Fin.ext (by show (1024 * p.1.val + (p.2.1.val * 128 + p.2.2.val)) / 128 % 8 = p.2.1.val; omega))
      (Fin.ext (by show (1024 * p.1.val + (p.2.1.val * 128 + p.2.2.val)) % 128 = p.2.2.val; omega)))
  right_inv x := Fin.ext (by show 1024 * (x.val / 1024) + (x.val / 128 % 8 * 128 + x.val % 128) = x.val; omega)

theorem sum_columns (f : Fin 4096 → EReal) : ∑ x, f x = ∑ e : Fin 4, ∑ t : Fin 8, ∑ d : Fin 128, f (col e t d) := by
  rw [← Equiv.sum_comp colEquiv f, Fintype.sum_prod_type]
  exact Finset.sum_congr rfl fun e _ => Fintype.sum_prod_type _

variable (m : (ℓ : Loc nD τ sig) → Buf (Elt Ideal) ℓ)
  (X : S1x2048x1024.Idx → EReal) (Q : S1024x4096.Idx → EReal)
  (K V : Cert.ReferenceIdeal.S1x2048x32x128.Idx → EReal) (O : S4096x1024.Idx → EReal)

/-- The devices hold these arrays: all of the input, of the projection and of the output weights, and their own
    eight heads of the keys and of the values. -/
structure Dealt : Prop where
  x : ∀ c, argX m c = X
  q : ∀ c, argQ m c = Q
  k : ∀ (c : Fin 4) (i : Fin 2048) (t : Fin 8) (d : Fin 128), argK m c (ix4 0 i t d) = K (ix4 0 i (head c t) d)
  v : ∀ (c : Fin 4) (i : Fin 2048) (t : Fin 8) (d : Fin 128), argV m c (ix4 0 i t d) = V (ix4 0 i (head c t) d)
  o : ∀ c, argO m c = O

/-- What enters the scores is real. -/
structure AllReal : Prop where
  x : ∀ i, ∃ r : ℝ, X i = r
  q : ∀ i, ∃ r : ℝ, Q i = r
  k : ∀ j g d, ∃ r : ℝ, K (ix4 0 j g d) = r

variable {m X Q K V O}

theorem query_real (hr : AllReal X Q K) (i : Fin 2048) (x : Fin 4096) :
    ∃ r : ℝ, ∑ e : Fin 1024, X (ix3 0 i e) * Q (ix2 e x) = r := dot_real _ _ (fun _ => hr.x _) (fun _ => hr.q _)

theorem score_real (hr : AllReal X Q K) (g : Fin 32) (i j : Fin 2048) : ∃ r : ℝ, refScore X Q K g i j = r := by
  obtain ⟨r, h⟩ := dot_real (fun d : Fin 128 => ∑ e : Fin 1024, X (ix3 0 i e) * Q (ix2 e (colOf g d))) (fun d => K (ix4 0 j g d))
    (fun d => query_real hr i _) (fun d => hr.k j g d)
  exact ⟨r * scaleR, (congrArg (· * (scaleR : EReal)) h).trans (EReal.coe_mul r scaleR).symm⟩

theorem devScore_eq (hd : Dealt m X Q K V O) (hr : AllReal X Q K) (c : Fin 4) (t : Fin 8) (i : Fin 2048) :
    devScore (ins m c) t i = refScore X Q K (head c t) i := by
  funext k
  unfold devScore refScore refDot
  have hq : ∀ d, (ins m c).q (ix3 t i d) = ∑ e : Fin 1024, X (ix3 0 i e) * Q (ix2 e (colOf (head c t) d)) := fun d => by
    rw [ins_q, hd.x, hd.q, colOf_head]
  have hk : ∀ d, (ins m c).k (ix3 t k d) = K (ix4 0 k (head c t) d) := fun d => by rw [ins_k]; exact hd.k c k t d
  simp only [hq, hk]
  exact score_scale _ _ scaleR (fun d => query_real hr i _) (fun d => hr.k k _ d)

theorem devMean_eq (hd : Dealt m X Q K V O) (hr : AllReal X Q K) (c : Fin 4) (t : Fin 8) (i : Fin 2048) (d : Fin 128) :
    devMean (ins m c) t i d = mean i (refScore X Q K (head c t) i) fun j => V (ix4 0 j (head c t) d) := by
  unfold devMean
  rw [devScore_eq hd hr]
  exact congrArg (mean i _) (funext fun k => (ins_v m c t k d).trans (hd.v c k t d))

theorem whole_eq (hd : Dealt m X Q K V O) (hr : AllReal X Q K) (i : Fin 2048) (n : Fin 1024) :
    whole (ins m) (ix2 i n) = resultV X Q K V O (ix3 0 i n) := by
  rw [whole_at, resultV_at X Q K V O i n fun g j => score_real hr g i j, sum_columns]
  refine Finset.sum_congr rfl fun e _ => Finset.sum_congr rfl fun t _ => Finset.sum_congr rfl fun d _ => ?_
  rw [headOf_col, entryOf_col, devMean_eq hd hr]
  exact congrArg (_ * ·) ((ins_wo m e t d n).trans (congrFun (hd.o e) _))

/-- Two arrays of the result's shape that agree at every row and column are the same. -/
theorem ext_rows (a b : S1x2048x1024.Idx → EReal) (h : ∀ i n, a (ix3 0 i n) = b (ix3 0 i n)) : a = b := by
  funext x
  obtain ⟨o, i, n, rfl⟩ : ∃ (o : Fin 1) (i : Fin 2048) (n : Fin 1024), x = ix3 o i n := ⟨x 0, x 1, x 2, eq_ix3 x⟩
  rw [Subsingleton.elim o 0]
  exact h i n

/-- Every device returns the reference's array. -/
theorem returns (hd : Dealt m X Q K V O) (hr : AllReal X Q K) (c : Fin 4) :
    (V3 m (outs m) c (Proc.devRef .tc main_v31) : S1x2048x1024.Idx → EReal) = resultV X Q K V O := by
  exact ext_rows _ _ fun i n => (final m c i n).trans (whole_eq hd hr i n)

/-! ## From the claim's hypotheses -/

/-- A device's block of an array cut along its heads. -/
theorem block_at (A : Cert.ReferenceIdeal.S1x2048x32x128.Idx → EReal) (h : Layout.Tiles S1x2048x8x128 Cert.ReferenceIdeal.S1x2048x32x128 2 4)
    (c : Fin 4) (i : Fin 2048) (t : Fin 8) (d : Fin 128) :
    Layout.block S1x2048x8x128 Cert.ReferenceIdeal.S1x2048x32x128 2 4 c A h (ix4 0 i t d) = A (ix4 0 i (head c t) d) := by
  shard_ext

/-- The keys are real, as each device's are. -/
theorem allReal [Cert.Pre_finite_scores_KernelIdeal.Facts] (hd : Dealt m X Q K V O) (hp : Pre_KernelIdeal_finite_scores_KernelIdeal m) :
    AllReal X Q K where
  x i := by rw [← hd.x 0]; exact (pre_real m hp 0).1 i
  q i := by rw [← hd.q 0]; exact (pre_real m hp 0).2.1 i
  k j g d := by
    obtain ⟨e, t, rfl⟩ := head_surj g
    rw [← hd.k]; exact (pre_real m hp e).2.2 _

end Cert.Value
-- ==== Proof.lean ====
/-
The certificate of the attention kernel on four devices: every run of the kernel as written and of its idealized
form ends with the arguments unchanged and every semaphore at zero, as does the reference's; the idealized form
differs from the kernel as written by the two named constants; and where the input, the projection and the keys are
real, it returns on every device what the reference returns.
-/
module

public import proofs.«01_k».proof.Defs
public import proofs.«01_k».proof.Proof.KernelRun.Run
public import proofs.«01_k».proof.Proof.KernelIdealRun.Run
public import proofs.«01_k».proof.Proof.Gen.ReferenceIdeal.Run
public import proofs.«01_k».proof.Proof.Value.Equal
public import Idealize.ShloMosaic.Lib.Quiescent

@[expose] public section

noncomputable section

namespace Cert.Proof

open Idealize.ShloMosaic Idealize.SL.Sem

theorem frame_kernel : Cert.quiescent_Kernel := fun m g _ =>
  (θ_run _ _ _).mono (fun _ h => ⟨fun c => ⟨(h.1 c).1, (h.1 c).2.1, (h.1 c).2.2.1, (h.1 c).2.2.2.1, (h.1 c).2.2.2.2.1⟩, h.2⟩)
    (Cert.KernelRun.run_main m g)

theorem frame_ideal : Cert.quiescent_KernelIdeal := fun m g _ =>
  (θ_run _ _ _).mono (fun _ h => ⟨fun c => ⟨(h.1 c).1, (h.1 c).2.1, (h.1 c).2.2.1, (h.1 c).2.2.2.1, (h.1 c).2.2.2.2.1⟩, h.2⟩)
    (Cert.KernelIdealRun.run_main m g)

theorem frame_reference : Cert.quiescent_ReferenceIdeal := fun m g _ =>
  (θ_run _ _ _).mono (fun r h => ⟨fun c => (h c).2, sem_eq_zero_of_no_sems (by decide) r.2⟩)
    (Cert.ReferenceIdeal.Value.run m g)

theorem named : Cert.preserves_Kernel_KernelIdeal :=
  ⟨IdealRules.named_const.statement Cert.KernelIdeal.κ "s" .bf16 0x3DB5#16 _ rfl,
    IdealRules.named_const.statement Cert.KernelIdeal.κ "mask" .bf16 0xCE6E#16 ⊥ rfl⟩

attribute [local instance] Cert.Value.pre_facts Cert.Value.pre_facts_whole

theorem frame_ideal_real : Cert.quiescent_KernelIdeal_pre_finite_scores_KernelIdeal := fun m g _ => frame_ideal m g trivial

theorem frame_reference_real : Cert.quiescent_ReferenceIdeal_pre_finite_scores_ReferenceIdeal := fun m g _ => frame_reference m g trivial

theorem algebraic : Cert.algebraic_KernelIdeal_ReferenceIdeal_pre_finite_scores_KernelIdeal := by
  intro m g m' g' hp hm
  have hd : Cert.Value.Dealt m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c => (hm c).1
      q := fun c => (hm c).2.1
      k := fun c i t d => (congrFun (hm c).2.2.1 _).trans (Cert.Value.block_at _ _ c i t d)
      v := fun c i t d => (congrFun (hm c).2.2.2.1 _).trans (Cert.Value.block_at _ _ c i t d)
      o := fun c => (hm c).2.2.2.2 }
  refine ⟨Cert.ReferenceIdeal.Value.res_main_v42 m' 0,
    (θ_run _ _ _).mono (fun r h c => ⟨?_, (h.1 c).1, (h.1 c).2.1, (h.1 c).2.2.1, (h.1 c).2.2.2.1, (h.1 c).2.2.2.2.1⟩)
      (Cert.KernelIdealRun.run_main m g),
    (θ_run _ _ _).mono (fun r h => h 0) (Cert.ReferenceIdeal.Value.run m' g')⟩
  exact (h.1 c).2.2.2.2.2.trans ((Cert.Value.returns hd (Cert.Value.allReal hd hp) c).trans (Cert.Value.res_eq m' 0).symm)

theorem claim : Cert.Claim :=
  ⟨Cert.Kernel.Gen.facts, Cert.KernelIdeal.Gen.facts, Cert.ReferenceIdeal.Gen.facts, Cert.Value.pre_facts, Cert.Value.pre_facts_whole,
    frame_kernel, frame_ideal, frame_ideal_real, frame_reference, frame_reference_real, named, algebraic⟩

end Cert.Proof

end
